-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_scales [hPre_proper_scales : Cert.Pre_proper_scales.Facts] (m : (ℓ : Loc Cert.KernelIdeal.nD Cert.KernelIdeal.τ Cert.KernelIdeal.sig) → Buf (Elt Ideal) ℓ) : Prop :=
  ∀ c : Dev Cert.KernelIdeal.nD,
    (Cert.Pre_proper_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_proper_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_scales [hPre_proper_scales : Cert.Pre_proper_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_proper_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_proper_scales [hKernelIdeal : Cert.KernelIdeal.Facts] [hPre_proper_scales : Cert.Pre_proper_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_proper_scales [hReferenceIdeal : Cert.ReferenceIdeal.Facts] [hPre_proper_scales : Cert.Pre_proper_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5)
      ∧ r.2.mem ((c.tc : Thread Cert.KernelC.nD Cert.KernelC.τ).loc Cert.KernelC.main_arg6) = m ((c.tc : Thread Cert.KernelC.nD Cert.KernelC.τ).loc Cert.KernelC.main_arg6))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4)
      ∧ r.2.mem ((c.tc : Thread Cert.KernelA.nD Cert.KernelA.τ).loc Cert.KernelA.main_arg5) = m ((c.tc : Thread Cert.KernelA.nD Cert.KernelA.τ).loc Cert.KernelA.main_arg5)
      ∧ r.2.mem ((c.tc : Thread Cert.KernelA.nD Cert.KernelA.τ).loc Cert.KernelA.main_arg6) = m ((c.tc : Thread Cert.KernelA.nD Cert.KernelA.τ).loc Cert.KernelA.main_arg6)
      ∧ r.2.mem ((c.tc : Thread Cert.KernelA.nD Cert.KernelA.τ).loc Cert.KernelA.main_arg7) = m ((c.tc : Thread Cert.KernelA.nD Cert.KernelA.τ).loc Cert.KernelA.main_arg7))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
      ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
      ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4)
      ∧ r.2.mem ((c.tc : Thread Cert.ReferenceAIdeal.nD Cert.ReferenceAIdeal.τ).loc Cert.ReferenceAIdeal.main_arg5) = m ((c.tc : Thread Cert.ReferenceAIdeal.nD Cert.ReferenceAIdeal.τ).loc Cert.ReferenceAIdeal.main_arg5)
      ∧ r.2.mem ((c.tc : Thread Cert.ReferenceAIdeal.nD Cert.ReferenceAIdeal.τ).loc Cert.ReferenceAIdeal.main_arg6) = m ((c.tc : Thread Cert.ReferenceAIdeal.nD Cert.ReferenceAIdeal.τ).loc Cert.ReferenceAIdeal.main_arg6)
      ∧ r.2.mem ((c.tc : Thread Cert.ReferenceAIdeal.nD Cert.ReferenceAIdeal.τ).loc Cert.ReferenceAIdeal.main_arg7) = m ((c.tc : Thread Cert.ReferenceAIdeal.nD Cert.ReferenceAIdeal.τ).loc Cert.ReferenceAIdeal.main_arg7))
      ∧ r.2.sem = fun _ => 0)

def preserves_Kernel_KernelIdeal : Prop :=
  True

def algebraic_KernelIdeal_ReferenceIdeal_on_proper_rows [hKernelIdeal : Cert.KernelIdeal.Facts] [hReferenceIdeal : Cert.ReferenceIdeal.Facts] [hOn_proper_rows : Cert.On_proper_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2048, 2, 5632]⟩ : Shape).Idx, (Cert.On_proper_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v11_0) i = v0 c i)
          ∧ (∀ i : (⟨2, ![2048, 6144]⟩ : Shape).Idx, (Cert.On_proper_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v11_1) i = v1 c i)
          ∧ (∀ i : (⟨2, ![1024, 2048]⟩ : Shape).Idx, (Cert.On_proper_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 i = 1#1 → r.2.mem ((c.tc : Thread Cert.KernelIdeal.nD Cert.KernelIdeal.τ).loc Cert.KernelIdeal.main_v11_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2048, 2, 5632]⟩ : Shape).Idx, (Cert.On_proper_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v9_0) i = v0 c i)
          ∧ (∀ i : (⟨2, ![2048, 6144]⟩ : Shape).Idx, (Cert.On_proper_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v9_1) i = v1 c i)
          ∧ (∀ i : (⟨2, ![1024, 2048]⟩ : Shape).Idx, (Cert.On_proper_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 i = 1#1 → r.2.mem ((c.tc : Thread Cert.ReferenceIdeal.nD Cert.ReferenceIdeal.τ).loc Cert.ReferenceIdeal.main_v9_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def algebraic_KernelIdeal_ReferenceIdeal_pre_proper_scales [hKernelIdeal : Cert.KernelIdeal.Facts] [hReferenceIdeal : Cert.ReferenceIdeal.Facts] [hPre_proper_scales : Cert.Pre_proper_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
      ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
      ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
      ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)) →
    ∃ (v0 : (c : Dev Cert.KernelCIdeal.nD) → Buf (Elt Ideal) ((c.tc : Thread Cert.KernelCIdeal.nD Cert.KernelCIdeal.τ).loc Cert.KernelCIdeal.main_v6_0)) (v1 : (c : Dev Cert.KernelCIdeal.nD) → Buf (Elt Ideal) ((c.tc : Thread Cert.KernelCIdeal.nD Cert.KernelCIdeal.τ).loc Cert.KernelCIdeal.main_v6_1)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v6_0) = v0 c
          ∧ r.2.mem ((c.tc : Thread Cert.KernelCIdeal.nD Cert.KernelCIdeal.τ).loc Cert.KernelCIdeal.main_v6_1) = v1 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
          ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
          ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
          ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v6_0) = v0 c
          ∧ r.2.mem ((c.tc : Thread Cert.ReferenceCIdeal.nD Cert.ReferenceCIdeal.τ).loc Cert.ReferenceCIdeal.main_v6_1) = v1 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3)
          ∧ r.2.mem ((c.tc : Thread Cert.ReferenceCIdeal.nD Cert.ReferenceCIdeal.τ).loc Cert.ReferenceCIdeal.main_arg4) = m' ((c.tc : Thread Cert.ReferenceCIdeal.nD Cert.ReferenceCIdeal.τ).loc Cert.ReferenceCIdeal.main_arg4)
          ∧ r.2.mem ((c.tc : Thread Cert.ReferenceCIdeal.nD Cert.ReferenceCIdeal.τ).loc Cert.ReferenceCIdeal.main_arg5) = m' ((c.tc : Thread Cert.ReferenceCIdeal.nD Cert.ReferenceCIdeal.τ).loc Cert.ReferenceCIdeal.main_arg5)
          ∧ r.2.mem ((c.tc : Thread Cert.ReferenceCIdeal.nD Cert.ReferenceCIdeal.τ).loc Cert.ReferenceCIdeal.main_arg6) = m' ((c.tc : Thread Cert.ReferenceCIdeal.nD Cert.ReferenceCIdeal.τ).loc Cert.ReferenceCIdeal.main_arg6))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)
      ∧ m' ((c.tc : Thread Cert.ReferenceAIdeal.nD Cert.ReferenceAIdeal.τ).loc Cert.ReferenceAIdeal.main_arg5) = m ((c.tc : Thread Cert.KernelAIdeal.nD Cert.KernelAIdeal.τ).loc Cert.KernelAIdeal.main_arg5)
      ∧ m' ((c.tc : Thread Cert.ReferenceAIdeal.nD Cert.ReferenceAIdeal.τ).loc Cert.ReferenceAIdeal.main_arg6) = m ((c.tc : Thread Cert.KernelAIdeal.nD Cert.KernelAIdeal.τ).loc Cert.KernelAIdeal.main_arg6)
      ∧ m' ((c.tc : Thread Cert.ReferenceAIdeal.nD Cert.ReferenceAIdeal.τ).loc Cert.ReferenceAIdeal.main_arg7) = m ((c.tc : Thread Cert.KernelAIdeal.nD Cert.KernelAIdeal.τ).loc Cert.KernelAIdeal.main_arg7)) →
    ∃ (v0 : (c : Dev Cert.KernelAIdeal.nD) → Buf (Elt Ideal) ((c.tc : Thread Cert.KernelAIdeal.nD Cert.KernelAIdeal.τ).loc Cert.KernelAIdeal.main_v8_2)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v8_2) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
          ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
          ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
          ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v4) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4)
          ∧ r.2.mem ((c.tc : Thread Cert.ReferenceAIdeal.nD Cert.ReferenceAIdeal.τ).loc Cert.ReferenceAIdeal.main_arg5) = m' ((c.tc : Thread Cert.ReferenceAIdeal.nD Cert.ReferenceAIdeal.τ).loc Cert.ReferenceAIdeal.main_arg5)
          ∧ r.2.mem ((c.tc : Thread Cert.ReferenceAIdeal.nD Cert.ReferenceAIdeal.τ).loc Cert.ReferenceAIdeal.main_arg6) = m' ((c.tc : Thread Cert.ReferenceAIdeal.nD Cert.ReferenceAIdeal.τ).loc Cert.ReferenceAIdeal.main_arg6)
          ∧ r.2.mem ((c.tc : Thread Cert.ReferenceAIdeal.nD Cert.ReferenceAIdeal.τ).loc Cert.ReferenceAIdeal.main_arg7) = m' ((c.tc : Thread Cert.ReferenceAIdeal.nD Cert.ReferenceAIdeal.τ).loc Cert.ReferenceAIdeal.main_arg7))

def Claim : Prop :=
  ∃ (hKernel : Cert.Kernel.Facts) (hKernelIdeal : Cert.KernelIdeal.Facts) (hReferenceIdeal : Cert.ReferenceIdeal.Facts) (hKernelC : Cert.KernelC.Facts) (hKernelCIdeal : Cert.KernelCIdeal.Facts) (hReferenceCIdeal : Cert.ReferenceCIdeal.Facts) (hKernelA : Cert.KernelA.Facts) (hKernelAIdeal : Cert.KernelAIdeal.Facts) (hReferenceAIdeal : Cert.ReferenceAIdeal.Facts) (hPre_proper_scales : Cert.Pre_proper_scales.Facts) (hOn_proper_rows : Cert.On_proper_rows.Facts),
    quiescent_Kernel (hKernel := hKernel)
    ∧ quiescent_KernelIdeal (hKernelIdeal := hKernelIdeal)
    ∧ quiescent_KernelIdeal_pre_proper_scales (hKernelIdeal := hKernelIdeal) (hPre_proper_scales := hPre_proper_scales)
    ∧ quiescent_ReferenceIdeal (hReferenceIdeal := hReferenceIdeal)
    ∧ quiescent_ReferenceIdeal_pre_proper_scales (hReferenceIdeal := hReferenceIdeal) (hPre_proper_scales := hPre_proper_scales)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelA (hKernelA := hKernelA)
    ∧ quiescent_KernelAIdeal (hKernelAIdeal := hKernelAIdeal)
    ∧ quiescent_ReferenceAIdeal (hReferenceAIdeal := hReferenceAIdeal)
    ∧ preserves_Kernel_KernelIdeal
    ∧ algebraic_KernelIdeal_ReferenceIdeal_on_proper_rows (hKernelIdeal := hKernelIdeal) (hReferenceIdeal := hReferenceIdeal) (hOn_proper_rows := hOn_proper_rows)
    ∧ algebraic_KernelIdeal_ReferenceIdeal_pre_proper_scales (hKernelIdeal := hKernelIdeal) (hReferenceIdeal := hReferenceIdeal) (hPre_proper_scales := hPre_proper_scales)
    ∧ preserves_KernelC_KernelCIdeal
    ∧ algebraic_KernelCIdeal_ReferenceCIdeal (hKernelCIdeal := hKernelCIdeal) (hReferenceCIdeal := hReferenceCIdeal)
    ∧ preserves_KernelA_KernelAIdeal
    ∧ algebraic_KernelAIdeal_ReferenceAIdeal (hKernelAIdeal := hKernelAIdeal) (hReferenceAIdeal := hReferenceAIdeal)
-- ==== On_proper_rows.lean ====
abbrev S1x1024x2048 : Shape := ⟨3, ![1, 1024, 2048]⟩
abbrev S1x1024 : Shape := ⟨2, ![1, 1024]⟩
abbrev S1x1024x2x5632 : Shape := ⟨4, ![1, 1024, 2, 5632]⟩
abbrev S1x1024x3x16x128 : Shape := ⟨5, ![1, 1024, 3, 16, 128]⟩
abbrev S2048 : Shape := ⟨1, ![2048]⟩
abbrev S2048x2x5632 : Shape := ⟨3, ![2048, 2, 5632]⟩
abbrev S2x5632 : Shape := ⟨2, ![2, 5632]⟩
abbrev S2048x3x16x128 : Shape := ⟨4, ![2048, 3, 16, 128]⟩
abbrev S3x16x128 : Shape := ⟨3, ![3, 16, 128]⟩
abbrev S_ : Shape := ⟨0, ![]⟩
abbrev S1024x1 : Shape := ⟨2, ![1024, 1]⟩
abbrev S2048x6144 : Shape := ⟨2, ![2048, 6144]⟩
abbrev S1024x2048 : Shape := ⟨2, ![1024, 2048]⟩

class Facts : Prop where
  bcast_S_S1x1024 : S_.BroadcastsInDim S1x1024 (![] : Fin 0 → Fin S1x1024.rank)
  shapeCasts_S1x1024_S1024x1 : S1x1024.ShapeCasts S1024x1
  bcast_S_S2048x2x5632 : S_.BroadcastsInDim S2048x2x5632 (![] : Fin 0 → Fin S2048x2x5632.rank)
  bcast_S_S2048x6144 : S_.BroadcastsInDim S2048x6144 (![] : Fin 0 → Fin S2048x6144.rank)
  bcast_S1024x1_S1024x2048_0_1 : S1024x1.BroadcastsInDim S1024x2048 (![0, 1] : Fin 2 → Fin S1024x2048.rank)

variable [Facts]

def fn {F : FTy → Type} [FloatOps F] (main_arg0 : FVec F S1x1024x2048 .fp8e4m3) (main_arg1 : FVec F S1x1024 .f32) (main_arg2 : FVec F S1x1024x2x5632 .fp8e5m2) (main_arg3 : FVec F S1x1024 .f32) (main_arg4 : FVec F S1x1024x3x16x128 .fp8e5m2) (main_arg5 : FVec F S1x1024 .f32) (main_arg6 : FVec F S2048 .f32) (main_arg7 : FVec F S2048x2x5632 .fp8e4m3) (main_arg8 : FVec F S2x5632 .f32) (main_arg9 : FVec F S2048x3x16x128 .fp8e4m3) (main_arg10 : FVec F S3x16x128 .f32) : IVec S2048x2x5632 1 × IVec S2048x6144 1 × IVec S1024x2048 1 :=
  let main_cst : FVec F S_ .f32 := constant S_ .f32 0x00000000#32
  let main_v0 : FVec F S1x1024 .f32 := broadcastInDim S1x1024 ![] bcast_S_S1x1024 main_cst
  let main_v1 : IVec S1x1024 1 := cmpf .oge main_arg3 main_v0
  let main_cst_0 : FVec F S_ .f32 := constant S_ .f32 0x7F800000#32
  let main_v2 : FVec F S1x1024 .f32 := broadcastInDim S1x1024 ![] bcast_S_S1x1024 main_cst_0
  let main_v3 : IVec S1x1024 1 := cmpf .olt main_arg3 main_v2
  let main_v4 : IVec S1x1024 1 := andi main_v1 main_v3
  let main_cst_1 : FVec F S_ .f32 := constant S_ .f32 0x00000000#32
  let main_v5 : FVec F S1x1024 .f32 := broadcastInDim S1x1024 ![] bcast_S_S1x1024 main_cst_1
  let main_v6 : IVec S1x1024 1 := cmpf .oge main_arg5 main_v5
  let main_cst_2 : FVec F S_ .f32 := constant S_ .f32 0x7F800000#32
  let main_v7 : FVec F S1x1024 .f32 := broadcastInDim S1x1024 ![] bcast_S_S1x1024 main_cst_2
  let main_v8 : IVec S1x1024 1 := cmpf .olt main_arg5 main_v7
  let main_v9 : IVec S1x1024 1 := andi main_v6 main_v8
  let main_v10 : IVec S1x1024 1 := andi main_v4 main_v9
  let main_v11 : IVec S1024x1 1 := shapeCast S1024x1 main_v10 shapeCasts_S1x1024_S1024x1
  let main_c : IVec S_ 1 := constantI S_ 1 1#1
  let main_v12 : IVec S2048x2x5632 1 := broadcastInDim S2048x2x5632 ![] bcast_S_S2048x2x5632 main_c
  let main_c_3 : IVec S_ 1 := constantI S_ 1 1#1
  let main_v13 : IVec S2048x6144 1 := broadcastInDim S2048x6144 ![] bcast_S_S2048x6144 main_c_3
  let main_v14 : IVec S1024x2048 1 := broadcastInDim S1024x2048 ![0, 1] bcast_S1024x1_S1024x2048_0_1 main_v11
  (main_v12, main_v13, main_v14)
-- ==== Pre_proper_scales.lean ====
abbrev S1x1024x2048 : Shape := ⟨3, ![1, 1024, 2048]⟩
abbrev S1x1024 : Shape := ⟨2, ![1, 1024]⟩
abbrev S1x1024x2x5632 : Shape := ⟨4, ![1, 1024, 2, 5632]⟩
abbrev S1x1024x3x16x128 : Shape := ⟨5, ![1, 1024, 3, 16, 128]⟩
abbrev S2048 : Shape := ⟨1, ![2048]⟩
abbrev S2048x2x5632 : Shape := ⟨3, ![2048, 2, 5632]⟩
abbrev S2x5632 : Shape := ⟨2, ![2, 5632]⟩
abbrev S2048x3x16x128 : Shape := ⟨4, ![2048, 3, 16, 128]⟩
abbrev S3x16x128 : Shape := ⟨3, ![3, 16, 128]⟩
abbrev S_ : Shape := ⟨0, ![]⟩

class Facts : Prop where
  bcast_S_S1x1024 : S_.BroadcastsInDim S1x1024 (![] : Fin 0 → Fin S1x1024.rank)

variable [Facts]

def fn {F : FTy → Type} [FloatOps F] (main_arg0 : FVec F S1x1024x2048 .fp8e4m3) (main_arg1 : FVec F S1x1024 .f32) (main_arg2 : FVec F S1x1024x2x5632 .fp8e5m2) (main_arg3 : FVec F S1x1024 .f32) (main_arg4 : FVec F S1x1024x3x16x128 .fp8e5m2) (main_arg5 : FVec F S1x1024 .f32) (main_arg6 : FVec F S2048 .f32) (main_arg7 : FVec F S2048x2x5632 .fp8e4m3) (main_arg8 : FVec F S2x5632 .f32) (main_arg9 : FVec F S2048x3x16x128 .fp8e4m3) (main_arg10 : FVec F S3x16x128 .f32) : IVec S1x1024 1 × IVec S1x1024 1 :=
  let main_cst : FVec F S_ .f32 := constant S_ .f32 0x00000000#32
  let main_v0 : FVec F S1x1024 .f32 := broadcastInDim S1x1024 ![] bcast_S_S1x1024 main_cst
  let main_v1 : IVec S1x1024 1 := cmpf .oge main_arg3 main_v0
  let main_cst_0 : FVec F S_ .f32 := constant S_ .f32 0x7F800000#32
  let main_v2 : FVec F S1x1024 .f32 := broadcastInDim S1x1024 ![] bcast_S_S1x1024 main_cst_0
  let main_v3 : IVec S1x1024 1 := cmpf .olt main_arg3 main_v2
  let main_v4 : IVec S1x1024 1 := andi main_v1 main_v3
  let main_cst_1 : FVec F S_ .f32 := constant S_ .f32 0x00000000#32
  let main_v5 : FVec F S1x1024 .f32 := broadcastInDim S1x1024 ![] bcast_S_S1x1024 main_cst_1
  let main_v6 : IVec S1x1024 1 := cmpf .oge main_arg5 main_v5
  let main_cst_2 : FVec F S_ .f32 := constant S_ .f32 0x7F800000#32
  let main_v7 : FVec F S1x1024 .f32 := broadcastInDim S1x1024 ![] bcast_S_S1x1024 main_cst_2
  let main_v8 : IVec S1x1024 1 := cmpf .olt main_arg5 main_v7
  let main_v9 : IVec S1x1024 1 := andi main_v6 main_v8
  (main_v4, main_v9)
-- ==== Kernel.lean ====
abbrev S1x1024x2048 : Shape := ⟨3, ![1, 1024, 2048]⟩
abbrev S1x1024 : Shape := ⟨2, ![1, 1024]⟩
abbrev S1x1024x2x5632 : Shape := ⟨4, ![1, 1024, 2, 5632]⟩
abbrev S1x1024x3x16x128 : Shape := ⟨5, ![1, 1024, 3, 16, 128]⟩
abbrev S2048 : Shape := ⟨1, ![2048]⟩
abbrev S2048x2x5632 : Shape := ⟨3, ![2048, 2, 5632]⟩
abbrev S2x5632 : Shape := ⟨2, ![2, 5632]⟩
abbrev S2048x3x16x128 : Shape := ⟨4, ![2048, 3, 16, 128]⟩
abbrev S3x16x128 : Shape := ⟨3, ![3, 16, 128]⟩
abbrev S1024x2048 : Shape := ⟨2, ![1024, 2048]⟩
abbrev S2x2048x5632 : Shape := ⟨3, ![2, 2048, 5632]⟩
abbrev S1024x2x5632 : Shape := ⟨3, ![1024, 2, 5632]⟩
abbrev S2x1024x5632 : Shape := ⟨3, ![2, 1024, 5632]⟩
abbrev S1024x1 : Shape := ⟨2, ![1024, 1]⟩
abbrev S1024x6144 : Shape := ⟨2, ![1024, 6144]⟩
abbrev S2048x1 : Shape := ⟨2, ![2048, 1]⟩
abbrev S2048x6144 : Shape := ⟨2, ![2048, 6144]⟩
abbrev S1x6144 : Shape := ⟨2, ![1, 6144]⟩
abbrev S2x256 : Shape := ⟨2, ![2, 256]⟩
abbrev S1x512 : Shape := ⟨2, ![1, 512]⟩
abbrev S2x1024x256 : Shape := ⟨3, ![2, 1024, 256]⟩
abbrev S2x2048x256 : Shape := ⟨3, ![2, 2048, 256]⟩
abbrev S1024x512 : Shape := ⟨2, ![1024, 512]⟩
abbrev S2048x512 : Shape := ⟨2, ![2048, 512]⟩
abbrev S2048x2x256 : Shape := ⟨3, ![2048, 2, 256]⟩
abbrev S2048x1024 : Shape := ⟨2, ![2048, 1024]⟩
abbrev S256x2048 : Shape := ⟨2, ![256, 2048]⟩
abbrev S256x1 : Shape := ⟨2, ![256, 1]⟩
abbrev S2048x256 : Shape := ⟨2, ![2048, 256]⟩
abbrev S1x1024x256 : Shape := ⟨3, ![1, 1024, 256]⟩
abbrev S1024x256 : Shape := ⟨2, ![1024, 256]⟩
abbrev S2048x1x256 : Shape := ⟨3, ![2048, 1, 256]⟩
abbrev S1x256 : Shape := ⟨2, ![1, 256]⟩
abbrev S1x2048x256 : Shape := ⟨3, ![1, 2048, 256]⟩

abbrev nBuf : Space → Nat
  | .hbm => 25
  | .vmem => 24
  | .smem => 0
  | _ => 0

abbrev bufTy : (tb : Table) → Fin (tcTables nBuf tb) → BufTy
  | .hbm, ⟨0, _⟩ => ⟨S1x1024x2048, .fp8e4m3⟩
  | .hbm, ⟨1, _⟩ => ⟨S1x1024, .f32⟩
  | .hbm, ⟨2, _⟩ => ⟨S1x1024x2x5632, .fp8e5m2⟩
  | .hbm, ⟨3, _⟩ => ⟨S1x1024, .f32⟩
  | .hbm, ⟨4, _⟩ => ⟨S1x1024x3x16x128, .fp8e5m2⟩
  | .hbm, ⟨5, _⟩ => ⟨S1x1024, .f32⟩
  | .hbm, ⟨6, _⟩ => ⟨S2048, .f32⟩
  | .hbm, ⟨7, _⟩ => ⟨S2048x2x5632, .fp8e4m3⟩
  | .hbm, ⟨8, _⟩ => ⟨S2x5632, .f32⟩
  | .hbm, ⟨9, _⟩ => ⟨S2048x3x16x128, .fp8e4m3⟩
  | .hbm, ⟨10, _⟩ => ⟨S3x16x128, .f32⟩
  | .hbm, ⟨11, _⟩ => ⟨S1024x2048, .fp8e4m3⟩
  | .hbm, ⟨12, _⟩ => ⟨S2x2048x5632, .fp8e4m3⟩
  | .hbm, ⟨13, _⟩ => ⟨S1024x2x5632, .fp8e5m2⟩
  | .hbm, ⟨14, _⟩ => ⟨S2x1024x5632, .fp8e5m2⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x6144, .fp8e5m2⟩
  | .hbm, ⟨19, _⟩ => ⟨S2048x1, .f32⟩
  | .hbm, ⟨20, _⟩ => ⟨S2048x6144, .fp8e4m3⟩
  | .hbm, ⟨21, _⟩ => ⟨S1x6144, .f32⟩
  | .hbm, ⟨22, _⟩ => ⟨S2048x2x5632, .bf16⟩
  | .hbm, ⟨23, _⟩ => ⟨S2048x6144, .bf16⟩
  | .hbm, ⟨24, _⟩ => ⟨S1024x2048, .f32⟩
  | .local _ .vmem, ⟨0, _⟩ => ⟨S1024x2048, .fp8e4m3⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S2048x1, .f32⟩
  | .local _ .vmem, ⟨5, _⟩ => ⟨S2x256, .f32⟩
  | .local _ .vmem, ⟨6, _⟩ => ⟨S2x256, .f32⟩
  | .local _ .vmem, ⟨7, _⟩ => ⟨S1x512, .f32⟩
  | .local _ .vmem, ⟨8, _⟩ => ⟨S1x512, .f32⟩
  | .local _ .vmem, ⟨9, _⟩ => ⟨S2x1024x256, .fp8e5m2⟩
  | .local _ .vmem, ⟨10, _⟩ => ⟨S2x1024x256, .fp8e5m2⟩
  | .local _ .vmem, ⟨11, _⟩ => ⟨S2x2048x256, .fp8e4m3⟩
  | .local _ .vmem, ⟨12, _⟩ => ⟨S2x2048x256, .fp8e4m3⟩
  | .local _ .vmem, ⟨13, _⟩ => ⟨S1024x512, .fp8e5m2⟩
  | .local _ .vmem, ⟨14, _⟩ => ⟨S1024x512, .fp8e5m2⟩
  | .local _ .vmem, ⟨15, _⟩ => ⟨S2048x512, .fp8e4m3⟩
  | .local _ .vmem, ⟨16, _⟩ => ⟨S2048x512, .fp8e4m3⟩
  | .local _ .vmem, ⟨17, _⟩ => ⟨S2048x2x256, .bf16⟩
  | .local _ .vmem, ⟨18, _⟩ => ⟨S2048x2x256, .bf16⟩
  | .local _ .vmem, ⟨19, _⟩ => ⟨S2048x512, .bf16⟩
  | .local _ .vmem, ⟨20, _⟩ => ⟨S2048x512, .bf16⟩
  | .local _ .vmem, ⟨21, _⟩ => ⟨S1024x2048, .f32⟩
  | .local _ .vmem, ⟨22, _⟩ => ⟨S2048x1024, .bf16⟩
  | .local _ .vmem, ⟨23, _⟩ => ⟨S1024x2048, .bf16⟩
  | _, _ => ⟨S1x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c22_i32 : BitVec 32 := 22#32
  let v3 : BitVec 1 := Scalar.cmpi .slt arg0 c22_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c22_i32_2 : BitVec 32 := 22#32
  let v6 : BitVec 1 := Scalar.cmpi .sge arg0 c22_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c22_i32 : BitVec 32 := 22#32
  let v0 : BitVec 32 := Scalar.subi arg0 c22_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 3 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 2 → Nat :=
  let arg0 : BitVec 32 := BitVec.ofNat 32 (i 0).val
  let c22_i32 : BitVec 32 := 22#32
  let v0 : BitVec 32 := Scalar.subi arg0 c22_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c22_i32 : BitVec 32 := 22#32
  let v0 : BitVec 32 := Scalar.subi arg0 c22_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 3 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  let c0_i32_1 : BitVec 32 := 0#32
  ![c0_i32.toNat, c0_i32_0.toNat, v0.toNat]

def cc0_transform_12 (i : grid0.Coords) : Fin 2 → Nat :=
  let arg0 : BitVec 32 := BitVec.ofNat 32 (i 0).val
  let c22_i32 : BitVec 32 := 22#32
  let v0 : BitVec 32 := Scalar.subi arg0 c22_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1024x256 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2048x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x2x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S1x1024x2048 : Shape := ⟨3, ![1, 1024, 2048]⟩
abbrev S1x1024 : Shape := ⟨2, ![1, 1024]⟩
abbrev S1x1024x2x5632 : Shape := ⟨4, ![1, 1024, 2, 5632]⟩
abbrev S1x1024x3x16x128 : Shape := ⟨5, ![1, 1024, 3, 16, 128]⟩
abbrev S2048 : Shape := ⟨1, ![2048]⟩
abbrev S2048x2x5632 : Shape := ⟨3, ![2048, 2, 5632]⟩
abbrev S2x5632 : Shape := ⟨2, ![2, 5632]⟩
abbrev S2048x3x16x128 : Shape := ⟨4, ![2048, 3, 16, 128]⟩
abbrev S3x16x128 : Shape := ⟨3, ![3, 16, 128]⟩
abbrev S1024x2048 : Shape := ⟨2, ![1024, 2048]⟩
abbrev S1024x1 : Shape := ⟨2, ![1024, 1]⟩
abbrev S1024x2x5632 : Shape := ⟨3, ![1024, 2, 5632]⟩
abbrev S1024x6144 : Shape := ⟨2, ![1024, 6144]⟩
abbrev S2048x1 : Shape := ⟨2, ![2048, 1]⟩
abbrev S2048x6144 : Shape := ⟨2, ![2048, 6144]⟩
abbrev S1x6144 : Shape := ⟨2, ![1, 6144]⟩
abbrev S1024x1x1 : Shape := ⟨3, ![1024, 1, 1]⟩
abbrev S2048x1x1 : Shape := ⟨3, ![2048, 1, 1]⟩
abbrev S1x2x5632 : Shape := ⟨3, ![1, 2, 5632]⟩

abbrev nBuf : Space → Nat
  | .hbm => 23
  | .vmem => 14
  | .smem => 0
  | _ => 0

abbrev bufTy : (tb : Table) → Fin (tcTables nBuf tb) → BufTy
  | .hbm, ⟨0, _⟩ => ⟨S1x1024x2048, .fp8e4m3⟩
  | .hbm, ⟨1, _⟩ => ⟨S1x1024, .f32⟩
  | .hbm, ⟨2, _⟩ => ⟨S1x1024x2x5632, .fp8e5m2⟩
  | .hbm, ⟨3, _⟩ => ⟨S1x1024, .f32⟩
  | .hbm, ⟨4, _⟩ => ⟨S1x1024x3x16x128, .fp8e5m2⟩
  | .hbm, ⟨5, _⟩ => ⟨S1x1024, .f32⟩
  | .hbm, ⟨6, _⟩ => ⟨S2048, .f32⟩
  | .hbm, ⟨7, _⟩ => ⟨S2048x2x5632, .fp8e4m3⟩
  | .hbm, ⟨8, _⟩ => ⟨S2x5632, .f32⟩
  | .hbm, ⟨9, _⟩ => ⟨S2048x3x16x128, .fp8e4m3⟩
  | .hbm, ⟨10, _⟩ => ⟨S3x16x128, .f32⟩
  | .hbm, ⟨11, _⟩ => ⟨S1024x2048, .fp8e4m3⟩
  | .hbm, ⟨12, _⟩ => ⟨S1024x1, .f32⟩
  | .hbm, ⟨13, _⟩ => ⟨S1024x2x5632, .fp8e5m2⟩
  | .hbm, ⟨14, _⟩ => ⟨S1024x1, .f32⟩
  | .hbm, ⟨15, _⟩ => ⟨S1024x6144, .fp8e5m2⟩
  | .hbm, ⟨16, _⟩ => ⟨S1024x1, .f32⟩
  | .hbm, ⟨17, _⟩ => ⟨S2048x1, .f32⟩
  | .hbm, ⟨18, _⟩ => ⟨S2048x6144, .fp8e4m3⟩
  | .hbm, ⟨19, _⟩ => ⟨S1x6144, .f32⟩
  | .hbm, ⟨20, _⟩ => ⟨S2048x2x5632, .bf16⟩
  | .hbm, ⟨21, _⟩ => ⟨S2048x6144, .bf16⟩
  | .hbm, ⟨22, _⟩ => ⟨S1024x2048, .f32⟩
  | .local _ .vmem, ⟨0, _⟩ => ⟨S1024x2048, .fp8e4m3⟩
  | .local _ .vmem, ⟨1, _⟩ => ⟨S1024x1, .f32⟩
  | .local _ .vmem, ⟨2, _⟩ => ⟨S1024x2x5632, .fp8e5m2⟩
  | .local _ .vmem, ⟨3, _⟩ => ⟨S1024x1, .f32⟩
  | .local _ .vmem, ⟨4, _⟩ => ⟨S1024x6144, .fp8e5m2⟩
  | .local _ .vmem, ⟨5, _⟩ => ⟨S1024x1, .f32⟩
  | .local _ .vmem, ⟨6, _⟩ => ⟨S2048x1, .f32⟩
  | .local _ .vmem, ⟨7, _⟩ => ⟨S2048x2x5632, .fp8e4m3⟩
  | .local _ .vmem, ⟨8, _⟩ => ⟨S2x5632, .f32⟩
  | .local _ .vmem, ⟨9, _⟩ => ⟨S2048x6144, .fp8e4m3⟩
  | .local _ .vmem, ⟨10, _⟩ => ⟨S1x6144, .f32⟩
  | .local _ .vmem, ⟨11, _⟩ => ⟨S2048x2x5632, .bf16⟩
  | .local _ .vmem, ⟨12, _⟩ => ⟨S2048x6144, .bf16⟩
  | .local _ .vmem, ⟨13, _⟩ => ⟨S1024x2048, .f32⟩
  | _, _ => ⟨S1x1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2x5632 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x6144 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x2x5632 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x6144 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x2x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x6144 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== KernelC.lean ====
abbrev S1024x2048 : Shape := ⟨2, ![1024, 2048]⟩
abbrev S1x1024x2048 : Shape := ⟨3, ![1, 1024, 2048]⟩
abbrev S1x1024 : Shape := ⟨2, ![1, 1024]⟩
abbrev S2048 : Shape := ⟨1, ![2048]⟩
abbrev S1024x1 : Shape := ⟨2, ![1024, 1]⟩
abbrev S1x2048 : Shape := ⟨2, ![1, 2048]⟩
abbrev S128x2048 : Shape := ⟨2, ![128, 2048]⟩
abbrev S128x1 : Shape := ⟨2, ![128, 1]⟩
abbrev S128 : Shape := ⟨1, ![128]⟩

abbrev nBuf : Space → Nat
  | .hbm => 15
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1x1024x2048, .fp8e4m3⟩
  | .hbm, ⟨2, _⟩ => ⟨S1x1024, .f32⟩
  | .hbm, ⟨3, _⟩ => ⟨S1x1024, .f32⟩
  | .hbm, ⟨4, _⟩ => ⟨S2048, .f32⟩
  | .hbm, ⟨5, _⟩ => ⟨S1x1024x2048, .fp8e5m2⟩
  | .hbm, ⟨6, _⟩ => ⟨S1x1024, .f32⟩
  | .hbm, ⟨7, _⟩ => ⟨S1024x2048, .fp8e5m2⟩
  | .hbm, ⟨8, _⟩ => ⟨S1024x2048, .fp8e4m3⟩
  | .hbm, ⟨9, _⟩ => ⟨S1024x1, .f32⟩
  | .hbm, ⟨10, _⟩ => ⟨S1024x1, .f32⟩
  | .hbm, ⟨11, _⟩ => ⟨S1024x1, .f32⟩
  | .hbm, ⟨12, _⟩ => ⟨S1x2048, .f32⟩
  | .hbm, ⟨13, _⟩ => ⟨S1024x2048, .bf16⟩
  | .hbm, ⟨14, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .fp8e4m3⟩
  | .local _ .vmem, ⟨3, _⟩ => ⟨S128x2048, .fp8e4m3⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S1x2048, .f32⟩
  | .local _ .vmem, ⟨9, _⟩ => ⟨S128x2048, .fp8e5m2⟩
  | .local _ .vmem, ⟨10, _⟩ => ⟨S128x2048, .fp8e5m2⟩
  | .local _ .vmem, ⟨11, _⟩ => ⟨S128x1, .f32⟩
  | .local _ .vmem, ⟨12, _⟩ => ⟨S128x1, .f32⟩
  | .local _ .vmem, ⟨13, _⟩ => ⟨S128x2048, .bf16⟩
  | .local _ .vmem, ⟨14, _⟩ => ⟨S128x2048, .bf16⟩
  | .local _ .vmem, ⟨15, _⟩ => ⟨S1x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_5 : BitVec 32 := 0#32
  let v13 : BitVec 1 := Scalar.cmpi .ne v12 c0_i32_5
  v13

def k0_cond2 (i : grid0.Coords) : BitVec 1 :=
  let arg0 : BitVec 32 := BitVec.ofNat 32 (i 0).val
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceCIdeal.lean ====
abbrev S1024x2048 : Shape := ⟨2, ![1024, 2048]⟩
abbrev S1x1024x2048 : Shape := ⟨3, ![1, 1024, 2048]⟩
abbrev S1x1024 : Shape := ⟨2, ![1, 1024]⟩
abbrev S2048 : Shape := ⟨1, ![2048]⟩
abbrev S1024x1 : Shape := ⟨2, ![1024, 1]⟩
abbrev S1x2048 : Shape := ⟨2, ![1, 2048]⟩
abbrev S1024 : Shape := ⟨1, ![1024]⟩

abbrev nBuf : Space → Nat
  | .hbm => 15
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S1x1024x2048, .fp8e4m3⟩
  | .hbm, ⟨2, _⟩ => ⟨S1x1024, .f32⟩
  | .hbm, ⟨3, _⟩ => ⟨S1x1024, .f32⟩
  | .hbm, ⟨4, _⟩ => ⟨S2048, .f32⟩
  | .hbm, ⟨5, _⟩ => ⟨S1x1024x2048, .fp8e5m2⟩
  | .hbm, ⟨6, _⟩ => ⟨S1x1024, .f32⟩
  | .hbm, ⟨7, _⟩ => ⟨S1024x2048, .fp8e4m3⟩
  | .hbm, ⟨8, _⟩ => ⟨S1024x1, .f32⟩
  | .hbm, ⟨9, _⟩ => ⟨S1024x1, .f32⟩
  | .hbm, ⟨10, _⟩ => ⟨S1x2048, .f32⟩
  | .hbm, ⟨11, _⟩ => ⟨S1024x2048, .fp8e5m2⟩
  | .hbm, ⟨12, _⟩ => ⟨S1024x1, .f32⟩
  | .hbm, ⟨13, _⟩ => ⟨S1024x2048, .bf16⟩
  | .hbm, ⟨14, _⟩ => ⟨S1x2048, .f32⟩
  | .local _ .vmem, ⟨0, _⟩ => ⟨S1024x2048, .f32⟩
  | .local _ .vmem, ⟨1, _⟩ => ⟨S1024x2048, .fp8e4m3⟩
  | .local _ .vmem, ⟨2, _⟩ => ⟨S1024x1, .f32⟩
  | .local _ .vmem, ⟨3, _⟩ => ⟨S1024x1, .f32⟩
  | .local _ .vmem, ⟨4, _⟩ => ⟨S1x2048, .f32⟩
  | .local _ .vmem, ⟨5, _⟩ => ⟨S1024x2048, .fp8e5m2⟩
  | .local _ .vmem, ⟨6, _⟩ => ⟨S1024x1, .f32⟩
  | .local _ .vmem, ⟨7, _⟩ => ⟨S1024x2048, .bf16⟩
  | .local _ .vmem, ⟨8, _⟩ => ⟨S1x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelA.lean ====
abbrev S1x1024x2048 : Shape := ⟨3, ![1, 1024, 2048]⟩
abbrev S1x1024 : Shape := ⟨2, ![1, 1024]⟩
abbrev S1x1024x2x5632 : Shape := ⟨4, ![1, 1024, 2, 5632]⟩
abbrev S1x1024x5632 : Shape := ⟨3, ![1, 1024, 5632]⟩
abbrev S5632x2048 : Shape := ⟨2, ![5632, 2048]⟩
abbrev S2048 : Shape := ⟨1, ![2048]⟩
abbrev S1024x2x5632 : Shape := ⟨3, ![1024, 2, 5632]⟩
abbrev S2x1024x5632 : Shape := ⟨3, ![2, 1024, 5632]⟩
abbrev S1024x1 : Shape := ⟨2, ![1024, 1]⟩
abbrev S1024x2048 : Shape := ⟨2, ![1024, 2048]⟩
abbrev S1024x5632 : Shape := ⟨2, ![1024, 5632]⟩
abbrev S1x2048 : Shape := ⟨2, ![1, 2048]⟩
abbrev S512x2048 : Shape := ⟨2, ![512, 2048]⟩
abbrev S2x1024x512 : Shape := ⟨3, ![2, 1024, 512]⟩
abbrev S1024x512 : Shape := ⟨2, ![1024, 512]⟩
abbrev S11x1024x512 : Shape := ⟨3, ![11, 1024, 512]⟩
abbrev S1024x128 : Shape := ⟨2, ![1024, 128]⟩
abbrev S256x2048 : Shape := ⟨2, ![256, 2048]⟩
abbrev S256x1 : Shape := ⟨2, ![256, 1]⟩
abbrev S256x512 : Shape := ⟨2, ![256, 512]⟩
abbrev S1x256x512 : Shape := ⟨3, ![1, 256, 512]⟩
abbrev S32x128 : Shape := ⟨2, ![32, 128]⟩
abbrev S32x1 : Shape := ⟨2, ![32, 1]⟩
abbrev S1x32x256 : Shape := ⟨3, ![1, 32, 256]⟩
abbrev S32x256 : Shape := ⟨2, ![32, 256]⟩
abbrev S1024 : Shape := ⟨1, ![1024]⟩
abbrev S1x256 : Shape := ⟨2, ![1, 256]⟩
abbrev S1024x256 : Shape := ⟨2, ![1024, 256]⟩

abbrev nBuf : Space → Nat
  | .hbm => 19
  | .vmem => 21
  | .smem => 0
  | _ => 0

abbrev bufTy : (tb : Table) → Fin (tcTables nBuf tb) → BufTy
  | .hbm, ⟨0, _⟩ => ⟨S1x1024x2048, .fp8e5m2⟩
  | .hbm, ⟨1, _⟩ => ⟨S1x1024, .f32⟩
  | .hbm, ⟨2, _⟩ => ⟨S1x1024x2x5632, .fp8e4m3⟩
  | .hbm, ⟨3, _⟩ => ⟨S1x1024, .f32⟩
  | .hbm, ⟨4, _⟩ => ⟨S1x1024x5632, .fp8e4m3⟩
  | .hbm, ⟨5, _⟩ => ⟨S1x1024, .f32⟩
  | .hbm, ⟨6, _⟩ => ⟨S5632x2048, .fp8e4m3⟩
  | .hbm, ⟨7, _⟩ => ⟨S2048, .f32⟩
  | .hbm, ⟨8, _⟩ => ⟨S1024x2x5632, .fp8e4m3⟩
  | .hbm, ⟨9, _⟩ => ⟨S2x1024x5632, .fp8e4m3⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x2048, .fp8e5m2⟩
  | .hbm, ⟨14, _⟩ => ⟨S1024x5632, .fp8e4m3⟩
  | .hbm, ⟨15, _⟩ => ⟨S1x2048, .f32⟩
  | .hbm, ⟨16, _⟩ => ⟨S2x1024x5632, .fp8e5m2⟩
  | .hbm, ⟨17, _⟩ => ⟨S1024x1, .f32⟩
  | .hbm, ⟨18, _⟩ => ⟨S5632x2048, .bf16⟩
  | .local _ .vmem, ⟨0, _⟩ => ⟨S1024x2048, .fp8e5m2⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1x2048, .f32⟩
  | .local _ .vmem, ⟨5, _⟩ => ⟨S512x2048, .fp8e4m3⟩
  | .local _ .vmem, ⟨6, _⟩ => ⟨S512x2048, .fp8e4m3⟩
  | .local _ .vmem, ⟨7, _⟩ => ⟨S2x1024x512, .fp8e4m3⟩
  | .local _ .vmem, ⟨8, _⟩ => ⟨S2x1024x512, .fp8e4m3⟩
  | .local _ .vmem, ⟨9, _⟩ => ⟨S1024x512, .fp8e4m3⟩
  | .local _ .vmem, ⟨10, _⟩ => ⟨S1024x512, .fp8e4m3⟩
  | .local _ .vmem, ⟨11, _⟩ => ⟨S2x1024x512, .fp8e5m2⟩
  | .local _ .vmem, ⟨12, _⟩ => ⟨S2x1024x512, .fp8e5m2⟩
  | .local _ .vmem, ⟨13, _⟩ => ⟨S1024x1, .f32⟩
  | .local _ .vmem, ⟨14, _⟩ => ⟨S512x2048, .bf16⟩
  | .local _ .vmem, ⟨15, _⟩ => ⟨S512x2048, .bf16⟩
  | .local _ .vmem, ⟨16, _⟩ => ⟨S1024x2048, .bf16⟩
  | .local _ .vmem, ⟨17, _⟩ => ⟨S1024x2048, .bf16⟩
  | .local _ .vmem, ⟨18, _⟩ => ⟨S11x1024x512, .f32⟩
  | .local _ .vmem, ⟨19, _⟩ => ⟨S1024x128, .f32⟩
  | .local _ .vmem, ⟨20, _⟩ => ⟨S1024x128, .f32⟩
  | _, _ => ⟨S1x1024x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![22], ![false]⟩

def k0_cond2 (i : grid0.Coords) : BitVec 1 :=
  let arg0 : BitVec 32 := BitVec.ofNat 32 (i 0).val
  let c11_i32 : BitVec 32 := 11#32
  let v3 : BitVec 1 := Scalar.cmpi .slt arg0 c11_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v19 : Index := Scalar.indexCast arg0
  let c0_11 : Index := 0#32
  let c0_12 : Index := 0#32
  ![v19.toNat, 0, 0]
def k0_off2 (i : grid0.Coords) : Fin 3 → Nat :=
  let arg0 : BitVec 32 := BitVec.ofNat 32 (i 0).val
  let v30 : Index := Scalar.indexCast arg0
  let c256_19 : Index := 256#32
  let c0_20 : Index := 0#32
  ![v30.toNat, 256, 0]
def k0_off3 (i : grid0.Coords) : Fin 3 → Nat :=
  let arg0 : BitVec 32 := BitVec.ofNat 32 (i 0).val
  let v56 : Index := Scalar.indexCast arg0
  let c0_32 : Index := 0#32
  let c0_33 : Index := 0#32
  ![v56.toNat, 0, 0]
def k0_off4 (i : grid0.Coords) : Fin 3 → Nat :=
  let arg0 : BitVec 32 := BitVec.ofNat 32 (i 0).val
  let v89 : Index := Scalar.indexCast arg0
  let c0_44 : Index := 0#32
  let c256_45 : Index := 256#32
  ![v89.toNat, 0, 256]
def k0_off5 (i : grid0.Coords) : Fin 3 → Nat :=
  let arg0 : BitVec 32 := BitVec.ofNat 32 (i 0).val
  let v126 : Index := Scalar.indexCast arg0
  let c32_59 : Index := 32#32
  let c0_60 : Index := 0#32
  ![v126.toNat, 32, 0]
def k0_off6 (i : grid0.Coords) : Fin 3 → Nat :=
  let arg0 : BitVec 32 := BitVec.ofNat 32 (i 0).val
  let v159 : Index := Scalar.indexCast arg0
  let c32_71 : Index := 32#32
  let c256_72 : Index := 256#32
  ![v159.toNat, 32, 256]
def k0_off7 (i : grid0.Coords) : Fin 3 → Nat :=
  let arg0 : BitVec 32 := BitVec.ofNat 32 (i 0).val
  let v196 : Index := Scalar.indexCast arg0
  let c64_86 : Index := 64#32
  let c0_87 : Index := 0#32
  ![v196.toNat, 64, 0]
def k0_off8 (i : grid0.Coords) : Fin 3 → Nat :=
  let arg0 : BitVec 32 := BitVec.ofNat 32 (i 0).val
  let v229 : Index := Scalar.indexCast arg0
  let c64_98 : Index := 64#32
  let c256_99 : Index := 256#32
  ![v229.toNat, 64, 256]
def k0_off9 (i : grid0.Coords) : Fin 3 → Nat :=
  let arg0 : BitVec 32 := BitVec.ofNat 32 (i 0).val
  let v266 : Index := Scalar.indexCast arg0
  let c96_113 : Index := 96#32
  let c0_114 : Index := 0#32
  ![v266.toNat, 96, 0]
def k0_off10 (i : grid0.Coords) : Fin 3 → Nat :=
  let arg0 : BitVec 32 := BitVec.ofNat 32 (i 0).val
  let v299 : Index := Scalar.indexCast arg0
  let c96_125 : Index := 96#32
  let c256_126 : Index := 256#32
  ![v299.toNat, 96, 256]
def k0_off11 (i : grid0.Coords) : Fin 3 → Nat :=
  let arg0 : BitVec 32 := BitVec.ofNat 32 (i 0).val
  let v336 : Index := Scalar.indexCast arg0
  let c128_140 : Index := 128#32
  let c0_141 : Index := 0#32
  ![v336.toNat, 128, 0]
def k0_off12 (i : grid0.Coords) : Fin 3 → Nat :=
  let arg0 : BitVec 32 := BitVec.ofNat 32 (i 0).val
  let v369 : Index := Scalar.indexCast arg0
  let c128_152 : Index := 128#32
  let c256_153 : Index := 256#32
  ![v369.toNat, 128, 256]
def k0_off13 (i : grid0.Coords) : Fin 3 → Nat :=
  let arg0 : BitVec 32 := BitVec.ofNat 32 (i 0).val
  let v406 : Index := Scalar.indexCast arg0
  let c160_167 : Index := 160#32
  let c0_168 : Index := 0#32
  ![v406.toNat, 160, 0]
def k0_off14 (i : grid0.Coords) : Fin 3 → Nat :=
  let arg0 : BitVec 32 := BitVec.ofNat 32 (i 0).val
  let v439 : Index := Scalar.indexCast arg0
  let c160_179 : Index := 160#32
  let c256_180 : Index := 256#32
  ![v439.toNat, 160, 256]
def k0_off15 (i : grid0.Coords) : Fin 3 → Nat :=
  let arg0 : BitVec 32 := BitVec.ofNat 32 (i 0).val
  let v476 : Index := Scalar.indexCast arg0
  let c192_194 : Index := 192#32
  let c0_195 : Index := 0#32
  ![v476.toNat, 192, 0]
def k0_off16 (i : grid0.Coords) : Fin 3 → Nat :=
  let arg0 : BitVec 32 := BitVec.ofNat 32 (i 0).val
  let v509 : Index := Scalar.indexCast arg0
  let c192_206 : Index := 192#32
  let c256_207 : Index := 256#32
  ![v509.toNat, 192, 256]
def k0_off17 (i : grid0.Coords) : Fin 3 → Nat :=
  let arg0 : BitVec 32 := BitVec.ofNat 32 (i 0).val
  let v546 : Index := Scalar.indexCast arg0
  let c224_221 : Index := 224#32
  let c0_222 : Index := 0#32
  ![v546.toNat, 224, 0]
def k0_off18 (i : grid0.Coords) : Fin 3 → Nat :=
  let arg0 : BitVec 32 := BitVec.ofNat 32 (i 0).val
  let v579 : Index := Scalar.indexCast arg0
  let c224_233 : Index := 224#32
  let c256_234 : Index := 256#32
  ![v579.toNat, 224, 256]
def k0_off19 (i : grid0.Coords) : Fin 3 → Nat :=
  let arg0 : BitVec 32 := BitVec.ofNat 32 (i 0).val
  let v601 : Index := Scalar.indexCast arg0
  let c512_243 : Index := 512#32
  let c0_244 : Index := 0#32
  ![v601.toNat, 512, 0]
def k0_off20 (i : grid0.Coords) : Fin 3 → Nat :=
  let arg0 : BitVec 32 := BitVec.ofNat 32 (i 0).val
  let v627 : Index := Scalar.indexCast arg0
  let c256_257 : Index := 256#32
  let c0_258 : Index := 0#32
  ![v627.toNat, 256, 0]
def k0_off21 (i : grid0.Coords) : Fin 3 → Nat :=
  let arg0 : BitVec 32 := BitVec.ofNat 32 (i 0).val
  let v660 : Index := Scalar.indexCast arg0
  let c256_269 : Index := 256#32
  let c256_270 : Index := 256#32
  ![v660.toNat, 256, 256]
def k0_off22 (i : grid0.Coords) : Fin 3 → Nat :=
  let arg0 : BitVec 32 := BitVec.ofNat 32 (i 0).val
  let v697 : Index := Scalar.indexCast arg0
  let c288_284 : Index := 288#32
  let c0_285 : Index := 0#32
  ![v697.toNat, 288, 0]
def k0_off23 (i : grid0.Coords) : Fin 3 → Nat :=
  let arg0 : BitVec 32 := BitVec.ofNat 32 (i 0).val
  let v730 : Index := Scalar.indexCast arg0
  let c288_296 : Index := 288#32
  let c256_297 : Index := 256#32
  ![v730.toNat, 288, 256]
def k0_off24 (i : grid0.Coords) : Fin 3 → Nat :=
  let arg0 : BitVec 32 := BitVec.ofNat 32 (i 0).val
  let v767 : Index := Scalar.indexCast arg0
  let c320_311 : Index := 320#32
  let c0_312 : Index := 0#32
  ![v767.toNat, 320, 0]
def k0_off25 (i : grid0.Coords) : Fin 3 → Nat :=
  let arg0 : BitVec 32 := BitVec.ofNat 32 (i 0).val
  let v800 : Index := Scalar.indexCast arg0
  let c320_323 : Index := 320#32
  let c256_324 : Index := 256#32
  ![v800.toNat, 320, 256]
def k0_off26 (i : grid0.Coords) : Fin 3 → Nat :=
  let arg0 : BitVec 32 := BitVec.ofNat 32 (i 0).val
  let v837 : Index := Scalar.indexCast arg0
  let c352_338 : Index := 352#32
  let c0_339 : Index := 0#32
  ![v837.toNat, 352, 0]
def k0_off27 (i : grid0.Coords) : Fin 3 → Nat :=
  let arg0 : BitVec 32 := BitVec.ofNat 32 (i 0).val
  let v870 : Index := Scalar.indexCast arg0
  let c352_350 : Index := 352#32
  let c256_351 : Index := 256#32
  ![v870.toNat, 352, 256]
def k0_off28 (i : grid0.Coords) : Fin 3 → Nat :=
  let arg0 : BitVec 32 := BitVec.ofNat 32 (i 0).val
  let v907 : Index := Scalar.indexCast arg0
  let c384_365 : Index := 384#32
  let c0_366 : Index := 0#32
  ![v907.toNat, 384, 0]
def k0_off29 (i : grid0.Coords) : Fin 3 → Nat :=
  let arg0 : BitVec 32 := BitVec.ofNat 32 (i 0).val
  let v940 : Index := Scalar.indexCast arg0
  let c384_377 : Index := 384#32
  let c256_378 : Index := 256#32
  ![v940.toNat, 384, 256]
def k0_off30 (i : grid0.Coords) : Fin 3 → Nat :=
  let arg0 : BitVec 32 := BitVec.ofNat 32 (i 0).val
  let v977 : Index := Scalar.indexCast arg0
  let c416_392 : Index := 416#32
  let c0_393 : Index := 0#32
  ![v977.toNat, 416, 0]
def k0_off31 (i : grid0.Coords) : Fin 3 → Nat :=
  let arg0 : BitVec 32 := BitVec.ofNat 32 (i 0).val
  let v1010 : Index := Scalar.indexCast arg0
  let c416_404 : Index := 416#32
  let c256_405 : Index := 256#32
  ![v1010.toNat, 416, 256]
def k0_off32 (i : grid0.Coords) : Fin 3 → Nat :=
  let arg0 : BitVec 32 := BitVec.ofNat 32 (i 0).val
  let v1047 : Index := Scalar.indexCast arg0
  let c448_419 : Index := 448#32
  let c0_420 : Index := 0#32
  ![v1047.toNat, 448, 0]
def k0_off33 (i : grid0.Coords) : Fin 3 → Nat :=
  let arg0 : BitVec 32 := BitVec.ofNat 32 (i 0).val
  let v1080 : Index := Scalar.indexCast arg0
  let c448_431 : Index := 448#32
  let c256_432 : Index := 256#32
  ![v1080.toNat, 448, 256]
def k0_off34 (i : grid0.Coords) : Fin 3 → Nat :=
  let arg0 : BitVec 32 := BitVec.ofNat 32 (i 0).val
  let v1117 : Index := Scalar.indexCast arg0
  let c480_446 : Index := 480#32
  let c0_447 : Index := 0#32
  ![v1117.toNat, 480, 0]
def k0_off35 (i : grid0.Coords) : Fin 3 → Nat :=
  let arg0 : BitVec 32 := BitVec.ofNat 32 (i 0).val
  let v1150 : Index := Scalar.indexCast arg0
  let c480_458 : Index := 480#32
  let c256_459 : Index := 256#32
  ![v1150.toNat, 480, 256]
def k0_off36 (i : grid0.Coords) : Fin 3 → Nat :=
  let arg0 : BitVec 32 := BitVec.ofNat 32 (i 0).val
  let v1172 : Index := Scalar.indexCast arg0
  let c768_468 : Index := 768#32
  let c0_469 : Index := 0#32
  ![v1172.toNat, 768, 0]
def k0_off37 (i : grid0.Coords) : Fin 3 → Nat :=
  let arg0 : BitVec 32 := BitVec.ofNat 32 (i 0).val
  let v1198 : Index := Scalar.indexCast arg0
  let c512_482 : Index := 512#32
  let c0_483 : Index := 0#32
  ![v1198.toNat, 512, 0]
def k0_off38 (i : grid0.Coords) : Fin 3 → Nat :=
  let arg0 : BitVec 32 := BitVec.ofNat 32 (i 0).val
  let v1231 : Index := Scalar.indexCast arg0
  let c512_494 : Index := 512#32
  let c256_495 : Index := 256#32
  ![v1231.toNat, 512, 256]
def k0_off39 (i : grid0.Coords) : Fin 3 → Nat :=
  let arg0 : BitVec 32 := BitVec.ofNat 32 (i 0).val
  let v1268 : Index := Scalar.indexCast arg0
  let c544_509 : Index := 544#32
  let c0_510 : Index := 0#32
  ![v1268.toNat, 544, 0]
def k0_off40 (i : grid0.Coords) : Fin 3 → Nat :=
  let arg0 : BitVec 32 := BitVec.ofNat 32 (i 0).val
  let v1301 : Index := Scalar.indexCast arg0
  let c544_521 : Index := 544#32
  let c256_522 : Index := 256#32
  ![v1301.toNat, 544, 256]
def k0_off41 (i : grid0.Coords) : Fin 3 → Nat :=
  let arg0 : BitVec 32 := BitVec.ofNat 32 (i 0).val
  let v1338 : Index := Scalar.indexCast arg0
  let c576_536 : Index := 576#32
  let c0_537 : Index := 0#32
  ![v1338.toNat, 576, 0]
def k0_off42 (i : grid0.Coords) : Fin 3 → Nat :=
  let arg0 : BitVec 32 := BitVec.ofNat 32 (i 0).val
  let v1371 : Index := Scalar.indexCast arg0
  let c576_548 : Index := 576#32
  let c256_549 : Index := 256#32
  ![v1371.toNat, 576, 256]
def k0_off43 (i : grid0.Coords) : Fin 3 → Nat :=
  let arg0 : BitVec 32 := BitVec.ofNat 32 (i 0).val
  let v1408 : Index := Scalar.indexCast arg0
  let c608_563 : Index := 608#32
  let c0_564 : Index := 0#32
  ![v1408.toNat, 608, 0]
def k0_off44 (i : grid0.Coords) : Fin 3 → Nat :=
  let arg0 : BitVec 32 := BitVec.ofNat 32 (i 0).val
  let v1441 : Index := Scalar.indexCast arg0
  let c608_575 : Index := 608#32
  let c256_576 : Index := 256#32
  ![v1441.toNat, 608, 256]
def k0_off45 (i : grid0.Coords) : Fin 3 → Nat :=
  let arg0 : BitVec 32 := BitVec.ofNat 32 (i 0).val
  let v1478 : Index := Scalar.indexCast arg0
  let c640_590 : Index := 640#32
  let c0_591 : Index := 0#32
  ![v1478.toNat, 640, 0]
def k0_off46 (i : grid0.Coords) : Fin 3 → Nat :=
  let arg0 : BitVec 32 := BitVec.ofNat 32 (i 0).val
  let v1511 : Index := Scalar.indexCast arg0
  let c640_602 : Index := 640#32
  let c256_603 : Index := 256#32
  ![v1511.toNat, 640, 256]
def k0_off47 (i : grid0.Coords) : Fin 3 → Nat :=
  let arg0 : BitVec 32 := BitVec.ofNat 32 (i 0).val
  let v1548 : Index := Scalar.indexCast arg0
  let c672_617 : Index := 672#32
  let c0_618 : Index := 0#32
  ![v1548.toNat, 672, 0]
def k0_off48 (i : grid0.Coords) : Fin 3 → Nat :=
  let arg0 : BitVec 32 := BitVec.ofNat 32 (i 0).val
  let v1581 : Index := Scalar.indexCast arg0
  let c672_629 : Index := 672#32
  let c256_630 : Index := 256#32
  ![v1581.toNat, 672, 256]
def k0_off49 (i : grid0.Coords) : Fin 3 → Nat :=
  let arg0 : BitVec 32 := BitVec.ofNat 32 (i 0).val
  let v1618 : Index := Scalar.indexCast arg0
  let c704_644 : Index := 704#32
  let c0_645 : Index := 0#32
  ![v1618.toNat, 704, 0]
def k0_off50 (i : grid0.Coords) : Fin 3 → Nat :=
  let arg0 : BitVec 32 := BitVec.ofNat 32 (i 0).val
  let v1651 : Index := Scalar.indexCast arg0
  let c704_656 : Index := 704#32
  let c256_657 : Index := 256#32
  ![v1651.toNat, 704, 256]
def k0_off51 (i : grid0.Coords) : Fin 3 → Nat :=
  let arg0 : BitVec 32 := BitVec.ofNat 32 (i 0).val
  let v1688 : Index := Scalar.indexCast arg0
  let c736_671 : Index := 736#32
  let c0_672 : Index := 0#32
  ![v1688.toNat, 736, 0]
def k0_off52 (i : grid0.Coords) : Fin 3 → Nat :=
  let arg0 : BitVec 32 := BitVec.ofNat 32 (i 0).val
  let v1721 : Index := Scalar.indexCast arg0
  let c736_683 : Index := 736#32
  let c256_684 : Index := 256#32
  ![v1721.toNat, 736, 256]
def k0_off53 (i : grid0.Coords) : Fin 3 → Nat :=
  let arg0 : BitVec 32 := BitVec.ofNat 32 (i 0).val
  let v1758 : Index := Scalar.indexCast arg0
  let c768_699 : Index := 768#32
  let c0_700 : Index := 0#32
  ![v1758.toNat, 768, 0]
def k0_off54 (i : grid0.Coords) : Fin 3 → Nat :=
  let arg0 : BitVec 32 := BitVec.ofNat 32 (i 0).val
  let v1791 : Index := Scalar.indexCast arg0
  let c768_711 : Index := 768#32
  let c256_712 : Index := 256#32
  ![v1791.toNat, 768, 256]
def k0_off55 (i : grid0.Coords) : Fin 3 → Nat :=
  let arg0 : BitVec 32 := BitVec.ofNat 32 (i 0).val
  let v1828 : Index := Scalar.indexCast arg0
  let c800_726 : Index := 800#32
  let c0_727 : Index := 0#32
  ![v1828.toNat, 800, 0]
def k0_off56 (i : grid0.Coords) : Fin 3 → Nat :=
  let arg0 : BitVec 32 := BitVec.ofNat 32 (i 0).val
  let v1861 : Index := Scalar.indexCast arg0
  let c800_738 : Index := 800#32
  let c256_739 : Index := 256#32
  ![v1861.toNat, 800, 256]
def k0_off57 (i : grid0.Coords) : Fin 3 → Nat :=
  let arg0 : BitVec 32 := BitVec.ofNat 32 (i 0).val
  let v1898 : Index := Scalar.indexCast arg0
  let c832_753 : Index := 832#32
  let c0_754 : Index := 0#32
  ![v1898.toNat, 832, 0]
def k0_off58 (i : grid0.Coords) : Fin 3 → Nat :=
  let arg0 : BitVec 32 := BitVec.ofNat 32 (i 0).val
  let v1931 : Index := Scalar.indexCast arg0
  let c832_765 : Index := 832#32
  let c256_766 : Index := 256#32
  ![v1931.toNat, 832, 256]
def k0_off59 (i : grid0.Coords) : Fin 3 → Nat :=
  let arg0 : BitVec 32 := BitVec.ofNat 32 (i 0).val
  let v1968 : Index := Scalar.indexCast arg0
  let c864_780 : Index := 864#32
  let c0_781 : Index := 0#32
  ![v1968.toNat, 864, 0]
def k0_off60 (i : grid0.Coords) : Fin 3 → Nat :=
  let arg0 : BitVec 32 := BitVec.ofNat 32 (i 0).val
  let v2001 : Index := Scalar.indexCast arg0
  let c864_792 : Index := 864#32
  let c256_793 : Index := 256#32
  ![v2001.toNat, 864, 256]
def k0_off61 (i : grid0.Coords) : Fin 3 → Nat :=
  let arg0 : BitVec 32 := BitVec.ofNat 32 (i 0).val
  let v2038 : Index := Scalar.indexCast arg0
  let c896_807 : Index := 896#32
  let c0_808 : Index := 0#32
  ![v2038.toNat, 896, 0]
def k0_off62 (i : grid0.Coords) : Fin 3 → Nat :=
  let arg0 : BitVec 32 := BitVec.ofNat 32 (i 0).val
  let v2071 : Index := Scalar.indexCast arg0
  let c896_819 : Index := 896#32
  let c256_820 : Index := 256#32
  ![v2071.toNat, 896, 256]
def k0_off63 (i : grid0.Coords) : Fin 3 → Nat :=
  let arg0 : BitVec 32 := BitVec.ofNat 32 (i 0).val
  let v2108 : Index := Scalar.indexCast arg0
  let c928_834 : Index := 928#32
  let c0_835 : Index := 0#32
  ![v2108.toNat, 928, 0]
def k0_off64 (i : grid0.Coords) : Fin 3 → Nat :=
  let arg0 : BitVec 32 := BitVec.ofNat 32 (i 0).val
  let v2141 : Index := Scalar.indexCast arg0
  let c928_846 : Index := 928#32
  let c256_847 : Index := 256#32
  ![v2141.toNat, 928, 256]
def k0_off65 (i : grid0.Coords) : Fin 3 → Nat :=
  let arg0 : BitVec 32 := BitVec.ofNat 32 (i 0).val
  let v2178 : Index := Scalar.indexCast arg0
  let c960_861 : Index := 960#32
  let c0_862 : Index := 0#32
  ![v2178.toNat, 960, 0]
def k0_off66 (i : grid0.Coords) : Fin 3 → Nat :=
  let arg0 : BitVec 32 := BitVec.ofNat 32 (i 0).val
  let v2211 : Index := Scalar.indexCast arg0
  let c960_873 : Index := 960#32
  let c256_874 : Index := 256#32
  ![v2211.toNat, 960, 256]
def k0_off67 (i : grid0.Coords) : Fin 3 → Nat :=
  let arg0 : BitVec 32 := BitVec.ofNat 32 (i 0).val
  let v2248 : Index := Scalar.indexCast arg0
  let c992_888 : Index := 992#32
  let c0_889 : Index := 0#32
  ![v2248.toNat, 992, 0]
def k0_off68 (i : grid0.Coords) : Fin 3 → Nat :=
  let arg0 : BitVec 32 := BitVec.ofNat 32 (i 0).val
  let v2281 : Index := Scalar.indexCast arg0
  let c992_900 : Index := 992#32
  let c256_901 : Index := 256#32
  ![v2281.toNat, 992, 256]
def k0_cond4 (i : grid0.Coords) : BitVec 1 :=
  let arg0 : BitVec 32 := BitVec.ofNat 32 (i 0).val
  let c11_i32_4 : BitVec 32 := 11#32
  let v9 : BitVec 1 := Scalar.cmpi .sge arg0 c11_i32_4
  let v10 : BitVec 32 := Scalar.extui v9
  let c0_i32_5 : BitVec 32 := 0#32
  let v11 : BitVec 1 := Scalar.cmpi .ne v10 c0_i32_5
  v11

def k0_off69 (i : grid0.Coords) : Fin 3 → Nat :=
  let arg0 : BitVec 32 := BitVec.ofNat 32 (i 0).val
  let c11_i32_6 : BitVec 32 := 11#32
  let v12 : BitVec 32 := Scalar.subi arg0 c11_i32_6
  let v27 : Index := Scalar.indexCast v12
  let c0_16 : Index := 0#32
  let c0_17 : Index := 0#32
  ![v27.toNat, 0, 0]
def k0_off70 (i : grid0.Coords) : Fin 3 → Nat :=
  let arg0 : BitVec 32 := BitVec.ofNat 32 (i 0).val
  let c11_i32_6 : BitVec 32 := 11#32
  let v12 : BitVec 32 := Scalar.subi arg0 c11_i32_6
  let v71 : Index := Scalar.indexCast v12
  let c0_37 : Index := 0#32
  let c256 : Index := 256#32
  ![v71.toNat, 0, 256]
def k0_off71 (i : grid0.Coords) : Fin 3 → Nat :=
  let arg0 : BitVec 32 := BitVec.ofNat 32 (i 0).val
  let c11_i32_6 : BitVec 32 := 11#32
  let v12 : BitVec 32 := Scalar.subi arg0 c11_i32_6
  let v117 : Index := Scalar.indexCast v12
  let c32_59 : Index := 32#32
  let c0_60 : Index := 0#32
  ![v117.toNat, 32, 0]
def k0_off72 (i : grid0.Coords) : Fin 3 → Nat :=
  let arg0 : BitVec 32 := BitVec.ofNat 32 (i 0).val
  let c11_i32_6 : BitVec 32 := 11#32
  let v12 : BitVec 32 := Scalar.subi arg0 c11_i32_6
  let v161 : Index := Scalar.indexCast v12
  let c32_81 : Index := 32#32
  let c256_82 : Index := 256#32
  ![v161.toNat, 32, 256]
def k0_off73 (i : grid0.Coords) : Fin 3 → Nat :=
  let arg0 : BitVec 32 := BitVec.ofNat 32 (i 0).val
  let c11_i32_6 : BitVec 32 := 11#32
  let v12 : BitVec 32 := Scalar.subi arg0 c11_i32_6
  let v207 : Index := Scalar.indexCast v12
  let c64_104 : Index := 64#32
  let c0_105 : Index := 0#32
  ![v207.toNat, 64, 0]
def k0_off74 (i : grid0.Coords) : Fin 3 → Nat :=
  let arg0 : BitVec 32 := BitVec.ofNat 32 (i 0).val
  let c11_i32_6 : BitVec 32 := 11#32
  let v12 : BitVec 32 := Scalar.subi arg0 c11_i32_6
  let v251 : Index := Scalar.indexCast v12
  let c64_126 : Index := 64#32
  let c256_127 : Index := 256#32
  ![v251.toNat, 64, 256]
def k0_off75 (i : grid0.Coords) : Fin 3 → Nat :=
  let arg0 : BitVec 32 := BitVec.ofNat 32 (i 0).val
  let c11_i32_6 : BitVec 32 := 11#32
  let v12 : BitVec 32 := Scalar.subi arg0 c11_i32_6
  let v297 : Index := Scalar.indexCast v12
  let c96_149 : Index := 96#32
  let c0_150 : Index := 0#32
  ![v297.toNat, 96, 0]
def k0_off76 (i : grid0.Coords) : Fin 3 → Nat :=
  let arg0 : BitVec 32 := BitVec.ofNat 32 (i 0).val
  let c11_i32_6 : BitVec 32 := 11#32
  let v12 : BitVec 32 := Scalar.subi arg0 c11_i32_6
  let v341 : Index := Scalar.indexCast v12
  let c96_171 : Index := 96#32
  let c256_172 : Index := 256#32
  ![v341.toNat, 96, 256]
def k0_off77 (i : grid0.Coords) : Fin 3 → Nat :=
  let arg0 : BitVec 32 := BitVec.ofNat 32 (i 0).val
  let c11_i32_6 : BitVec 32 := 11#32
  let v12 : BitVec 32 := Scalar.subi arg0 c11_i32_6
  let v387 : Index := Scalar.indexCast v12
  let c128_194 : Index := 128#32
  let c0_195 : Index := 0#32
  ![v387.toNat, 128, 0]
def k0_off78 (i : grid0.Coords) : Fin 3 → Nat :=
  let arg0 : BitVec 32 := BitVec.ofNat 32 (i 0).val
  let c11_i32_6 : BitVec 32 := 11#32
  let v12 : BitVec 32 := Scalar.subi arg0 c11_i32_6
  let v431 : Index := Scalar.indexCast v12
  let c128_216 : Index := 128#32
  let c256_217 : Index := 256#32
  ![v431.toNat, 128, 256]
def k0_off79 (i : grid0.Coords) : Fin 3 → Nat :=
  let arg0 : BitVec 32 := BitVec.ofNat 32 (i 0).val
  let c11_i32_6 : BitVec 32 := 11#32
  let v12 : BitVec 32 := Scalar.subi arg0 c11_i32_6
  let v477 : Index := Scalar.indexCast v12
  let c160_239 : Index := 160#32
  let c0_240 : Index := 0#32
  ![v477.toNat, 160, 0]
def k0_off80 (i : grid0.Coords) : Fin 3 → Nat :=
  let arg0 : BitVec 32 := BitVec.ofNat 32 (i 0).val
  let c11_i32_6 : BitVec 32 := 11#32
  let v12 : BitVec 32 := Scalar.subi arg0 c11_i32_6
  let v521 : Index := Scalar.indexCast v12
  let c160_261 : Index := 160#32
  let c256_262 : Index := 256#32
  ![v521.toNat, 160, 256]
def k0_off81 (i : grid0.Coords) : Fin 3 → Nat :=
  let arg0 : BitVec 32 := BitVec.ofNat 32 (i 0).val
  let c11_i32_6 : BitVec 32 := 11#32
  let v12 : BitVec 32 := Scalar.subi arg0 c11_i32_6
  let v567 : Index := Scalar.indexCast v12
  let c192_284 : Index := 192#32
  let c0_285 : Index := 0#32
  ![v567.toNat, 192, 0]
def k0_off82 (i : grid0.Coords) : Fin 3 → Nat :=
  let arg0 : BitVec 32 := BitVec.ofNat 32 (i 0).val
  let c11_i32_6 : BitVec 32 := 11#32
  let v12 : BitVec 32 := Scalar.subi arg0 c11_i32_6
  let v611 : Index := Scalar.indexCast v12
  let c192_306 : Index := 192#32
  let c256_307 : Index := 256#32
  ![v611.toNat, 192, 256]
def k0_off83 (i : grid0.Coords) : Fin 3 → Nat :=
  let arg0 : BitVec 32 := BitVec.ofNat 32 (i 0).val
  let c11_i32_6 : BitVec 32 := 11#32
  let v12 : BitVec 32 := Scalar.subi arg0 c11_i32_6
  let v657 : Index := Scalar.indexCast v12
  let c224_329 : Index := 224#32
  let c0_330 : Index := 0#32
  ![v657.toNat, 224, 0]
def k0_off84 (i : grid0.Coords) : Fin 3 → Nat :=
  let arg0 : BitVec 32 := BitVec.ofNat 32 (i 0).val
  let c11_i32_6 : BitVec 32 := 11#32
  let v12 : BitVec 32 := Scalar.subi arg0 c11_i32_6
  let v701 : Index := Scalar.indexCast v12
  let c224_351 : Index := 224#32
  let c256_352 : Index := 256#32
  ![v701.toNat, 224, 256]
def k0_off85 (i : grid0.Coords) : Fin 3 → Nat :=
  let arg0 : BitVec 32 := BitVec.ofNat 32 (i 0).val
  let c11_i32_6 : BitVec 32 := 11#32
  let v12 : BitVec 32 := Scalar.subi arg0 c11_i32_6
  let v747 : Index := Scalar.indexCast v12
  let c256_375 : Index := 256#32
  let c0_376 : Index := 0#32
  ![v747.toNat, 256, 0]
def k0_off86 (i : grid0.Coords) : Fin 3 → Nat :=
  let arg0 : BitVec 32 := BitVec.ofNat 32 (i 0).val
  let c11_i32_6 : BitVec 32 := 11#32
  let v12 : BitVec 32 := Scalar.subi arg0 c11_i32_6
  let v791 : Index := Scalar.indexCast v12
  let c256_397 : Index := 256#32
  let c256_398 : Index := 256#32
  ![v791.toNat, 256, 256]
def k0_off87 (i : grid0.Coords) : Fin 3 → Nat :=
  let arg0 : BitVec 32 := BitVec.ofNat 32 (i 0).val
  let c11_i32_6 : BitVec 32 := 11#32
  let v12 : BitVec 32 := Scalar.subi arg0 c11_i32_6
  let v837 : Index := Scalar.indexCast v12
  let c288_420 : Index := 288#32
  let c0_421 : Index := 0#32
  ![v837.toNat, 288, 0]
def k0_off88 (i : grid0.Coords) : Fin 3 → Nat :=
  let arg0 : BitVec 32 := BitVec.ofNat 32 (i 0).val
  let c11_i32_6 : BitVec 32 := 11#32
  let v12 : BitVec 32 := Scalar.subi arg0 c11_i32_6
  let v881 : Index := Scalar.indexCast v12
  let c288_442 : Index := 288#32
  let c256_443 : Index := 256#32
  ![v881.toNat, 288, 256]
def k0_off89 (i : grid0.Coords) : Fin 3 → Nat :=
  let arg0 : BitVec 32 := BitVec.ofNat 32 (i 0).val
  let c11_i32_6 : BitVec 32 := 11#32
  let v12 : BitVec 32 := Scalar.subi arg0 c11_i32_6
  let v927 : Index := Scalar.indexCast v12
  let c320_465 : Index := 320#32
  let c0_466 : Index := 0#32
  ![v927.toNat, 320, 0]
def k0_off90 (i : grid0.Coords) : Fin 3 → Nat :=
  let arg0 : BitVec 32 := BitVec.ofNat 32 (i 0).val
  let c11_i32_6 : BitVec 32 := 11#32
  let v12 : BitVec 32 := Scalar.subi arg0 c11_i32_6
  let v971 : Index := Scalar.indexCast v12
  let c320_487 : Index := 320#32
  let c256_488 : Index := 256#32
  ![v971.toNat, 320, 256]
def k0_off91 (i : grid0.Coords) : Fin 3 → Nat :=
  let arg0 : BitVec 32 := BitVec.ofNat 32 (i 0).val
  let c11_i32_6 : BitVec 32 := 11#32
  let v12 : BitVec 32 := Scalar.subi arg0 c11_i32_6
  let v1017 : Index := Scalar.indexCast v12
  let c352_510 : Index := 352#32
  let c0_511 : Index := 0#32
  ![v1017.toNat, 352, 0]
def k0_off92 (i : grid0.Coords) : Fin 3 → Nat :=
  let arg0 : BitVec 32 := BitVec.ofNat 32 (i 0).val
  let c11_i32_6 : BitVec 32 := 11#32
  let v12 : BitVec 32 := Scalar.subi arg0 c11_i32_6
  let v1061 : Index := Scalar.indexCast v12
  let c352_532 : Index := 352#32
  let c256_533 : Index := 256#32
  ![v1061.toNat, 352, 256]
def k0_off93 (i : grid0.Coords) : Fin 3 → Nat :=
  let arg0 : BitVec 32 := BitVec.ofNat 32 (i 0).val
  let c11_i32_6 : BitVec 32 := 11#32
  let v12 : BitVec 32 := Scalar.subi arg0 c11_i32_6
  let v1107 : Index := Scalar.indexCast v12
  let c384_555 : Index := 384#32
  let c0_556 : Index := 0#32
  ![v1107.toNat, 384, 0]
def k0_off94 (i : grid0.Coords) : Fin 3 → Nat :=
  let arg0 : BitVec 32 := BitVec.ofNat 32 (i 0).val
  let c11_i32_6 : BitVec 32 := 11#32
  let v12 : BitVec 32 := Scalar.subi arg0 c11_i32_6
  let v1151 : Index := Scalar.indexCast v12
  let c384_577 : Index := 384#32
  let c256_578 : Index := 256#32
  ![v1151.toNat, 384, 256]
def k0_off95 (i : grid0.Coords) : Fin 3 → Nat :=
  let arg0 : BitVec 32 := BitVec.ofNat 32 (i 0).val
  let c11_i32_6 : BitVec 32 := 11#32
  let v12 : BitVec 32 := Scalar.subi arg0 c11_i32_6
  let v1197 : Index := Scalar.indexCast v12
  let c416_600 : Index := 416#32
  let c0_601 : Index := 0#32
  ![v1197.toNat, 416, 0]
def k0_off96 (i : grid0.Coords) : Fin 3 → Nat :=
  let arg0 : BitVec 32 := BitVec.ofNat 32 (i 0).val
  let c11_i32_6 : BitVec 32 := 11#32
  let v12 : BitVec 32 := Scalar.subi arg0 c11_i32_6
  let v1241 : Index := Scalar.indexCast v12
  let c416_622 : Index := 416#32
  let c256_623 : Index := 256#32
  ![v1241.toNat, 416, 256]
def k0_off97 (i : grid0.Coords) : Fin 3 → Nat :=
  let arg0 : BitVec 32 := BitVec.ofNat 32 (i 0).val
  let c11_i32_6 : BitVec 32 := 11#32
  let v12 : BitVec 32 := Scalar.subi arg0 c11_i32_6
  let v1287 : Index := Scalar.indexCast v12
  let c448_645 : Index := 448#32
  let c0_646 : Index := 0#32
  ![v1287.toNat, 448, 0]
def k0_off98 (i : grid0.Coords) : Fin 3 → Nat :=
  let arg0 : BitVec 32 := BitVec.ofNat 32 (i 0).val
  let c11_i32_6 : BitVec 32 := 11#32
  let v12 : BitVec 32 := Scalar.subi arg0 c11_i32_6
  let v1331 : Index := Scalar.indexCast v12
  let c448_667 : Index := 448#32
  let c256_668 : Index := 256#32
  ![v1331.toNat, 448, 256]
def k0_off99 (i : grid0.Coords) : Fin 3 → Nat :=
  let arg0 : BitVec 32 := BitVec.ofNat 32 (i 0).val
  let c11_i32_6 : BitVec 32 := 11#32
  let v12 : BitVec 32 := Scalar.subi arg0 c11_i32_6
  let v1377 : Index := Scalar.indexCast v12
  let c480_690 : Index := 480#32
  let c0_691 : Index := 0#32
  ![v1377.toNat, 480, 0]
def k0_off100 (i : grid0.Coords) : Fin 3 → Nat :=
  let arg0 : BitVec 32 := BitVec.ofNat 32 (i 0).val
  let c11_i32_6 : BitVec 32 := 11#32
  let v12 : BitVec 32 := Scalar.subi arg0 c11_i32_6
  let v1421 : Index := Scalar.indexCast v12
  let c480_712 : Index := 480#32
  let c256_713 : Index := 256#32
  ![v1421.toNat, 480, 256]
def k0_off101 (i : grid0.Coords) : Fin 3 → Nat :=
  let arg0 : BitVec 32 := BitVec.ofNat 32 (i 0).val
  let c11_i32_6 : BitVec 32 := 11#32
  let v12 : BitVec 32 := Scalar.subi arg0 c11_i32_6
  let v1467 : Index := Scalar.indexCast v12
  let c512_735 : Index := 512#32
  let c0_736 : Index := 0#32
  ![v1467.toNat, 512, 0]
def k0_off102 (i : grid0.Coords) : Fin 3 → Nat :=
  let arg0 : BitVec 32 := BitVec.ofNat 32 (i 0).val
  let c11_i32_6 : BitVec 32 := 11#32
  let v12 : BitVec 32 := Scalar.subi arg0 c11_i32_6
  let v1511 : Index := Scalar.indexCast v12
  let c512_757 : Index := 512#32
  let c256_758 : Index := 256#32
  ![v1511.toNat, 512, 256]
def k0_off103 (i : grid0.Coords) : Fin 3 → Nat :=
  let arg0 : BitVec 32 := BitVec.ofNat 32 (i 0).val
  let c11_i32_6 : BitVec 32 := 11#32
  let v12 : BitVec 32 := Scalar.subi arg0 c11_i32_6
  let v1557 : Index := Scalar.indexCast v12
  let c544_780 : Index := 544#32
  let c0_781 : Index := 0#32
  ![v1557.toNat, 544, 0]
def k0_off104 (i : grid0.Coords) : Fin 3 → Nat :=
  let arg0 : BitVec 32 := BitVec.ofNat 32 (i 0).val
  let c11_i32_6 : BitVec 32 := 11#32
  let v12 : BitVec 32 := Scalar.subi arg0 c11_i32_6
  let v1601 : Index := Scalar.indexCast v12
  let c544_802 : Index := 544#32
  let c256_803 : Index := 256#32
  ![v1601.toNat, 544, 256]
def k0_off105 (i : grid0.Coords) : Fin 3 → Nat :=
  let arg0 : BitVec 32 := BitVec.ofNat 32 (i 0).val
  let c11_i32_6 : BitVec 32 := 11#32
  let v12 : BitVec 32 := Scalar.subi arg0 c11_i32_6
  let v1647 : Index := Scalar.indexCast v12
  let c576_825 : Index := 576#32
  let c0_826 : Index := 0#32
  ![v1647.toNat, 576, 0]
def k0_off106 (i : grid0.Coords) : Fin 3 → Nat :=
  let arg0 : BitVec 32 := BitVec.ofNat 32 (i 0).val
  let c11_i32_6 : BitVec 32 := 11#32
  let v12 : BitVec 32 := Scalar.subi arg0 c11_i32_6
  let v1691 : Index := Scalar.indexCast v12
  let c576_847 : Index := 576#32
  let c256_848 : Index := 256#32
  ![v1691.toNat, 576, 256]
def k0_off107 (i : grid0.Coords) : Fin 3 → Nat :=
  let arg0 : BitVec 32 := BitVec.ofNat 32 (i 0).val
  let c11_i32_6 : BitVec 32 := 11#32
  let v12 : BitVec 32 := Scalar.subi arg0 c11_i32_6
  let v1737 : Index := Scalar.indexCast v12
  let c608_870 : Index := 608#32
  let c0_871 : Index := 0#32
  ![v1737.toNat, 608, 0]
def k0_off108 (i : grid0.Coords) : Fin 3 → Nat :=
  let arg0 : BitVec 32 := BitVec.ofNat 32 (i 0).val
  let c11_i32_6 : BitVec 32 := 11#32
  let v12 : BitVec 32 := Scalar.subi arg0 c11_i32_6
  let v1781 : Index := Scalar.indexCast v12
  let c608_892 : Index := 608#32
  let c256_893 : Index := 256#32
  ![v1781.toNat, 608, 256]
def k0_off109 (i : grid0.Coords) : Fin 3 → Nat :=
  let arg0 : BitVec 32 := BitVec.ofNat 32 (i 0).val
  let c11_i32_6 : BitVec 32 := 11#32
  let v12 : BitVec 32 := Scalar.subi arg0 c11_i32_6
  let v1827 : Index := Scalar.indexCast v12
  let c640_915 : Index := 640#32
  let c0_916 : Index := 0#32
  ![v1827.toNat, 640, 0]
def k0_off110 (i : grid0.Coords) : Fin 3 → Nat :=
  let arg0 : BitVec 32 := BitVec.ofNat 32 (i 0).val
  let c11_i32_6 : BitVec 32 := 11#32
  let v12 : BitVec 32 := Scalar.subi arg0 c11_i32_6
  let v1871 : Index := Scalar.indexCast v12
  let c640_937 : Index := 640#32
  let c256_938 : Index := 256#32
  ![v1871.toNat, 640, 256]
def k0_off111 (i : grid0.Coords) : Fin 3 → Nat :=
  let arg0 : BitVec 32 := BitVec.ofNat 32 (i 0).val
  let c11_i32_6 : BitVec 32 := 11#32
  let v12 : BitVec 32 := Scalar.subi arg0 c11_i32_6
  let v1917 : Index := Scalar.indexCast v12
  let c672_960 : Index := 672#32
  let c0_961 : Index := 0#32
  ![v1917.toNat, 672, 0]
def k0_off112 (i : grid0.Coords) : Fin 3 → Nat :=
  let arg0 : BitVec 32 := BitVec.ofNat 32 (i 0).val
  let c11_i32_6 : BitVec 32 := 11#32
  let v12 : BitVec 32 := Scalar.subi arg0 c11_i32_6
  let v1961 : Index := Scalar.indexCast v12
  let c672_982 : Index := 672#32
  let c256_983 : Index := 256#32
  ![v1961.toNat, 672, 256]
def k0_off113 (i : grid0.Coords) : Fin 3 → Nat :=
  let arg0 : BitVec 32 := BitVec.ofNat 32 (i 0).val
  let c11_i32_6 : BitVec 32 := 11#32
  let v12 : BitVec 32 := Scalar.subi arg0 c11_i32_6
  let v2007 : Index := Scalar.indexCast v12
  let c704_1005 : Index := 704#32
  let c0_1006 : Index := 0#32
  ![v2007.toNat, 704, 0]
def k0_off114 (i : grid0.Coords) : Fin 3 → Nat :=
  let arg0 : BitVec 32 := BitVec.ofNat 32 (i 0).val
  let c11_i32_6 : BitVec 32 := 11#32
  let v12 : BitVec 32 := Scalar.subi arg0 c11_i32_6
  let v2051 : Index := Scalar.indexCast v12
  let c704_1027 : Index := 704#32
  let c256_1028 : Index := 256#32
  ![v2051.toNat, 704, 256]
def k0_off115 (i : grid0.Coords) : Fin 3 → Nat :=
  let arg0 : BitVec 32 := BitVec.ofNat 32 (i 0).val
  let c11_i32_6 : BitVec 32 := 11#32
  let v12 : BitVec 32 := Scalar.subi arg0 c11_i32_6
  let v2097 : Index := Scalar.indexCast v12
  let c736_1050 : Index := 736#32
  let c0_1051 : Index := 0#32
  ![v2097.toNat, 736, 0]
def k0_off116 (i : grid0.Coords) : Fin 3 → Nat :=
  let arg0 : BitVec 32 := BitVec.ofNat 32 (i 0).val
  let c11_i32_6 : BitVec 32 := 11#32
  let v12 : BitVec 32 := Scalar.subi arg0 c11_i32_6
  let v2141 : Index := Scalar.indexCast v12
  let c736_1072 : Index := 736#32
  let c256_1073 : Index := 256#32
  ![v2141.toNat, 736, 256]
def k0_off117 (i : grid0.Coords) : Fin 3 → Nat :=
  let arg0 : BitVec 32 := BitVec.ofNat 32 (i 0).val
  let c11_i32_6 : BitVec 32 := 11#32
  let v12 : BitVec 32 := Scalar.subi arg0 c11_i32_6
  let v2187 : Index := Scalar.indexCast v12
  let c768_1095 : Index := 768#32
  let c0_1096 : Index := 0#32
  ![v2187.toNat, 768, 0]
def k0_off118 (i : grid0.Coords) : Fin 3 → Nat :=
  let arg0 : BitVec 32 := BitVec.ofNat 32 (i 0).val
  let c11_i32_6 : BitVec 32 := 11#32
  let v12 : BitVec 32 := Scalar.subi arg0 c11_i32_6
  let v2231 : Index := Scalar.indexCast v12
  let c768_1117 : Index := 768#32
  let c256_1118 : Index := 256#32
  ![v2231.toNat, 768, 256]
def k0_off119 (i : grid0.Coords) : Fin 3 → Nat :=
  let arg0 : BitVec 32 := BitVec.ofNat 32 (i 0).val
  let c11_i32_6 : BitVec 32 := 11#32
  let v12 : BitVec 32 := Scalar.subi arg0 c11_i32_6
  let v2277 : Index := Scalar.indexCast v12
  let c800_1140 : Index := 800#32
  let c0_1141 : Index := 0#32
  ![v2277.toNat, 800, 0]
def k0_off120 (i : grid0.Coords) : Fin 3 → Nat :=
  let arg0 : BitVec 32 := BitVec.ofNat 32 (i 0).val
  let c11_i32_6 : BitVec 32 := 11#32
  let v12 : BitVec 32 := Scalar.subi arg0 c11_i32_6
  let v2321 : Index := Scalar.indexCast v12
  let c800_1162 : Index := 800#32
  let c256_1163 : Index := 256#32
  ![v2321.toNat, 800, 256]
def k0_off121 (i : grid0.Coords) : Fin 3 → Nat :=
  let arg0 : BitVec 32 := BitVec.ofNat 32 (i 0).val
  let c11_i32_6 : BitVec 32 := 11#32
  let v12 : BitVec 32 := Scalar.subi arg0 c11_i32_6
  let v2367 : Index := Scalar.indexCast v12
  let c832_1185 : Index := 832#32
  let c0_1186 : Index := 0#32
  ![v2367.toNat, 832, 0]
def k0_off122 (i : grid0.Coords) : Fin 3 → Nat :=
  let arg0 : BitVec 32 := BitVec.ofNat 32 (i 0).val
  let c11_i32_6 : BitVec 32 := 11#32
  let v12 : BitVec 32 := Scalar.subi arg0 c11_i32_6
  let v2411 : Index := Scalar.indexCast v12
  let c832_1207 : Index := 832#32
  let c256_1208 : Index := 256#32
  ![v2411.toNat, 832, 256]
def k0_off123 (i : grid0.Coords) : Fin 3 → Nat :=
  let arg0 : BitVec 32 := BitVec.ofNat 32 (i 0).val
  let c11_i32_6 : BitVec 32 := 11#32
  let v12 : BitVec 32 := Scalar.subi arg0 c11_i32_6
  let v2457 : Index := Scalar.indexCast v12
  let c864_1230 : Index := 864#32
  let c0_1231 : Index := 0#32
  ![v2457.toNat, 864, 0]
def k0_off124 (i : grid0.Coords) : Fin 3 → Nat :=
  let arg0 : BitVec 32 := BitVec.ofNat 32 (i 0).val
  let c11_i32_6 : BitVec 32 := 11#32
  let v12 : BitVec 32 := Scalar.subi arg0 c11_i32_6
  let v2501 : Index := Scalar.indexCast v12
  let c864_1252 : Index := 864#32
  let c256_1253 : Index := 256#32
  ![v2501.toNat, 864, 256]
def k0_off125 (i : grid0.Coords) : Fin 3 → Nat :=
  let arg0 : BitVec 32 := BitVec.ofNat 32 (i 0).val
  let c11_i32_6 : BitVec 32 := 11#32
  let v12 : BitVec 32 := Scalar.subi arg0 c11_i32_6
  let v2547 : Index := Scalar.indexCast v12
  let c896_1275 : Index := 896#32
  let c0_1276 : Index := 0#32
  ![v2547.toNat, 896, 0]
def k0_off126 (i : grid0.Coords) : Fin 3 → Nat :=
  let arg0 : BitVec 32 := BitVec.ofNat 32 (i 0).val
  let c11_i32_6 : BitVec 32 := 11#32
  let v12 : BitVec 32 := Scalar.subi arg0 c11_i32_6
  let v2591 : Index := Scalar.indexCast v12
  let c896_1297 : Index := 896#32
  let c256_1298 : Index := 256#32
  ![v2591.toNat, 896, 256]
def k0_off127 (i : grid0.Coords) : Fin 3 → Nat :=
  let arg0 : BitVec 32 := BitVec.ofNat 32 (i 0).val
  let c11_i32_6 : BitVec 32 := 11#32
  let v12 : BitVec 32 := Scalar.subi arg0 c11_i32_6
  let v2637 : Index := Scalar.indexCast v12
  let c928_1320 : Index := 928#32
  let c0_1321 : Index := 0#32
  ![v2637.toNat, 928, 0]
def k0_off128 (i : grid0.Coords) : Fin 3 → Nat :=
  let arg0 : BitVec 32 := BitVec.ofNat 32 (i 0).val
  let c11_i32_6 : BitVec 32 := 11#32
  let v12 : BitVec 32 := Scalar.subi arg0 c11_i32_6
  let v2681 : Index := Scalar.indexCast v12
  let c928_1342 : Index := 928#32
  let c256_1343 : Index := 256#32
  ![v2681.toNat, 928, 256]
def k0_off129 (i : grid0.Coords) : Fin 3 → Nat :=
  let arg0 : BitVec 32 := BitVec.ofNat 32 (i 0).val
  let c11_i32_6 : BitVec 32 := 11#32
  let v12 : BitVec 32 := Scalar.subi arg0 c11_i32_6
  let v2727 : Index := Scalar.indexCast v12
  let c960_1365 : Index := 960#32
  let c0_1366 : Index := 0#32
  ![v2727.toNat, 960, 0]
def k0_off130 (i : grid0.Coords) : Fin 3 → Nat :=
  let arg0 : BitVec 32 := BitVec.ofNat 32 (i 0).val
  let c11_i32_6 : BitVec 32 := 11#32
  let v12 : BitVec 32 := Scalar.subi arg0 c11_i32_6
  let v2771 : Index := Scalar.indexCast v12
  let c960_1387 : Index := 960#32
  let c256_1388 : Index := 256#32
  ![v2771.toNat, 960, 256]
def k0_off131 (i : grid0.Coords) : Fin 3 → Nat :=
  let arg0 : BitVec 32 := BitVec.ofNat 32 (i 0).val
  let c11_i32_6 : BitVec 32 := 11#32
  let v12 : BitVec 32 := Scalar.subi arg0 c11_i32_6
  let v2817 : Index := Scalar.indexCast v12
  let c992_1410 : Index := 992#32
  let c0_1411 : Index := 0#32
  ![v2817.toNat, 992, 0]
def k0_off132 (i : grid0.Coords) : Fin 3 → Nat :=
  let arg0 : BitVec 32 := BitVec.ofNat 32 (i 0).val
  let c11_i32_6 : BitVec 32 := 11#32
  let v12 : BitVec 32 := Scalar.subi arg0 c11_i32_6
  let v2861 : Index := Scalar.indexCast v12
  let c992_1432 : Index := 992#32
  let c256_1433 : Index := 256#32
  ![v2861.toNat, 992, 256]
def k0_cond3 (i : grid0.Coords) : BitVec 1 :=
  let arg0 : BitVec 32 := BitVec.ofNat 32 (i 0).val
  let c11_i32_2 : BitVec 32 := 11#32
  let v6 : BitVec 1 := Scalar.cmpi .eq arg0 c11_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c11_i32 : BitVec 32 := 11#32
  let v0 : BitVec 32 := Scalar.remsi arg0 c11_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 3 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S1024x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1024x512 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceAIdeal.lean ====
abbrev S1x1024x2048 : Shape := ⟨3, ![1, 1024, 2048]⟩
abbrev S1x1024 : Shape := ⟨2, ![1, 1024]⟩
abbrev S1x1024x2x5632 : Shape := ⟨4, ![1, 1024, 2, 5632]⟩
abbrev S1x1024x5632 : Shape := ⟨3, ![1, 1024, 5632]⟩
abbrev S5632x2048 : Shape := ⟨2, ![5632, 2048]⟩
abbrev S2048 : Shape := ⟨1, ![2048]⟩
abbrev S1024x2048 : Shape := ⟨2, ![1024, 2048]⟩
abbrev S1024x1 : Shape := ⟨2, ![1024, 1]⟩
abbrev S1024x5632 : Shape := ⟨2, ![1024, 5632]⟩

abbrev nBuf : Space → Nat
  | .hbm => 13
  | .vmem => 5
  | .smem => 0
  | _ => 0

abbrev bufTy : (tb : Table) → Fin (tcTables nBuf tb) → BufTy
  | .hbm, ⟨0, _⟩ => ⟨S1x1024x2048, .fp8e5m2⟩
  | .hbm, ⟨1, _⟩ => ⟨S1x1024, .f32⟩
  | .hbm, ⟨2, _⟩ => ⟨S1x1024x2x5632, .fp8e4m3⟩
  | .hbm, ⟨3, _⟩ => ⟨S1x1024, .f32⟩
  | .hbm, ⟨4, _⟩ => ⟨S1x1024x5632, .fp8e4m3⟩
  | .hbm, ⟨5, _⟩ => ⟨S1x1024, .f32⟩
  | .hbm, ⟨6, _⟩ => ⟨S5632x2048, .fp8e4m3⟩
  | .hbm, ⟨7, _⟩ => ⟨S2048, .f32⟩
  | .hbm, ⟨8, _⟩ => ⟨S1024x2048, .fp8e5m2⟩
  | .hbm, ⟨9, _⟩ => ⟨S1024x1, .f32⟩
  | .hbm, ⟨10, _⟩ => ⟨S1024x5632, .fp8e4m3⟩
  | .hbm, ⟨11, _⟩ => ⟨S1024x1, .f32⟩
  | .hbm, ⟨12, _⟩ => ⟨S5632x2048, .bf16⟩
  | .local _ .vmem, ⟨0, _⟩ => ⟨S1024x2048, .fp8e5m2⟩
  | .local _ .vmem, ⟨1, _⟩ => ⟨S1024x1, .f32⟩
  | .local _ .vmem, ⟨2, _⟩ => ⟨S1024x5632, .fp8e4m3⟩
  | .local _ .vmem, ⟨3, _⟩ => ⟨S1024x1, .f32⟩
  | .local _ .vmem, ⟨4, _⟩ => ⟨S5632x2048, .bf16⟩
  | _, _ => ⟨S1x1024x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5632x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.K.Points.lean ====
/- What the runs of the body of `proj_bwd` are stated over: its branch conditions in closed form over the points, where its windows are idle, the staging and scratch memrefs. -/
module

public import proofs.«01_k».proof.Proof.Gen.Kernel.Frame
public import proofs.«01_k».proof.Proof.Gen.Kernel.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 34 = 0 :=
  (fun t => by
    have ht : t.val < 34 := Nat.lt_of_lt_of_eq t.isLt N_0
    have e0 : (grid0.coords t 0).val = t.val / 1 % 34 := Pipeline.Grid.coords_val t 0 (by decide) rfl
    simp only [cond0_0, k0_cond1, e0]
    word_cmp
   : ∀ t : Fin grid0.N, cond0_0 (grid0.coords t) ↔ t.val % 34 = 0)

/-- The condition of the body's `scf.if` 1 (`k0_h2`), from the grid coordinates (the skeleton's scalar
    chain substituted). -/
abbrev cond0_1 (i : grid0.Coords) : Prop := k0_cond2 i = 1#1
/-- It holds at the points before point 22 — decided over the grid. -/
theorem hcond0_1 : ∀ t : Fin cfg0.N, cond0_1 (grid0.coords t) ↔ t.val < 22 :=
  (by decide +kernel : ∀ t : Fin grid0.N, cond0_1 (grid0.coords t) ↔ t.val < 22)

/-- The condition of the body's `scf.if` 2 (`k0_h3`), from the grid coordinates (the skeleton's scalar
    chain substituted). -/
abbrev cond0_2 (i : grid0.Coords) : Prop := k0_cond3 i = 1#1
/-- It holds at the points from point 22 on — decided over the grid. -/
theorem hcond0_2 : ∀ t : Fin cfg0.N, cond0_2 (grid0.coords t) ↔ 22 ≤ t.val :=
  (by decide +kernel : ∀ t : Fin grid0.N, cond0_2 (grid0.coords t) ↔ 22 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- At the points of case A the printed configuration (`Cfg.idle`) calls output 11 live: the case stores into it. -/
theorem liveAt0_11_A : ∀ t : Fin cfg0.N, cond0_0 (grid0.coords t) → cond0_1 (grid0.coords t) → ¬cond0_2 (grid0.coords t) → cfg0.idle 11 (grid0.coords t) = false := by decide +kernel
/-- At the points of case B the printed configuration (`Cfg.idle`) calls output 11 live: the case stores into it. -/
theorem liveAt0_11_B : ∀ t : Fin cfg0.N, ¬cond0_0 (grid0.coords t) → cond0_1 (grid0.coords t) → ¬cond0_2 (grid0.coords t) → cfg0.idle 11 (grid0.coords t) = false := by decide +kernel
/-- At the points of case C the body stores nothing into output 11. -/
theorem idleAt0_11_C : ∀ t : Fin cfg0.N, ¬cond0_0 (grid0.coords t) → ¬cond0_1 (grid0.coords t) → cond0_2 (grid0.coords t) → cfg0.idle 11 (grid0.coords t) = true := by decide +kernel
/-- Whether output 11's buffer is fresh at each position: the block of points 0 to 20 is written back right after the point, the
    block of point 21 stays until the last point. -/
def freshTab0_11 : ℕ → Bool
  | 0 => true
  | n + 1 => (0x2001FFFFF : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case C output 11's buffer still holds what point 21 stored. -/
theorem notFresh0_11_C : ∀ t : Fin cfg0.N, ¬cond0_0 (grid0.coords t) → ¬cond0_1 (grid0.coords t) → cond0_2 (grid0.coords t) → cfg0.fresh 11 t.val = false := by
  intro t; rw [fresh0_11_eq t]; revert t; decide +kernel
/-- At the points of case A the printed configuration (`Cfg.idle`) calls output 12 idle: the case stores nothing into it. -/
theorem idleAt0_12_A : ∀ t : Fin cfg0.N, cond0_0 (grid0.coords t) → cond0_1 (grid0.coords t) → ¬cond0_2 (grid0.coords t) → cfg0.idle 12 (grid0.coords t) = true := by decide +kernel
/-- At the points of case A the pipeline does not write output 12's block back. -/
theorem noFlush0_12_A : ∀ t : Fin cfg0.N, cond0_0 (grid0.coords t) → cond0_1 (grid0.coords t) → ¬cond0_2 (grid0.coords t) → (cfg0.win 12).flush t = false := by decide +kernel
/-- At the points of case B the printed configuration (`Cfg.idle`) calls output 12 idle: the case stores nothing into it. -/
theorem idleAt0_12_B : ∀ t : Fin cfg0.N, ¬cond0_0 (grid0.coords t) → cond0_1 (grid0.coords t) → ¬cond0_2 (grid0.coords t) → cfg0.idle 12 (grid0.coords t) = true := by decide +kernel
/-- At the points of case B the pipeline does not write output 12's block back. -/
theorem noFlush0_12_B : ∀ t : Fin cfg0.N, ¬cond0_0 (grid0.coords t) → cond0_1 (grid0.coords t) → ¬cond0_2 (grid0.coords t) → (cfg0.win 12).flush t = false := by decide +kernel
/-- At the points of case C the printed configuration (`Cfg.idle`) calls output 12 live: the case stores into it. -/
theorem liveAt0_12_C : ∀ t : Fin cfg0.N, ¬cond0_0 (grid0.coords t) → ¬cond0_1 (grid0.coords t) → cond0_2 (grid0.coords t) → cfg0.idle 12 (grid0.coords t) = false := by decide +kernel
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x200000000 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cond0_1 (grid0.coords t) → ¬cond0_2 (grid0.coords t) → cfg0.idle 13 (grid0.coords t) = false := by decide +kernel
/-- At the points of case B the printed configuration (`Cfg.idle`) calls output 13 live: the case stores into it. -/
theorem liveAt0_13_B : ∀ t : Fin cfg0.N, ¬cond0_0 (grid0.coords t) → cond0_1 (grid0.coords t) → ¬cond0_2 (grid0.coords t) → cfg0.idle 13 (grid0.coords t) = false := by decide +kernel
/-- At the points of case B, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_B : ∀ t : Fin cfg0.N, ¬cond0_0 (grid0.coords t) → cond0_1 (grid0.coords t) → ¬cond0_2 (grid0.coords t) → cfg0.fresh 13 t.val = false := by
  intro t; rw [fresh0_13_eq t]; revert t; decide +kernel
/-- At the points of case C the printed configuration (`Cfg.idle`) calls output 13 live: the case stores into it. -/
theorem liveAt0_13_C : ∀ t : Fin cfg0.N, ¬cond0_0 (grid0.coords t) → ¬cond0_1 (grid0.coords t) → cond0_2 (grid0.coords t) → cfg0.idle 13 (grid0.coords t) = false := by decide +kernel
/-- At the points of case C, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_C : ∀ t : Fin cfg0.N, ¬cond0_0 (grid0.coords t) → ¬cond0_1 (grid0.coords t) → cond0_2 (grid0.coords t) → cfg0.fresh 13 t.val = false := by
  intro t; rw [fresh0_13_eq t]; revert t; decide +kernel
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1024x256 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x2048x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x512 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x2x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x2048 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S2048x1024 .bf16 := Memref.whole cc0_scratch0
abbrev scM0_1 : Memref sig .tc .vmem S1024x2048 .bf16 := Memref.whole cc0_scratch1
/-- The scratch `arg15` the kernel carries between points, as a view: what it holds is stated through it. -/
abbrev VS0_0 : View sig .tc .vmem S2048x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.Step.lean ====
/- One point of the body of `proj_bwd` as pure functions of the blocks it reads. -/
module

public import proofs.«01_k».proof.Proof.K.Points

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point of the body leaves, as functions of the blocks it reads -/

/-- The four column pieces of the transposed tokens the first point stores, last first: the piece at column `256·r` from the rows
    `256·r …` of the codes and of their scales. -/
def xtPieces (x0 : Vec F S1024x2048 .fp8e4m3) (x1 : Vec F S1024x1 .f32) : List (View.Piece (Elt F) S2048x1024 .bf16) :=
  [⟨(Rect.unit (s := S2048x1024) ![0, 768] S2048x256.size inb_S2048x1024_S2048x256_0_768), k0_pay1 (View.ld x0 (Rect.unit (s := S1024x2048) ![768, 0] S256x2048.size inb_S1024x2048_S256x2048_768_0)) (View.ld x1 (Rect.unit (s := S1024x1) ![768, 0] S256x1.size inb_S1024x1_S256x1_768_0))⟩, ⟨(Rect.unit (s := S2048x1024) ![0, 512] S2048x256.size inb_S2048x1024_S2048x256_0_512), k0_pay6 (View.ld x0 (Rect.unit (s := S1024x2048) ![512, 0] S256x2048.size inb_S1024x2048_S256x2048_512_0)) (View.ld x1 (Rect.unit (s := S1024x1) ![512, 0] S256x1.size inb_S1024x1_S256x1_512_0))⟩, ⟨(Rect.unit (s := S2048x1024) ![0, 256] S2048x256.size inb_S2048x1024_S2048x256_0_256), k0_pay5 (View.ld x0 (Rect.unit (s := S1024x2048) ![256, 0] S256x2048.size inb_S1024x2048_S256x2048_256_0)) (View.ld x1 (Rect.unit (s := S1024x1) ![256, 0] S256x1.size inb_S1024x1_S256x1_256_0))⟩, ⟨(Rect.unit (s := S2048x1024) ![0, 0] S2048x256.size inb_S2048x1024_S2048x256_0_0), k0_pay4 (View.ld x0 (Rect.unit (s := S1024x2048) ![0, 0] S256x2048.size inb_S1024x2048_S256x2048_0_0)) (View.ld x1 (Rect.unit (s := S1024x1) ![0, 0] S256x1.size inb_S1024x1_S256x1_0_0))⟩]

/-- The transposed, dequantised tokens: what the first point leaves in the scratch buffer. -/
def xtOf (x0 : Vec F S1024x2048 .fp8e4m3) (x1 : Vec F S1024x1 .f32) : Vec F S2048x1024 .bf16 := View.canon (xtPieces x0 x1)

theorem xt_cover (x0 : Vec F S1024x2048 .fp8e4m3) (x1 : Vec F S1024x1 .f32) (y : S2048x1024.Idx) : ∃ pc ∈ xtPieces x0 x1, y ∈ pc.1.set :=
  View.cover_of_tiledL (xtPieces x0 x1) S2048x256.size (by sl_kernel_rfl) y

/-- A load of the whole scratch buffer after the four stores. -/
theorem xt_readCov (v : View sig .tc .vmem S2048x1024 .bf16) (x0 : Vec F S1024x2048 .fp8e4m3) (x1 : Vec F S1024x1 .f32) :
    v.readCov [⟨(Rect.unit (s := S2048x1024) ![0, 768] S2048x256.size inb_S2048x1024_S2048x256_0_768), k0_pay1 (View.ld x0 (Rect.unit (s := S1024x2048) ![768, 0] S256x2048.size inb_S1024x2048_S256x2048_768_0)) (View.ld x1 (Rect.unit (s := S1024x1) ![768, 0] S256x1.size inb_S1024x1_S256x1_768_0))⟩, ⟨(Rect.unit (s := S2048x1024) ![0, 512] S2048x256.size inb_S2048x1024_S2048x256_0_512), k0_pay6 (View.ld x0 (Rect.unit (s := S1024x2048) ![512, 0] S256x2048.size inb_S1024x2048_S256x2048_512_0)) (View.ld x1 (Rect.unit (s := S1024x1) ![512, 0] S256x1.size inb_S1024x1_S256x1_512_0))⟩, ⟨(Rect.unit (s := S2048x1024) ![0, 256] S2048x256.size inb_S2048x1024_S2048x256_0_256), k0_pay5 (View.ld x0 (Rect.unit (s := S1024x2048) ![256, 0] S256x2048.size inb_S1024x2048_S256x2048_256_0)) (View.ld x1 (Rect.unit (s := S1024x1) ![256, 0] S256x1.size inb_S1024x1_S256x1_256_0))⟩, ⟨(Rect.unit (s := S2048x1024) ![0, 0] S2048x256.size inb_S2048x1024_S2048x256_0_0), k0_pay4 (View.ld x0 (Rect.unit (s := S1024x2048) ![0, 0] S256x2048.size inb_S1024x2048_S256x2048_0_0)) (View.ld x1 (Rect.unit (s := S1024x1) ![0, 0] S256x1.size inb_S1024x1_S256x1_0_0))⟩] (Rect.unit (s := S2048x1024) ![0, 0] S2048x1024.size inb_S2048x1024_S2048x1024_0_0).toLoadRect = xtOf x0 x1 := by
  refine (View.readCov_eq_canon v (xtPieces x0 x1) _ fun j => xt_cover x0 x1 _).trans ?_
  exact View.ld_unit_zero (S := S2048x1024) (funext fun a => by fin_cases a <;> rfl) _ (View.canon (xtPieces x0 x1))

/-- The zero block. -/
def zdw : Vec F S2048x2x256 .bf16 := fun _ => Scalar.ofBits .bf16 0x0000#16

/-- The `dw_in` block a point leaves: its two halves, one after the other. -/
def dwinOf (x2 : Vec F S1024x1 .f32) (x4 : Vec F S2048x1 .f32) (x7 : Vec F S2x1024x256 .fp8e5m2) (xt : Vec F S2048x1024 .bf16) : Vec F S2048x2x256 .bf16 :=
  updateSlice (updateSlice zdw (k0_pay7 (View.ld x7 (Rect.unit (s := S2x1024x256) ![0, 0, 0] S1x1024x256.size inb_S2x1024x256_S1x1024x256_0_0_0)) x2 xt x4) ![0, 0, 0] slices_S2048x2x256_S2048x1x256_0_0_0)
    (k0_pay12 (View.ld x7 (Rect.unit (s := S2x1024x256) ![1, 0, 0] S1x1024x256.size inb_S2x1024x256_S1x1024x256_1_0_0)) x2 xt x4) ![0, 1, 0] slices_S2048x2x256_S2048x1x256_0_1_0

/-- The `dh` accumulator after the half-step of the first half. -/
def dhHalf (x2 : Vec F S1024x1 .f32) (x5 : Vec F S2x256 .f32) (x7 : Vec F S2x1024x256 .fp8e5m2) (x8 : Vec F S2x2048x256 .fp8e4m3) (xo : Vec F S1024x2048 .f32) : Vec F S1024x2048 .f32 :=
  k0_pay11 (k0_pay8 xo) (k0_pay9 (View.ld x7 (Rect.unit (s := S2x1024x256) ![0, 0, 0] S1x1024x256.size inb_S2x1024x256_S1x1024x256_0_0_0)) (View.ld x5 (Rect.unit (s := S2x256) ![0, 0] S1x256.size inb_S2x256_S1x256_0_0)) (View.ld x8 (Rect.unit (s := S2x2048x256) ![0, 0, 0] S1x2048x256.size inb_S2x2048x256_S1x2048x256_0_0_0))) (k0_pay10 x2)

/-- The `dh` accumulator after a point of the `w_in` part: two blocks of columns added. -/
def dhFF (x2 : Vec F S1024x1 .f32) (x5 : Vec F S2x256 .f32) (x7 : Vec F S2x1024x256 .fp8e5m2) (x8 : Vec F S2x2048x256 .fp8e4m3) (xo : Vec F S1024x2048 .f32) : Vec F S1024x2048 .f32 :=
  k0_pay3 (k0_pay13 (View.ld x8 (Rect.unit (s := S2x2048x256) ![1, 0, 0] S1x2048x256.size inb_S2x2048x256_S1x2048x256_1_0_0))) (k0_pay14 x2) (k0_pay15 (View.ld x7 (Rect.unit (s := S2x1024x256) ![1, 0, 0] S1x1024x256.size inb_S2x1024x256_S1x1024x256_1_0_0)) (View.ld x5 (Rect.unit (s := S2x256) ![1, 0] S1x256.size inb_S2x256_S1x256_1_0))) (dhHalf x2 x5 x7 x8 xo)

/-- The `dw_qkv` block a point leaves. -/
def dwqOf (x3 : Vec F S1024x1 .f32) (x4 : Vec F S2048x1 .f32) (x9 : Vec F S1024x512 .fp8e5m2) (xt : Vec F S2048x1024 .bf16) : Vec F S2048x512 .bf16 := k0_pay16 x9 x3 xt x4

/-- The `dh` accumulator after a point of the `w_qkv` part. -/
def dhQ (x3 : Vec F S1024x1 .f32) (x6 : Vec F S1x512 .f32) (x9 : Vec F S1024x512 .fp8e5m2) (x10 : Vec F S2048x512 .fp8e4m3) (xo : Vec F S1024x2048 .f32) : Vec F S1024x2048 .f32 := k0_pay17 x9 x6 x10 x3 xo

/-! ## Reading back what the stores left -/

theorem hz2 : (![0, 0] : Fin 2 → Nat) = fun _ => 0 := funext fun a => by fin_cases a <;> rfl
theorem hz3 : (![0, 0, 0] : Fin 3 → Nat) = fun _ => 0 := funext fun a => by fin_cases a <;> rfl

/-- A store of the whole buffer, last, is what the buffer reads. -/
theorem read_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rwa [Rect.emb_whole_apply] at e

/-- A load of the whole buffer after such a store reads the payload. -/
theorem readCov_whole {κ : Kind} {sp : Space} {S : Shape} {e : EltTy} (v : View sig κ sp S e) {off : Fin S.rank → Nat}
    (h : off = fun _ => 0) (inb inb' : ∀ a, off a + S.size a ≤ S.size a) (w : S.Idx → Elt F e) (L : List (View.Piece (Elt F) S e)) :
    v.readCov ((⟨Rect.unit off S.size inb, w⟩ : View.Piece (Elt F) S e) :: L) (Rect.unit off S.size inb').toLoadRect = w := by
  refine Eq.trans (b := View.ld (v.read (Elt F) (v.writes (Elt F) v.junk ((⟨Rect.unit off S.size inb, w⟩ : View.Piece (Elt F) S e) :: L)))
    (Rect.unit off S.size inb')) rfl ?_
  rw [read_whole v _ h, View.ld_unit_zero h]

/-- The two halves cover the block, so what was there before does not matter. -/
theorem two_halves (f : Vec F S2048x2x256 .bf16) (p q : Vec F S2048x1x256 .bf16) :
    updateSlice (updateSlice f p ![0, 0, 0] slices_S2048x2x256_S2048x1x256_0_0_0) q ![0, 1, 0] slices_S2048x2x256_S2048x1x256_0_1_0
      = updateSlice (updateSlice zdw p ![0, 0, 0] slices_S2048x2x256_S2048x1x256_0_0_0) q ![0, 1, 0] slices_S2048x2x256_S2048x1x256_0_1_0 := by
  funext i
  unfold updateSlice
  split
  · rfl
  · next h1 =>
    split
    · rfl
    · next h0 =>
      exfalso
      have l0 := (i 0).isLt
      have l1 := (i 1).isLt
      have l2 := (i 2).isLt
      have : (i 1).val = 0 ∨ (i 1).val = 1 := by
        have : (i 1).val < 2 := l1
        omega
      rcases this with e | e
      · exact h0 fun a => by
          match a with
          | ⟨0, _⟩ => exact ⟨Nat.zero_le _, by simpa using l0⟩
          | ⟨1, _⟩ => exact ⟨Nat.zero_le _, by show (i 1).val < 0 + 1; omega⟩
          | ⟨2, _⟩ => exact ⟨Nat.zero_le _, by simpa using l2⟩
      · exact h1 fun a => by
          match a with
          | ⟨0, _⟩ => exact ⟨Nat.zero_le _, by simpa using l0⟩
          | ⟨1, _⟩ => exact ⟨by show 1 ≤ (i 1).val; omega, by show (i 1).val < 1 + 1; omega⟩
          | ⟨2, _⟩ => exact ⟨Nat.zero_le _, by simpa using l2⟩

end Cert.Kernel.Hand

end
-- ==== Proof.K.RunA.lean ====
/- The run of the body of `proj_bwd`, case A. -/
module

public import proofs.«01_k».proof.Proof.K.Step

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the first point: on whole staging memrefs holding the given blocks it leaves the values of one step. -/
theorem run_A (c : Dev nD) (i : grid0.Coords) (arg1 : Memref sig .tc .vmem S1024x2048 .fp8e4m3) (harg1 : arg1.IsWhole) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S2x256 .f32) (harg6 : arg6.IsWhole) (arg7 : Memref sig .tc .vmem S1x512 .f32) (harg7 : arg7.IsWhole) (arg8 : Memref sig .tc .vmem S2x1024x256 .fp8e5m2) (harg8 : arg8.IsWhole) (arg9 : Memref sig .tc .vmem S2x2048x256 .fp8e4m3) (harg9 : arg9.IsWhole) (arg10 : Memref sig .tc .vmem S1024x512 .fp8e5m2) (harg10 : arg10.IsWhole) (arg11 : Memref sig .tc .vmem S2048x512 .fp8e4m3) (harg11 : arg11.IsWhole) (arg12 : Memref sig .tc .vmem S2048x2x256 .bf16) (harg12 : arg12.IsWhole) (arg13 : Memref sig .tc .vmem S2048x512 .bf16) (harg13 : arg13.IsWhole) (arg14 : Memref sig .tc .vmem S1024x2048 .f32) (harg14 : arg14.IsWhole) (arg15 : Memref sig .tc .vmem S2048x1024 .bf16) (harg15 : arg15.IsWhole) (arg16 : Memref sig .tc .vmem S1024x2048 .bf16) (harg16 : arg16.IsWhole) (hc0 : cond0_0 i) (hc1 : cond0_1 i) (hc2 : ¬cond0_2 i)
    (x0 : Vec F S1024x2048 .fp8e4m3) (x1 : Vec F S1024x1 .f32) (x2 : Vec F S1024x1 .f32) (x3 : Vec F S1024x1 .f32) (x4 : Vec F S2048x1 .f32) (x5 : Vec F S2x256 .f32) (x6 : Vec F S1x512 .f32) (x7 : Vec F S2x1024x256 .fp8e5m2) (x8 : Vec F S2x2048x256 .fp8e4m3) (x9 : Vec F S1024x512 .fp8e5m2) (x10 : Vec F S2048x512 .fp8e4m3) (xi : Vec F S2048x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (dwinOf x2 x4 x7 (xtOf x0 x1)) ∗ owns (c : Thread nD τ) arg13 fullShare xi ∗ owns (c : Thread nD τ) arg14 fullShare (dhFF x2 x5 x7 x8 (k0_pay2 (F := F))) ∗ owns (c : Thread nD τ) arg15 fullShare (xtOf x0 x1) ∗ (∃ d, owns (c : Thread nD τ) arg16 fullShare d)) -∗ K ⟨⟩))
      ⊢ wp frame (wpE (defs₀ (F := F)) Variants.none c none) E (cc0_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_proj_bwd_eq_skeleton]; unfold cc0_proj_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro
    sl_unfold_words
    refine (read_whole (S := S2048x2x256) arg12.view _ hz3 _ _ _).trans ?_
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
    have e := xt_readCov arg15.view x0 x1
    dsimp only [S2048x1024, S2048x256, S256x2048, S256x1] at e
    rw [e]
    exact two_halves _ _ _
  isplitl [H12]
  · iexists _; isplitr; · ipureintro; exact harg13.read_unread _
    iexact H12
  isplitl [H13]
  · iexists _; isplitr; swap; · iexact H13
    ipureintro
    sl_unfold_words
    refine (read_whole (S := S1024x2048) arg14.view _ hz2 _ _ _).trans ?_
    unfold dhFF dhHalf
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
    rw [readCov_whole (S := S1024x2048) arg14.view hz2]
  isplitl [H14]
  · iexists _; isplitr; swap; · iexact H14
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
    exact View.read_writes_eq_canon _ _ _ (xt_cover x0 x1)
  iexists _, _; isplitr; swap; · iexact H15
  ipureintro; rfl

end Cert.Kernel.Hand

end
-- ==== Proof.K.RunB.lean ====
/- The run of the body of `proj_bwd`, case B. -/
module

public import proofs.«01_k».proof.Proof.K.Step

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at a later point of the `w_in` part: on whole staging memrefs holding the given blocks it leaves the values of one step. -/
theorem run_B (c : Dev nD) (i : grid0.Coords) (arg1 : Memref sig .tc .vmem S1024x2048 .fp8e4m3) (harg1 : arg1.IsWhole) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S2x256 .f32) (harg6 : arg6.IsWhole) (arg7 : Memref sig .tc .vmem S1x512 .f32) (harg7 : arg7.IsWhole) (arg8 : Memref sig .tc .vmem S2x1024x256 .fp8e5m2) (harg8 : arg8.IsWhole) (arg9 : Memref sig .tc .vmem S2x2048x256 .fp8e4m3) (harg9 : arg9.IsWhole) (arg10 : Memref sig .tc .vmem S1024x512 .fp8e5m2) (harg10 : arg10.IsWhole) (arg11 : Memref sig .tc .vmem S2048x512 .fp8e4m3) (harg11 : arg11.IsWhole) (arg12 : Memref sig .tc .vmem S2048x2x256 .bf16) (harg12 : arg12.IsWhole) (arg13 : Memref sig .tc .vmem S2048x512 .bf16) (harg13 : arg13.IsWhole) (arg14 : Memref sig .tc .vmem S1024x2048 .f32) (harg14 : arg14.IsWhole) (arg15 : Memref sig .tc .vmem S2048x1024 .bf16) (harg15 : arg15.IsWhole) (arg16 : Memref sig .tc .vmem S1024x2048 .bf16) (harg16 : arg16.IsWhole) (hc0 : ¬cond0_0 i) (hc1 : cond0_1 i) (hc2 : ¬cond0_2 i)
    (x0 : Vec F S1024x2048 .fp8e4m3) (x1 : Vec F S1024x1 .f32) (x2 : Vec F S1024x1 .f32) (x3 : Vec F S1024x1 .f32) (x4 : Vec F S2048x1 .f32) (x5 : Vec F S2x256 .f32) (x6 : Vec F S1x512 .f32) (x7 : Vec F S2x1024x256 .fp8e5m2) (x8 : Vec F S2x2048x256 .fp8e4m3) (x9 : Vec F S1024x512 .fp8e5m2) (x10 : Vec F S2048x512 .fp8e4m3) (xo : Vec F S1024x2048 .f32) (xs : Vec F S2048x1024 .bf16) (xi : Vec F S2048x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi ∗ owns (c : Thread nD τ) arg14 fullShare xo ∗ owns (c : Thread nD τ) arg15 fullShare xs ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (dwinOf x2 x4 x7 xs) ∗ owns (c : Thread nD τ) arg13 fullShare xi ∗ owns (c : Thread nD τ) arg14 fullShare (dhFF x2 x5 x7 x8 xo) ∗ owns (c : Thread nD τ) arg15 fullShare xs ∗ (∃ d, owns (c : Thread nD τ) arg16 fullShare d)) -∗ K ⟨⟩))
      ⊢ wp frame (wpE (defs₀ (F := F)) Variants.none c none) E (cc0_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_proj_bwd_eq_skeleton]; unfold cc0_proj_bwd_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg14.eq_unread hf13; obtain rfl := harg15.eq_unread hf14
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro
    sl_unfold_words
    refine (read_whole (S := S2048x2x256) arg12.view _ hz3 _ _ _).trans ?_
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
    exact two_halves _ _ _
  isplitl [H12]
  · iexists _; isplitr; · ipureintro; exact harg13.read_unread _
    iexact H12
  isplitl [H13]
  · iexists _; isplitr; swap; · iexact H13
    ipureintro
    sl_unfold_words
    refine (read_whole (S := S1024x2048) arg14.view _ hz2 _ _ _).trans ?_
    unfold dhFF dhHalf
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
  isplitl [H14]
  · iexists _; isplitr; · ipureintro; exact harg15.read_unread _
    iexact H14
  iexists _, _; isplitr; swap; · iexact H15
  ipureintro; rfl

end Cert.Kernel.Hand

end
-- ==== Proof.K.RunC.lean ====
/- The run of the body of `proj_bwd`, case C. -/
module

public import proofs.«01_k».proof.Proof.K.Step

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at a point of the `w_qkv` part: on whole staging memrefs holding the given blocks it leaves the values of one step. -/
theorem run_C (c : Dev nD) (i : grid0.Coords) (arg1 : Memref sig .tc .vmem S1024x2048 .fp8e4m3) (harg1 : arg1.IsWhole) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S2x256 .f32) (harg6 : arg6.IsWhole) (arg7 : Memref sig .tc .vmem S1x512 .f32) (harg7 : arg7.IsWhole) (arg8 : Memref sig .tc .vmem S2x1024x256 .fp8e5m2) (harg8 : arg8.IsWhole) (arg9 : Memref sig .tc .vmem S2x2048x256 .fp8e4m3) (harg9 : arg9.IsWhole) (arg10 : Memref sig .tc .vmem S1024x512 .fp8e5m2) (harg10 : arg10.IsWhole) (arg11 : Memref sig .tc .vmem S2048x512 .fp8e4m3) (harg11 : arg11.IsWhole) (arg12 : Memref sig .tc .vmem S2048x2x256 .bf16) (harg12 : arg12.IsWhole) (arg13 : Memref sig .tc .vmem S2048x512 .bf16) (harg13 : arg13.IsWhole) (arg14 : Memref sig .tc .vmem S1024x2048 .f32) (harg14 : arg14.IsWhole) (arg15 : Memref sig .tc .vmem S2048x1024 .bf16) (harg15 : arg15.IsWhole) (arg16 : Memref sig .tc .vmem S1024x2048 .bf16) (harg16 : arg16.IsWhole) (hc0 : ¬cond0_0 i) (hc1 : ¬cond0_1 i) (hc2 : cond0_2 i)
    (x0 : Vec F S1024x2048 .fp8e4m3) (x1 : Vec F S1024x1 .f32) (x2 : Vec F S1024x1 .f32) (x3 : Vec F S1024x1 .f32) (x4 : Vec F S2048x1 .f32) (x5 : Vec F S2x256 .f32) (x6 : Vec F S1x512 .f32) (x7 : Vec F S2x1024x256 .fp8e5m2) (x8 : Vec F S2x2048x256 .fp8e4m3) (x9 : Vec F S1024x512 .fp8e5m2) (x10 : Vec F S2048x512 .fp8e4m3) (xo : Vec F S1024x2048 .f32) (xs : Vec F S2048x1024 .bf16) (xi : Vec F S2048x2x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi ∗ (∃ d, owns (c : Thread nD τ) arg13 fullShare d) ∗ owns (c : Thread nD τ) arg14 fullShare xo ∗ owns (c : Thread nD τ) arg15 fullShare xs ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi ∗ owns (c : Thread nD τ) arg13 fullShare (dwqOf x3 x4 x9 xs) ∗ owns (c : Thread nD τ) arg14 fullShare (dhQ x3 x6 x9 x10 xo) ∗ owns (c : Thread nD τ) arg15 fullShare xs ∗ (∃ d, owns (c : Thread nD τ) arg16 fullShare d)) -∗ K ⟨⟩))
      ⊢ wp frame (wpE (defs₀ (F := F)) Variants.none c none) E (cc0_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_proj_bwd_eq_skeleton]; unfold cc0_proj_bwd_skel
  simp only [k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    sl_unfold_words
    refine (read_whole (S := S2048x512) arg13.view _ hz2 _ _ _).trans ?_
    unfold dwqOf
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
  isplitl [H13]
  · iexists _; isplitr; swap; · iexact H13
    ipureintro
    sl_unfold_words
    refine (read_whole (S := S1024x2048) arg14.view _ hz2 _ _ _).trans ?_
    unfold dhQ
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
  isplitl [H14]
  · iexists _; isplitr; · ipureintro; exact harg15.read_unread _
    iexact H14
  iexists _, _; isplitr; swap; · iexact H15
  ipureintro; rfl

end Cert.Kernel.Hand

end
-- ==== Proof.K.Frame.lean ====
/- The frame of `proj_bwd`: the values every point leaves, the body at every point, the run. -/
module

public import proofs.«01_k».proof.Proof.K.RunA
public import proofs.«01_k».proof.Proof.K.RunB
public import proofs.«01_k».proof.Proof.K.RunC
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The first point. -/
def p0 : Fin cfg0.N := ⟨0, by rw [show cfg0.N = 34 from N_0]; decide⟩

/-- The point whose `dw_in` block the window holds at point `t`: `t` itself, 21 from there on. -/
def p21 (t : Fin cfg0.N) : Fin cfg0.N := ⟨min t.val 21, Nat.lt_of_le_of_lt (Nat.min_le_left _ _) t.isLt⟩

/-- The transposed tokens, as the first point leaves them. -/
def xtAt (c : Dev nD) : Vec F S2048x1024 .bf16 := xtOf (iblk m c 0 p0) (iblk m c 1 p0)

/-- The `dw_in` block held after point `t`. -/
def dwinAt (c : Dev nD) (t : Fin cfg0.N) : Vec F S2048x2x256 .bf16 :=
  dwinOf (iblk m c 2 (p21 t)) (iblk m c 4 (p21 t)) (iblk m c 7 (p21 t)) (xtAt m c)

/-- The `dw_qkv` block of point `t`. -/
def dwqAt (c : Dev nD) (t : Fin cfg0.N) : Vec F S2048x512 .bf16 :=
  dwqOf (iblk m c 3 t) (iblk m c 4 t) (iblk m c 9 t) (xtAt m c)

/-- One point's addition to the accumulator. -/
def dhStep (c : Dev nD) (t : Fin cfg0.N) (xo : Vec F S1024x2048 .f32) : Vec F S1024x2048 .f32 :=
  if t.val < 22 then dhFF (iblk m c 2 t) (iblk m c 5 t) (iblk m c 7 t) (iblk m c 8 t) xo
  else dhQ (iblk m c 3 t) (iblk m c 6 t) (iblk m c 9 t) (iblk m c 10 t) xo

/-- The accumulator after point `n`: the zero block, then every point's addition in order. -/
def dhAt (c : Dev nD) : (n : ℕ) → n < cfg0.N → Vec F S1024x2048 .f32
  | 0, h => dhStep m c ⟨0, h⟩ (k0_pay2 (F := F))
  | n + 1, h => dhStep m c ⟨n + 1, h⟩ (dhAt c n (Nat.lt_of_succ_lt h))

theorem dhAt_first (c : Dev nD) (t : Fin cfg0.N) (hz : t.val = 0) (h1 : t.val < 22) :
    dhAt m c t.val t.isLt = dhFF (iblk m c 2 t) (iblk m c 5 t) (iblk m c 7 t) (iblk m c 8 t) (k0_pay2 (F := F)) := by
  obtain ⟨n, hn⟩ := t
  cases n with
  | zero => show dhStep m c _ _ = _; unfold dhStep; rw [if_pos h1]
  | succ n => exact absurd hz (Nat.succ_ne_zero n)

theorem dhAt_later (c : Dev nD) (t : Fin cfg0.N) (hz : t.val ≠ 0) :
    dhAt m c t.val t.isLt = dhStep m c t (dhAt m c (t.val - 1) (Nat.lt_of_le_of_lt (Nat.sub_le _ _) t.isLt)) := by
  obtain ⟨n, hn⟩ := t
  cases n with
  | zero => exact absurd rfl hz
  | succ n => rfl

/-! ## The region's invariant and the pipeline's proof data -/

/-- The region's invariant before position `n`: before the first point every scratch buffer at anything, afterwards the transposed
    tokens in the first scratch buffer, the second at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (xtAt m c) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xtAt m c) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (xtAt m c) ∗ (∃ d, owns (c : Thread nD τ) scM0_1 fullShare d)) ∗ (∃ r, prngReg c r)) := by
  cases n with
  | zero => exact absurd rfl hz
  | succ n => rfl

/-- The proof data: the arrays as the region finds them; after a point each input's buffer at its block and the outputs' at the
    values above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dwinAt m c t
    | ⟨12, _⟩ => dwqAt m c t
    | ⟨13, _⟩ => dhAt m c t.val t.isLt
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = dwinAt m c t := by dsimp only [dats]
theorem after0_12 (c : Dev nD) (t : Fin cfg0.N) : (dats m 0 c).after 12 t = dwqAt m c t := by dsimp only [dats]
theorem after0_13 (c : Dev nD) (t : Fin cfg0.N) : (dats m 0 c).after 13 t = dhAt m c t.val t.isLt := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 34 := lt_of_lt_of_eq t.isLt (show cfg0.N = 34 from N_0)
  rw [after0_13, after0_13]
  by_cases h0 : t.val % 34 = 0
  · by_cases h1 : t.val < 22
    · by_cases h2 : 22 ≤ t.val
      · exfalso; omega
      · rw [liveAt0_13_A t ((hcond0_0 t).mpr h0) ((hcond0_1 t).mpr h1) (fun h => h2 ((hcond0_2 t).mp h))] at hi
        exact absurd hi Bool.false_ne_true
    · exfalso; omega
  · by_cases h1 : t.val < 22
    · by_cases h2 : 22 ≤ t.val
      · exfalso; omega
      · rw [liveAt0_13_B t (fun h => h0 ((hcond0_0 t).mp h)) ((hcond0_1 t).mpr h1) (fun h => h2 ((hcond0_2 t).mp h))] at hi
        exact absurd hi Bool.false_ne_true
    · by_cases h2 : 22 ≤ t.val
      · rw [liveAt0_13_C t (fun h => h0 ((hcond0_0 t).mp h)) (fun h => h1 ((hcond0_1 t).mp h)) ((hcond0_2 t).mpr h2)] at hi
        exact absurd hi Bool.false_ne_true
      · exfalso; omega
/-- The block of output 11 stays as it is at the points that store nothing into it. -/
theorem dwinAt_carry (c : Dev nD) (t : Fin cfg0.N) (ht : 22 ≤ t.val) : dwinAt m c t = dwinAt m c ⟨t.val - 1, by omega⟩ := by
  have e : p21 t = p21 ⟨t.val - 1, by omega⟩ := Fin.ext (by show min t.val 21 = min (t.val - 1) 21; omega)
  unfold dwinAt; rw [e]

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  rw [after0_11, after0_11]
  by_cases h2 : 22 ≤ t.val
  · exact dwinAt_carry m c t h2
  · exfalso
    have h1 : t.val < 22 := by omega
    by_cases h0 : t.val % 34 = 0
    · rw [liveAt0_11_A t ((hcond0_0 t).mpr h0) ((hcond0_1 t).mpr h1) (fun h => h2 ((hcond0_2 t).mp h))] at hi
      exact absurd hi Bool.false_ne_true
    · rw [liveAt0_11_B t (fun h => h0 ((hcond0_0 t).mp h)) ((hcond0_1 t).mpr h1) (fun h => h2 ((hcond0_2 t).mp h))] at hi
      exact absurd hi Bool.false_ne_true

theorem before0_13_B (c : Dev nD) (t : Fin cfg0.N) (h0 : ¬t.val % 34 = 0) (h1 : t.val < 22) (h2 : ¬22 ≤ t.val) (d) :
    (dats m 0 c).before 13 t d = dhAt m c (t.val - 1) (Nat.lt_of_le_of_lt (Nat.sub_le _ _) t.isLt) := by
  rw [Dat.before_out_traj _ 13 rfl (fun _ _ => rfl) (hcarry0_13 m c) t.val t rfl d,
    if_neg (by rw [notFresh0_13_B t (fun h => h0 ((hcond0_0 t).mp h)) ((hcond0_1 t).mpr h1) (fun h => h2 ((hcond0_2 t).mp h))]; exact Bool.false_ne_true)]
  dsimp only [dats]
theorem before0_13_C (c : Dev nD) (t : Fin cfg0.N) (h0 : ¬t.val % 34 = 0) (h1 : ¬t.val < 22) (h2 : 22 ≤ t.val) (d) :
    (dats m 0 c).before 13 t d = dhAt m c (t.val - 1) (Nat.lt_of_le_of_lt (Nat.sub_le _ _) t.isLt) := by
  rw [Dat.before_out_traj _ 13 rfl (fun _ _ => rfl) (hcarry0_13 m c) t.val t rfl d,
    if_neg (by rw [notFresh0_13_C t (fun h => h0 ((hcond0_0 t).mp h)) (fun h => h1 ((hcond0_1 t).mp h)) ((hcond0_2 t).mpr h2)]; exact Bool.false_ne_true)]
  dsimp only [dats]
theorem before0_11_C (c : Dev nD) (t : Fin cfg0.N) (h0 : ¬t.val % 34 = 0) (h1 : ¬t.val < 22) (h2 : 22 ≤ t.val) (d) :
    (dats m 0 c).before 11 t d = dwinAt m c t := by
  rw [Dat.before_out_traj _ 11 rfl (fun _ _ => rfl) (hcarry0_11 m c) t.val t rfl d,
    if_neg (by rw [notFresh0_11_C t (fun h => h0 ((hcond0_0 t).mp h)) (fun h => h1 ((hcond0_1 t).mp h)) ((hcond0_2 t).mpr h2)]; exact Bool.false_ne_true), after0_11]
  exact (dwinAt_carry m c t h2).symm

/-- At a point of the `w_qkv` part the buffer of output 11, handed back untouched, is what the pipeline asks for, written back there
    or not. -/
theorem leaves0_11_C (c : Dev nD) (t : Fin cfg0.N) (h0 : ¬t.val % 34 = 0) (h1 : ¬t.val < 22) (h2 : 22 ≤ t.val) :
    (owns (c : Thread nD τ) (ms0_11 t) fullShare (dwinAt m c t) : sProp 𝕄) ⊢ (dats m 0 c).leavesExact 11 t := by
  unfold Dat.leavesExact
  rw [idleAt0_11_C t (fun h => h0 ((hcond0_0 t).mp h)) (fun h => h1 ((hcond0_1 t).mp h)) ((hcond0_2 t).mpr h2)]
  cases hf : (cfg0.win 11).flush t
  · dsimp only
    iintro H
    iexists (dwinAt m c t)
    rw [before0_11_C m c t h0 h1 h2]
    iexact H
  · dsimp only
    rw [after0_11]
    try exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
/-- The body at a point of case A. -/
theorem sound_A (c : Dev nD) (t : Fin cfg0.N) (h0 : t.val % 34 = 0) (h1 : t.val < 22) (h2 : ¬22 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 34 := lt_of_lt_of_eq t.isLt (show cfg0.N = 34 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11_A t ((hcond0_0 t).mpr h0) ((hcond0_1 t).mpr h1) (fun h => h2 ((hcond0_2 t).mp h))], after0_11]
  rw [Dat.leavesExact_idle (dats m 0 c) 12 t (idleAt0_12_A t ((hcond0_0 t).mpr h0) ((hcond0_1 t).mpr h1) (fun h => h2 ((hcond0_2 t).mp h))) (noFlush0_12_A t ((hcond0_0 t).mpr h0) ((hcond0_1 t).mpr h1) (fun h => h2 ((hcond0_2 t).mp h)))]
  rw [show (dats m 0 c).leavesExact 13 t = owns (c : Thread nD τ) (ms0_13 t) fullShare ((dats m 0 c).after 13 t) from by
    unfold Dat.leavesExact; rw [liveAt0_13_A t ((hcond0_0 t).mpr h0) ((hcond0_1 t).mpr h1) (fun h => h2 ((hcond0_2 t).mp h))], after0_13]
  have hz : t.val = 0 := by omega
  have ep : t = p0 := Fin.ext hz
  rw [PhiS_castSucc m c t, PhiS_zero m c _ _ hz, PhiA0_eq, dhAt_first m c t hz h1]
  have ex : xtAt m c = xtOf (iblk m c 0 t) (iblk m c 1 t) := by rw [ep]; rfl
  have ew : dwinAt m c t = dwinOf (iblk m c 2 t) (iblk m c 4 t) (iblk m c 7 t) (xtAt m c) := by
    have e : p21 t = t := Fin.ext (by show min t.val 21 = t.val; omega)
    unfold dwinAt; rw [e]
  rw [ew]
  rw [ex]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iexact H13

set_option maxHeartbeats 4000000 in
/-- The body at a point of case B. -/
theorem sound_B (c : Dev nD) (t : Fin cfg0.N) (h0 : ¬t.val % 34 = 0) (h1 : t.val < 22) (h2 : ¬22 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 34 := lt_of_lt_of_eq t.isLt (show cfg0.N = 34 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11_B t (fun h => h0 ((hcond0_0 t).mp h)) ((hcond0_1 t).mpr h1) (fun h => h2 ((hcond0_2 t).mp h))], after0_11]
  rw [Dat.leavesExact_idle (dats m 0 c) 12 t (idleAt0_12_B t (fun h => h0 ((hcond0_0 t).mp h)) ((hcond0_1 t).mpr h1) (fun h => h2 ((hcond0_2 t).mp h))) (noFlush0_12_B t (fun h => h0 ((hcond0_0 t).mp h)) ((hcond0_1 t).mpr h1) (fun h => h2 ((hcond0_2 t).mp h)))]
  rw [show (dats m 0 c).leavesExact 13 t = owns (c : Thread nD τ) (ms0_13 t) fullShare ((dats m 0 c).after 13 t) from by
    unfold Dat.leavesExact; rw [liveAt0_13_B t (fun h => h0 ((hcond0_0 t).mp h)) ((hcond0_1 t).mpr h1) (fun h => h2 ((hcond0_2 t).mp h))], after0_13]
  have hz : t.val ≠ 0 := by omega
  rw [PhiS_castSucc m c t, PhiS_pos m c _ _ hz, dhAt_later m c t hz]
  simp only [before0_13_B m c t h0 h1 h2]
  rw [show dhStep m c t = fun xo => dhFF (iblk m c 2 t) (iblk m c 5 t) (iblk m c 7 t) (iblk m c 8 t) xo from funext fun _ => if_pos h1]
  have ew : dwinAt m c t = dwinOf (iblk m c 2 t) (iblk m c 4 t) (iblk m c 7 t) (xtAt m c) := by
    have e : p21 t = t := Fin.ext (by show min t.val 21 = t.val; omega)
    unfold dwinAt; rw [e]
  rw [ew]
  try dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_B c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iexact H13

set_option maxHeartbeats 4000000 in
/-- The body at a point of case C. -/
theorem sound_C (c : Dev nD) (t : Fin cfg0.N) (h0 : ¬t.val % 34 = 0) (h1 : ¬t.val < 22) (h2 : 22 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 34 := lt_of_lt_of_eq t.isLt (show cfg0.N = 34 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 12 t = owns (c : Thread nD τ) (ms0_12 t) fullShare ((dats m 0 c).after 12 t) from by
    unfold Dat.leavesExact; rw [liveAt0_12_C t (fun h => h0 ((hcond0_0 t).mp h)) (fun h => h1 ((hcond0_1 t).mp h)) ((hcond0_2 t).mpr h2)], after0_12]
  rw [show (dats m 0 c).leavesExact 13 t = owns (c : Thread nD τ) (ms0_13 t) fullShare ((dats m 0 c).after 13 t) from by
    unfold Dat.leavesExact; rw [liveAt0_13_C t (fun h => h0 ((hcond0_0 t).mp h)) (fun h => h1 ((hcond0_1 t).mp h)) ((hcond0_2 t).mpr h2)], after0_13]
  have hz : t.val ≠ 0 := by omega
  rw [PhiS_castSucc m c t, PhiS_pos m c _ _ hz, dhAt_later m c t hz]
  simp only [before0_13_C m c t h0 h1 h2]
  rw [show dhStep m c t = fun xo => dhQ (iblk m c 3 t) (iblk m c 6 t) (iblk m c 9 t) (iblk m c 10 t) xo from funext fun _ => if_neg h1]
  simp only [before0_11_C m c t h0 h1 h2]
  try dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_C c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves0_11_C m c t h0 h1 h2); iexact H11
  isplitl [H12]; · iexact H12
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 34 := lt_of_lt_of_eq t.isLt (show cfg0.N = 34 from N_0)
  by_cases h1 : t.val < 22
  · by_cases h0 : t.val % 34 = 0
    · exact sound_A m c t h0 h1 (by omega)
    · exact sound_B m c t h0 h1 (by omega)
  · exact sound_C m c t (by omega) h1 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 34 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Hand

end
-- ==== Proof.KI.Points.lean ====
/- What the runs of the body of `proj_bwd` are stated over: its branch conditions in closed form over the points, where its windows are idle, the staging and scratch memrefs. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 34 = 0 :=
  (fun t => by
    have ht : t.val < 34 := Nat.lt_of_lt_of_eq t.isLt N_0
    have e0 : (grid0.coords t 0).val = t.val / 1 % 34 := Pipeline.Grid.coords_val t 0 (by decide) rfl
    simp only [cond0_0, k0_cond1, e0]
    word_cmp
   : ∀ t : Fin grid0.N, cond0_0 (grid0.coords t) ↔ t.val % 34 = 0)

/-- The condition of the body's `scf.if` 1 (`k0_h2`), from the grid coordinates (the skeleton's scalar
    chain substituted). -/
abbrev cond0_1 (i : grid0.Coords) : Prop := k0_cond2 i = 1#1
/-- It holds at the points before point 22 — decided over the grid. -/
theorem hcond0_1 : ∀ t : Fin cfg0.N, cond0_1 (grid0.coords t) ↔ t.val < 22 :=
  (by decide +kernel : ∀ t : Fin grid0.N, cond0_1 (grid0.coords t) ↔ t.val < 22)

/-- The condition of the body's `scf.if` 2 (`k0_h3`), from the grid coordinates (the skeleton's scalar
    chain substituted). -/
abbrev cond0_2 (i : grid0.Coords) : Prop := k0_cond3 i = 1#1
/-- It holds at the points from point 22 on — decided over the grid. -/
theorem hcond0_2 : ∀ t : Fin cfg0.N, cond0_2 (grid0.coords t) ↔ 22 ≤ t.val :=
  (by decide +kernel : ∀ t : Fin grid0.N, cond0_2 (grid0.coords t) ↔ 22 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- At the points of case A the printed configuration (`Cfg.idle`) calls output 11 live: the case stores into it. -/
theorem liveAt0_11_A : ∀ t : Fin cfg0.N, cond0_0 (grid0.coords t) → cond0_1 (grid0.coords t) → ¬cond0_2 (grid0.coords t) → cfg0.idle 11 (grid0.coords t) = false := by decide +kernel
/-- At the points of case B the printed configuration (`Cfg.idle`) calls output 11 live: the case stores into it. -/
theorem liveAt0_11_B : ∀ t : Fin cfg0.N, ¬cond0_0 (grid0.coords t) → cond0_1 (grid0.coords t) → ¬cond0_2 (grid0.coords t) → cfg0.idle 11 (grid0.coords t) = false := by decide +kernel
/-- At the points of case C the body stores nothing into output 11. -/
theorem idleAt0_11_C : ∀ t : Fin cfg0.N, ¬cond0_0 (grid0.coords t) → ¬cond0_1 (grid0.coords t) → cond0_2 (grid0.coords t) → cfg0.idle 11 (grid0.coords t) = true := by decide +kernel
/-- Whether output 11's buffer is fresh at each position: the block of points 0 to 20 is written back right after the point, the
    block of point 21 stays until the last point. -/
def freshTab0_11 : ℕ → Bool
  | 0 => true
  | n + 1 => (0x2001FFFFF : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case C output 11's buffer still holds what point 21 stored. -/
theorem notFresh0_11_C : ∀ t : Fin cfg0.N, ¬cond0_0 (grid0.coords t) → ¬cond0_1 (grid0.coords t) → cond0_2 (grid0.coords t) → cfg0.fresh 11 t.val = false := by
  intro t; rw [fresh0_11_eq t]; revert t; decide +kernel
/-- At the points of case A the printed configuration (`Cfg.idle`) calls output 12 idle: the case stores nothing into it. -/
theorem idleAt0_12_A : ∀ t : Fin cfg0.N, cond0_0 (grid0.coords t) → cond0_1 (grid0.coords t) → ¬cond0_2 (grid0.coords t) → cfg0.idle 12 (grid0.coords t) = true := by decide +kernel
/-- At the points of case A the pipeline does not write output 12's block back. -/
theorem noFlush0_12_A : ∀ t : Fin cfg0.N, cond0_0 (grid0.coords t) → cond0_1 (grid0.coords t) → ¬cond0_2 (grid0.coords t) → (cfg0.win 12).flush t = false := by decide +kernel
/-- At the points of case B the printed configuration (`Cfg.idle`) calls output 12 idle: the case stores nothing into it. -/
theorem idleAt0_12_B : ∀ t : Fin cfg0.N, ¬cond0_0 (grid0.coords t) → cond0_1 (grid0.coords t) → ¬cond0_2 (grid0.coords t) → cfg0.idle 12 (grid0.coords t) = true := by decide +kernel
/-- At the points of case B the pipeline does not write output 12's block back. -/
theorem noFlush0_12_B : ∀ t : Fin cfg0.N, ¬cond0_0 (grid0.coords t) → cond0_1 (grid0.coords t) → ¬cond0_2 (grid0.coords t) → (cfg0.win 12).flush t = false := by decide +kernel
/-- At the points of case C the printed configuration (`Cfg.idle`) calls output 12 live: the case stores into it. -/
theorem liveAt0_12_C : ∀ t : Fin cfg0.N, ¬cond0_0 (grid0.coords t) → ¬cond0_1 (grid0.coords t) → cond0_2 (grid0.coords t) → cfg0.idle 12 (grid0.coords t) = false := by decide +kernel
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x200000000 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cond0_1 (grid0.coords t) → ¬cond0_2 (grid0.coords t) → cfg0.idle 13 (grid0.coords t) = false := by decide +kernel
/-- At the points of case B the printed configuration (`Cfg.idle`) calls output 13 live: the case stores into it. -/
theorem liveAt0_13_B : ∀ t : Fin cfg0.N, ¬cond0_0 (grid0.coords t) → cond0_1 (grid0.coords t) → ¬cond0_2 (grid0.coords t) → cfg0.idle 13 (grid0.coords t) = false := by decide +kernel
/-- At the points of case B, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_B : ∀ t : Fin cfg0.N, ¬cond0_0 (grid0.coords t) → cond0_1 (grid0.coords t) → ¬cond0_2 (grid0.coords t) → cfg0.fresh 13 t.val = false := by
  intro t; rw [fresh0_13_eq t]; revert t; decide +kernel
/-- At the points of case C the printed configuration (`Cfg.idle`) calls output 13 live: the case stores into it. -/
theorem liveAt0_13_C : ∀ t : Fin cfg0.N, ¬cond0_0 (grid0.coords t) → ¬cond0_1 (grid0.coords t) → cond0_2 (grid0.coords t) → cfg0.idle 13 (grid0.coords t) = false := by decide +kernel
/-- At the points of case C, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_C : ∀ t : Fin cfg0.N, ¬cond0_0 (grid0.coords t) → ¬cond0_1 (grid0.coords t) → cond0_2 (grid0.coords t) → cfg0.fresh 13 t.val = false := by
  intro t; rw [fresh0_13_eq t]; revert t; decide +kernel
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1024x256 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x2048x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x512 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x2x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x2048 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S2048x1024 .bf16 := Memref.whole cc0_scratch0
abbrev scM0_1 : Memref sig .tc .vmem S1024x2048 .bf16 := Memref.whole cc0_scratch1
/-- The scratch `arg15` the kernel carries between points, as a view: what it holds is stated through it. -/
abbrev VS0_0 : View sig .tc .vmem S2048x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.Step.lean ====
/- One point of the body of `proj_bwd` as pure functions of the blocks it reads. -/
module

public import proofs.«01_k».proof.Proof.KI.Points

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point of the body leaves, as functions of the blocks it reads -/

/-- The four column pieces of the transposed tokens the first point stores, last first: the piece at column `256·r` from the rows
    `256·r …` of the codes and of their scales. -/
def xtPieces (x0 : Vec F S1024x2048 .fp8e4m3) (x1 : Vec F S1024x1 .f32) : List (View.Piece (Elt F) S2048x1024 .bf16) :=
  [⟨(Rect.unit (s := S2048x1024) ![0, 768] S2048x256.size inb_S2048x1024_S2048x256_0_768), k0_pay1 (View.ld x0 (Rect.unit (s := S1024x2048) ![768, 0] S256x2048.size inb_S1024x2048_S256x2048_768_0)) (View.ld x1 (Rect.unit (s := S1024x1) ![768, 0] S256x1.size inb_S1024x1_S256x1_768_0))⟩, ⟨(Rect.unit (s := S2048x1024) ![0, 512] S2048x256.size inb_S2048x1024_S2048x256_0_512), k0_pay6 (View.ld x0 (Rect.unit (s := S1024x2048) ![512, 0] S256x2048.size inb_S1024x2048_S256x2048_512_0)) (View.ld x1 (Rect.unit (s := S1024x1) ![512, 0] S256x1.size inb_S1024x1_S256x1_512_0))⟩, ⟨(Rect.unit (s := S2048x1024) ![0, 256] S2048x256.size inb_S2048x1024_S2048x256_0_256), k0_pay5 (View.ld x0 (Rect.unit (s := S1024x2048) ![256, 0] S256x2048.size inb_S1024x2048_S256x2048_256_0)) (View.ld x1 (Rect.unit (s := S1024x1) ![256, 0] S256x1.size inb_S1024x1_S256x1_256_0))⟩, ⟨(Rect.unit (s := S2048x1024) ![0, 0] S2048x256.size inb_S2048x1024_S2048x256_0_0), k0_pay4 (View.ld x0 (Rect.unit (s := S1024x2048) ![0, 0] S256x2048.size inb_S1024x2048_S256x2048_0_0)) (View.ld x1 (Rect.unit (s := S1024x1) ![0, 0] S256x1.size inb_S1024x1_S256x1_0_0))⟩]

/-- The transposed, dequantised tokens: what the first point leaves in the scratch buffer. -/
def xtOf (x0 : Vec F S1024x2048 .fp8e4m3) (x1 : Vec F S1024x1 .f32) : Vec F S2048x1024 .bf16 := View.canon (xtPieces x0 x1)

theorem xt_cover (x0 : Vec F S1024x2048 .fp8e4m3) (x1 : Vec F S1024x1 .f32) (y : S2048x1024.Idx) : ∃ pc ∈ xtPieces x0 x1, y ∈ pc.1.set :=
  View.cover_of_tiledL (xtPieces x0 x1) S2048x256.size (by sl_kernel_rfl) y

/-- A load of the whole scratch buffer after the four stores. -/
theorem xt_readCov (v : View sig .tc .vmem S2048x1024 .bf16) (x0 : Vec F S1024x2048 .fp8e4m3) (x1 : Vec F S1024x1 .f32) :
    v.readCov [⟨(Rect.unit (s := S2048x1024) ![0, 768] S2048x256.size inb_S2048x1024_S2048x256_0_768), k0_pay1 (View.ld x0 (Rect.unit (s := S1024x2048) ![768, 0] S256x2048.size inb_S1024x2048_S256x2048_768_0)) (View.ld x1 (Rect.unit (s := S1024x1) ![768, 0] S256x1.size inb_S1024x1_S256x1_768_0))⟩, ⟨(Rect.unit (s := S2048x1024) ![0, 512] S2048x256.size inb_S2048x1024_S2048x256_0_512), k0_pay6 (View.ld x0 (Rect.unit (s := S1024x2048) ![512, 0] S256x2048.size inb_S1024x2048_S256x2048_512_0)) (View.ld x1 (Rect.unit (s := S1024x1) ![512, 0] S256x1.size inb_S1024x1_S256x1_512_0))⟩, ⟨(Rect.unit (s := S2048x1024) ![0, 256] S2048x256.size inb_S2048x1024_S2048x256_0_256), k0_pay5 (View.ld x0 (Rect.unit (s := S1024x2048) ![256, 0] S256x2048.size inb_S1024x2048_S256x2048_256_0)) (View.ld x1 (Rect.unit (s := S1024x1) ![256, 0] S256x1.size inb_S1024x1_S256x1_256_0))⟩, ⟨(Rect.unit (s := S2048x1024) ![0, 0] S2048x256.size inb_S2048x1024_S2048x256_0_0), k0_pay4 (View.ld x0 (Rect.unit (s := S1024x2048) ![0, 0] S256x2048.size inb_S1024x2048_S256x2048_0_0)) (View.ld x1 (Rect.unit (s := S1024x1) ![0, 0] S256x1.size inb_S1024x1_S256x1_0_0))⟩] (Rect.unit (s := S2048x1024) ![0, 0] S2048x1024.size inb_S2048x1024_S2048x1024_0_0).toLoadRect = xtOf x0 x1 := by
  refine (View.readCov_eq_canon v (xtPieces x0 x1) _ fun j => xt_cover x0 x1 _).trans ?_
  exact View.ld_unit_zero (S := S2048x1024) (funext fun a => by fin_cases a <;> rfl) _ (View.canon (xtPieces x0 x1))

/-- The zero block. -/
def zdw : Vec F S2048x2x256 .bf16 := fun _ => Scalar.ofBits .bf16 0x0000#16

/-- The `dw_in` block a point leaves: its two halves, one after the other. -/
def dwinOf (x2 : Vec F S1024x1 .f32) (x4 : Vec F S2048x1 .f32) (x7 : Vec F S2x1024x256 .fp8e5m2) (xt : Vec F S2048x1024 .bf16) : Vec F S2048x2x256 .bf16 :=
  updateSlice (updateSlice zdw (k0_pay7 (View.ld x7 (Rect.unit (s := S2x1024x256) ![0, 0, 0] S1x1024x256.size inb_S2x1024x256_S1x1024x256_0_0_0)) x2 xt x4) ![0, 0, 0] slices_S2048x2x256_S2048x1x256_0_0_0)
    (k0_pay12 (View.ld x7 (Rect.unit (s := S2x1024x256) ![1, 0, 0] S1x1024x256.size inb_S2x1024x256_S1x1024x256_1_0_0)) x2 xt x4) ![0, 1, 0] slices_S2048x2x256_S2048x1x256_0_1_0

/-- The `dh` accumulator after the half-step of the first half. -/
def dhHalf (x2 : Vec F S1024x1 .f32) (x5 : Vec F S2x256 .f32) (x7 : Vec F S2x1024x256 .fp8e5m2) (x8 : Vec F S2x2048x256 .fp8e4m3) (xo : Vec F S1024x2048 .f32) : Vec F S1024x2048 .f32 :=
  k0_pay11 (k0_pay8 xo) (k0_pay9 (View.ld x7 (Rect.unit (s := S2x1024x256) ![0, 0, 0] S1x1024x256.size inb_S2x1024x256_S1x1024x256_0_0_0)) (View.ld x5 (Rect.unit (s := S2x256) ![0, 0] S1x256.size inb_S2x256_S1x256_0_0)) (View.ld x8 (Rect.unit (s := S2x2048x256) ![0, 0, 0] S1x2048x256.size inb_S2x2048x256_S1x2048x256_0_0_0))) (k0_pay10 x2)

/-- The `dh` accumulator after a point of the `w_in` part: two blocks of columns added. -/
def dhFF (x2 : Vec F S1024x1 .f32) (x5 : Vec F S2x256 .f32) (x7 : Vec F S2x1024x256 .fp8e5m2) (x8 : Vec F S2x2048x256 .fp8e4m3) (xo : Vec F S1024x2048 .f32) : Vec F S1024x2048 .f32 :=
  k0_pay3 (k0_pay13 (View.ld x8 (Rect.unit (s := S2x2048x256) ![1, 0, 0] S1x2048x256.size inb_S2x2048x256_S1x2048x256_1_0_0))) (k0_pay14 x2) (k0_pay15 (View.ld x7 (Rect.unit (s := S2x1024x256) ![1, 0, 0] S1x1024x256.size inb_S2x1024x256_S1x1024x256_1_0_0)) (View.ld x5 (Rect.unit (s := S2x256) ![1, 0] S1x256.size inb_S2x256_S1x256_1_0))) (dhHalf x2 x5 x7 x8 xo)

/-- The `dw_qkv` block a point leaves. -/
def dwqOf (x3 : Vec F S1024x1 .f32) (x4 : Vec F S2048x1 .f32) (x9 : Vec F S1024x512 .fp8e5m2) (xt : Vec F S2048x1024 .bf16) : Vec F S2048x512 .bf16 := k0_pay16 x9 x3 xt x4

/-- The `dh` accumulator after a point of the `w_qkv` part. -/
def dhQ (x3 : Vec F S1024x1 .f32) (x6 : Vec F S1x512 .f32) (x9 : Vec F S1024x512 .fp8e5m2) (x10 : Vec F S2048x512 .fp8e4m3) (xo : Vec F S1024x2048 .f32) : Vec F S1024x2048 .f32 := k0_pay17 x9 x6 x10 x3 xo

/-! ## Reading back what the stores left -/

theorem hz2 : (![0, 0] : Fin 2 → Nat) = fun _ => 0 := funext fun a => by fin_cases a <;> rfl
theorem hz3 : (![0, 0, 0] : Fin 3 → Nat) = fun _ => 0 := funext fun a => by fin_cases a <;> rfl

/-- A store of the whole buffer, last, is what the buffer reads. -/
theorem read_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rwa [Rect.emb_whole_apply] at e

/-- A load of the whole buffer after such a store reads the payload. -/
theorem readCov_whole {κ : Kind} {sp : Space} {S : Shape} {e : EltTy} (v : View sig κ sp S e) {off : Fin S.rank → Nat}
    (h : off = fun _ => 0) (inb inb' : ∀ a, off a + S.size a ≤ S.size a) (w : S.Idx → Elt F e) (L : List (View.Piece (Elt F) S e)) :
    v.readCov ((⟨Rect.unit off S.size inb, w⟩ : View.Piece (Elt F) S e) :: L) (Rect.unit off S.size inb').toLoadRect = w := by
  refine Eq.trans (b := View.ld (v.read (Elt F) (v.writes (Elt F) v.junk ((⟨Rect.unit off S.size inb, w⟩ : View.Piece (Elt F) S e) :: L)))
    (Rect.unit off S.size inb')) rfl ?_
  rw [read_whole v _ h, View.ld_unit_zero h]

/-- The two halves cover the block, so what was there before does not matter. -/
theorem two_halves (f : Vec F S2048x2x256 .bf16) (p q : Vec F S2048x1x256 .bf16) :
    updateSlice (updateSlice f p ![0, 0, 0] slices_S2048x2x256_S2048x1x256_0_0_0) q ![0, 1, 0] slices_S2048x2x256_S2048x1x256_0_1_0
      = updateSlice (updateSlice zdw p ![0, 0, 0] slices_S2048x2x256_S2048x1x256_0_0_0) q ![0, 1, 0] slices_S2048x2x256_S2048x1x256_0_1_0 := by
  funext i
  unfold updateSlice
  split
  · rfl
  · next h1 =>
    split
    · rfl
    · next h0 =>
      exfalso
      have l0 := (i 0).isLt
      have l1 := (i 1).isLt
      have l2 := (i 2).isLt
      have : (i 1).val = 0 ∨ (i 1).val = 1 := by
        have : (i 1).val < 2 := l1
        omega
      rcases this with e | e
      · exact h0 fun a => by
          match a with
          | ⟨0, _⟩ => exact ⟨Nat.zero_le _, by simpa using l0⟩
          | ⟨1, _⟩ => exact ⟨Nat.zero_le _, by show (i 1).val < 0 + 1; omega⟩
          | ⟨2, _⟩ => exact ⟨Nat.zero_le _, by simpa using l2⟩
      · exact h1 fun a => by
          match a with
          | ⟨0, _⟩ => exact ⟨Nat.zero_le _, by simpa using l0⟩
          | ⟨1, _⟩ => exact ⟨by show 1 ≤ (i 1).val; omega, by show (i 1).val < 1 + 1; omega⟩
          | ⟨2, _⟩ => exact ⟨Nat.zero_le _, by simpa using l2⟩

end Cert.KernelIdeal.Hand

end
-- ==== Proof.KI.RunA.lean ====
/- The run of the body of `proj_bwd`, case A. -/
module

public import proofs.«01_k».proof.Proof.KI.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the first point: on whole staging memrefs holding the given blocks it leaves the values of one step. -/
theorem run_A (c : Dev nD) (i : grid0.Coords) (arg1 : Memref sig .tc .vmem S1024x2048 .fp8e4m3) (harg1 : arg1.IsWhole) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S2x256 .f32) (harg6 : arg6.IsWhole) (arg7 : Memref sig .tc .vmem S1x512 .f32) (harg7 : arg7.IsWhole) (arg8 : Memref sig .tc .vmem S2x1024x256 .fp8e5m2) (harg8 : arg8.IsWhole) (arg9 : Memref sig .tc .vmem S2x2048x256 .fp8e4m3) (harg9 : arg9.IsWhole) (arg10 : Memref sig .tc .vmem S1024x512 .fp8e5m2) (harg10 : arg10.IsWhole) (arg11 : Memref sig .tc .vmem S2048x512 .fp8e4m3) (harg11 : arg11.IsWhole) (arg12 : Memref sig .tc .vmem S2048x2x256 .bf16) (harg12 : arg12.IsWhole) (arg13 : Memref sig .tc .vmem S2048x512 .bf16) (harg13 : arg13.IsWhole) (arg14 : Memref sig .tc .vmem S1024x2048 .f32) (harg14 : arg14.IsWhole) (arg15 : Memref sig .tc .vmem S2048x1024 .bf16) (harg15 : arg15.IsWhole) (arg16 : Memref sig .tc .vmem S1024x2048 .bf16) (harg16 : arg16.IsWhole) (hc0 : cond0_0 i) (hc1 : cond0_1 i) (hc2 : ¬cond0_2 i)
    (x0 : Vec F S1024x2048 .fp8e4m3) (x1 : Vec F S1024x1 .f32) (x2 : Vec F S1024x1 .f32) (x3 : Vec F S1024x1 .f32) (x4 : Vec F S2048x1 .f32) (x5 : Vec F S2x256 .f32) (x6 : Vec F S1x512 .f32) (x7 : Vec F S2x1024x256 .fp8e5m2) (x8 : Vec F S2x2048x256 .fp8e4m3) (x9 : Vec F S1024x512 .fp8e5m2) (x10 : Vec F S2048x512 .fp8e4m3) (xi : Vec F S2048x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (dwinOf x2 x4 x7 (xtOf x0 x1)) ∗ owns (c : Thread nD τ) arg13 fullShare xi ∗ owns (c : Thread nD τ) arg14 fullShare (dhFF x2 x5 x7 x8 (k0_pay2 (F := F))) ∗ owns (c : Thread nD τ) arg15 fullShare (xtOf x0 x1) ∗ (∃ d, owns (c : Thread nD τ) arg16 fullShare d)) -∗ K ⟨⟩))
      ⊢ wp frame (wpE (defs₀ (F := F)) Variants.none c none) E (cc0_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_proj_bwd_eq_skeleton]; unfold cc0_proj_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro
    sl_unfold_words
    refine (read_whole (S := S2048x2x256) arg12.view _ hz3 _ _ _).trans ?_
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
    have e := xt_readCov arg15.view x0 x1
    dsimp only [S2048x1024, S2048x256, S256x2048, S256x1] at e
    rw [e]
    exact two_halves _ _ _
  isplitl [H12]
  · iexists _; isplitr; · ipureintro; exact harg13.read_unread _
    iexact H12
  isplitl [H13]
  · iexists _; isplitr; swap; · iexact H13
    ipureintro
    sl_unfold_words
    refine (read_whole (S := S1024x2048) arg14.view _ hz2 _ _ _).trans ?_
    unfold dhFF dhHalf
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
    rw [readCov_whole (S := S1024x2048) arg14.view hz2]
  isplitl [H14]
  · iexists _; isplitr; swap; · iexact H14
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
    exact View.read_writes_eq_canon _ _ _ (xt_cover x0 x1)
  iexists _, _; isplitr; swap; · iexact H15
  ipureintro; rfl

end Cert.KernelIdeal.Hand

end
-- ==== Proof.KI.RunB.lean ====
/- The run of the body of `proj_bwd`, case B. -/
module

public import proofs.«01_k».proof.Proof.KI.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at a later point of the `w_in` part: on whole staging memrefs holding the given blocks it leaves the values of one step. -/
theorem run_B (c : Dev nD) (i : grid0.Coords) (arg1 : Memref sig .tc .vmem S1024x2048 .fp8e4m3) (harg1 : arg1.IsWhole) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S2x256 .f32) (harg6 : arg6.IsWhole) (arg7 : Memref sig .tc .vmem S1x512 .f32) (harg7 : arg7.IsWhole) (arg8 : Memref sig .tc .vmem S2x1024x256 .fp8e5m2) (harg8 : arg8.IsWhole) (arg9 : Memref sig .tc .vmem S2x2048x256 .fp8e4m3) (harg9 : arg9.IsWhole) (arg10 : Memref sig .tc .vmem S1024x512 .fp8e5m2) (harg10 : arg10.IsWhole) (arg11 : Memref sig .tc .vmem S2048x512 .fp8e4m3) (harg11 : arg11.IsWhole) (arg12 : Memref sig .tc .vmem S2048x2x256 .bf16) (harg12 : arg12.IsWhole) (arg13 : Memref sig .tc .vmem S2048x512 .bf16) (harg13 : arg13.IsWhole) (arg14 : Memref sig .tc .vmem S1024x2048 .f32) (harg14 : arg14.IsWhole) (arg15 : Memref sig .tc .vmem S2048x1024 .bf16) (harg15 : arg15.IsWhole) (arg16 : Memref sig .tc .vmem S1024x2048 .bf16) (harg16 : arg16.IsWhole) (hc0 : ¬cond0_0 i) (hc1 : cond0_1 i) (hc2 : ¬cond0_2 i)
    (x0 : Vec F S1024x2048 .fp8e4m3) (x1 : Vec F S1024x1 .f32) (x2 : Vec F S1024x1 .f32) (x3 : Vec F S1024x1 .f32) (x4 : Vec F S2048x1 .f32) (x5 : Vec F S2x256 .f32) (x6 : Vec F S1x512 .f32) (x7 : Vec F S2x1024x256 .fp8e5m2) (x8 : Vec F S2x2048x256 .fp8e4m3) (x9 : Vec F S1024x512 .fp8e5m2) (x10 : Vec F S2048x512 .fp8e4m3) (xo : Vec F S1024x2048 .f32) (xs : Vec F S2048x1024 .bf16) (xi : Vec F S2048x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi ∗ owns (c : Thread nD τ) arg14 fullShare xo ∗ owns (c : Thread nD τ) arg15 fullShare xs ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (dwinOf x2 x4 x7 xs) ∗ owns (c : Thread nD τ) arg13 fullShare xi ∗ owns (c : Thread nD τ) arg14 fullShare (dhFF x2 x5 x7 x8 xo) ∗ owns (c : Thread nD τ) arg15 fullShare xs ∗ (∃ d, owns (c : Thread nD τ) arg16 fullShare d)) -∗ K ⟨⟩))
      ⊢ wp frame (wpE (defs₀ (F := F)) Variants.none c none) E (cc0_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_proj_bwd_eq_skeleton]; unfold cc0_proj_bwd_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg14.eq_unread hf13; obtain rfl := harg15.eq_unread hf14
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro
    sl_unfold_words
    refine (read_whole (S := S2048x2x256) arg12.view _ hz3 _ _ _).trans ?_
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
    exact two_halves _ _ _
  isplitl [H12]
  · iexists _; isplitr; · ipureintro; exact harg13.read_unread _
    iexact H12
  isplitl [H13]
  · iexists _; isplitr; swap; · iexact H13
    ipureintro
    sl_unfold_words
    refine (read_whole (S := S1024x2048) arg14.view _ hz2 _ _ _).trans ?_
    unfold dhFF dhHalf
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
  isplitl [H14]
  · iexists _; isplitr; · ipureintro; exact harg15.read_unread _
    iexact H14
  iexists _, _; isplitr; swap; · iexact H15
  ipureintro; rfl

end Cert.KernelIdeal.Hand

end
-- ==== Proof.KI.RunC.lean ====
/- The run of the body of `proj_bwd`, case C. -/
module

public import proofs.«01_k».proof.Proof.KI.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at a point of the `w_qkv` part: on whole staging memrefs holding the given blocks it leaves the values of one step. -/
theorem run_C (c : Dev nD) (i : grid0.Coords) (arg1 : Memref sig .tc .vmem S1024x2048 .fp8e4m3) (harg1 : arg1.IsWhole) (arg2 : Memref sig .tc .vmem S1024x1 .f32) (harg2 : arg2.IsWhole) (arg3 : Memref sig .tc .vmem S1024x1 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S2x256 .f32) (harg6 : arg6.IsWhole) (arg7 : Memref sig .tc .vmem S1x512 .f32) (harg7 : arg7.IsWhole) (arg8 : Memref sig .tc .vmem S2x1024x256 .fp8e5m2) (harg8 : arg8.IsWhole) (arg9 : Memref sig .tc .vmem S2x2048x256 .fp8e4m3) (harg9 : arg9.IsWhole) (arg10 : Memref sig .tc .vmem S1024x512 .fp8e5m2) (harg10 : arg10.IsWhole) (arg11 : Memref sig .tc .vmem S2048x512 .fp8e4m3) (harg11 : arg11.IsWhole) (arg12 : Memref sig .tc .vmem S2048x2x256 .bf16) (harg12 : arg12.IsWhole) (arg13 : Memref sig .tc .vmem S2048x512 .bf16) (harg13 : arg13.IsWhole) (arg14 : Memref sig .tc .vmem S1024x2048 .f32) (harg14 : arg14.IsWhole) (arg15 : Memref sig .tc .vmem S2048x1024 .bf16) (harg15 : arg15.IsWhole) (arg16 : Memref sig .tc .vmem S1024x2048 .bf16) (harg16 : arg16.IsWhole) (hc0 : ¬cond0_0 i) (hc1 : ¬cond0_1 i) (hc2 : cond0_2 i)
    (x0 : Vec F S1024x2048 .fp8e4m3) (x1 : Vec F S1024x1 .f32) (x2 : Vec F S1024x1 .f32) (x3 : Vec F S1024x1 .f32) (x4 : Vec F S2048x1 .f32) (x5 : Vec F S2x256 .f32) (x6 : Vec F S1x512 .f32) (x7 : Vec F S2x1024x256 .fp8e5m2) (x8 : Vec F S2x2048x256 .fp8e4m3) (x9 : Vec F S1024x512 .fp8e5m2) (x10 : Vec F S2048x512 .fp8e4m3) (xo : Vec F S1024x2048 .f32) (xs : Vec F S2048x1024 .bf16) (xi : Vec F S2048x2x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi ∗ (∃ d, owns (c : Thread nD τ) arg13 fullShare d) ∗ owns (c : Thread nD τ) arg14 fullShare xo ∗ owns (c : Thread nD τ) arg15 fullShare xs ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi ∗ owns (c : Thread nD τ) arg13 fullShare (dwqOf x3 x4 x9 xs) ∗ owns (c : Thread nD τ) arg14 fullShare (dhQ x3 x6 x9 x10 xo) ∗ owns (c : Thread nD τ) arg15 fullShare xs ∗ (∃ d, owns (c : Thread nD τ) arg16 fullShare d)) -∗ K ⟨⟩))
      ⊢ wp frame (wpE (defs₀ (F := F)) Variants.none c none) E (cc0_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_proj_bwd_eq_skeleton]; unfold cc0_proj_bwd_skel
  simp only [k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    sl_unfold_words
    refine (read_whole (S := S2048x512) arg13.view _ hz2 _ _ _).trans ?_
    unfold dwqOf
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
  isplitl [H13]
  · iexists _; isplitr; swap; · iexact H13
    ipureintro
    sl_unfold_words
    refine (read_whole (S := S1024x2048) arg14.view _ hz2 _ _ _).trans ?_
    unfold dhQ
    simp only [View.readCov_unit_zero (S := S2048x2x256) _ hz3, View.readCov_unit_zero (S := S1024x2048) _ hz2, View.readCov_unit_zero (S := S2048x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S2048x1) hz2, View.ld_unit_zero (S := S2048x1024) hz2, View.ld_unit_zero (S := S1024x2048) hz2, View.ld_unit_zero (S := S1024x512) hz2, View.ld_unit_zero (S := S2048x512) hz2, View.ld_unit_zero (S := S1x512) hz2, View.ld_unit_zero (S := S2048x2x256) hz3]
  isplitl [H14]
  · iexists _; isplitr; · ipureintro; exact harg15.read_unread _
    iexact H14
  iexists _, _; isplitr; swap; · iexact H15
  ipureintro; rfl

end Cert.KernelIdeal.Hand

end
-- ==== Proof.KI.Frame.lean ====
/- The frame of `proj_bwd`: the values every point leaves, the body at every point, the run. -/
module

public import proofs.«01_k».proof.Proof.KI.RunA
public import proofs.«01_k».proof.Proof.KI.RunB
public import proofs.«01_k».proof.Proof.KI.RunC
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The first point. -/
def p0 : Fin cfg0.N := ⟨0, by rw [show cfg0.N = 34 from N_0]; decide⟩

/-- The point whose `dw_in` block the window holds at point `t`: `t` itself, 21 from there on. -/
def p21 (t : Fin cfg0.N) : Fin cfg0.N := ⟨min t.val 21, Nat.lt_of_le_of_lt (Nat.min_le_left _ _) t.isLt⟩

/-- The transposed tokens, as the first point leaves them. -/
def xtAt (c : Dev nD) : Vec F S2048x1024 .bf16 := xtOf (iblk m c 0 p0) (iblk m c 1 p0)

/-- The `dw_in` block held after point `t`. -/
def dwinAt (c : Dev nD) (t : Fin cfg0.N) : Vec F S2048x2x256 .bf16 :=
  dwinOf (iblk m c 2 (p21 t)) (iblk m c 4 (p21 t)) (iblk m c 7 (p21 t)) (xtAt m c)

/-- The `dw_qkv` block of point `t`. -/
def dwqAt (c : Dev nD) (t : Fin cfg0.N) : Vec F S2048x512 .bf16 :=
  dwqOf (iblk m c 3 t) (iblk m c 4 t) (iblk m c 9 t) (xtAt m c)

/-- One point's addition to the accumulator. -/
def dhStep (c : Dev nD) (t : Fin cfg0.N) (xo : Vec F S1024x2048 .f32) : Vec F S1024x2048 .f32 :=
  if t.val < 22 then dhFF (iblk m c 2 t) (iblk m c 5 t) (iblk m c 7 t) (iblk m c 8 t) xo
  else dhQ (iblk m c 3 t) (iblk m c 6 t) (iblk m c 9 t) (iblk m c 10 t) xo

/-- The accumulator after point `n`: the zero block, then every point's addition in order. -/
def dhAt (c : Dev nD) : (n : ℕ) → n < cfg0.N → Vec F S1024x2048 .f32
  | 0, h => dhStep m c ⟨0, h⟩ (k0_pay2 (F := F))
  | n + 1, h => dhStep m c ⟨n + 1, h⟩ (dhAt c n (Nat.lt_of_succ_lt h))

theorem dhAt_first (c : Dev nD) (t : Fin cfg0.N) (hz : t.val = 0) (h1 : t.val < 22) :
    dhAt m c t.val t.isLt = dhFF (iblk m c 2 t) (iblk m c 5 t) (iblk m c 7 t) (iblk m c 8 t) (k0_pay2 (F := F)) := by
  obtain ⟨n, hn⟩ := t
  cases n with
  | zero => show dhStep m c _ _ = _; unfold dhStep; rw [if_pos h1]
  | succ n => exact absurd hz (Nat.succ_ne_zero n)

theorem dhAt_later (c : Dev nD) (t : Fin cfg0.N) (hz : t.val ≠ 0) :
    dhAt m c t.val t.isLt = dhStep m c t (dhAt m c (t.val - 1) (Nat.lt_of_le_of_lt (Nat.sub_le _ _) t.isLt)) := by
  obtain ⟨n, hn⟩ := t
  cases n with
  | zero => exact absurd rfl hz
  | succ n => rfl

/-! ## The region's invariant and the pipeline's proof data -/

/-- The region's invariant before position `n`: before the first point every scratch buffer at anything, afterwards the transposed
    tokens in the first scratch buffer, the second at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (xtAt m c) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xtAt m c) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (xtAt m c) ∗ (∃ d, owns (c : Thread nD τ) scM0_1 fullShare d)) ∗ (∃ r, prngReg c r)) := by
  cases n with
  | zero => exact absurd rfl hz
  | succ n => rfl

/-- The proof data: the arrays as the region finds them; after a point each input's buffer at its block and the outputs' at the
    values above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dwinAt m c t
    | ⟨12, _⟩ => dwqAt m c t
    | ⟨13, _⟩ => dhAt m c t.val t.isLt
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = dwinAt m c t := by dsimp only [dats]
theorem after0_12 (c : Dev nD) (t : Fin cfg0.N) : (dats m 0 c).after 12 t = dwqAt m c t := by dsimp only [dats]
theorem after0_13 (c : Dev nD) (t : Fin cfg0.N) : (dats m 0 c).after 13 t = dhAt m c t.val t.isLt := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 34 := lt_of_lt_of_eq t.isLt (show cfg0.N = 34 from N_0)
  rw [after0_13, after0_13]
  by_cases h0 : t.val % 34 = 0
  · by_cases h1 : t.val < 22
    · by_cases h2 : 22 ≤ t.val
      · exfalso; omega
      · rw [liveAt0_13_A t ((hcond0_0 t).mpr h0) ((hcond0_1 t).mpr h1) (fun h => h2 ((hcond0_2 t).mp h))] at hi
        exact absurd hi Bool.false_ne_true
    · exfalso; omega
  · by_cases h1 : t.val < 22
    · by_cases h2 : 22 ≤ t.val
      · exfalso; omega
      · rw [liveAt0_13_B t (fun h => h0 ((hcond0_0 t).mp h)) ((hcond0_1 t).mpr h1) (fun h => h2 ((hcond0_2 t).mp h))] at hi
        exact absurd hi Bool.false_ne_true
    · by_cases h2 : 22 ≤ t.val
      · rw [liveAt0_13_C t (fun h => h0 ((hcond0_0 t).mp h)) (fun h => h1 ((hcond0_1 t).mp h)) ((hcond0_2 t).mpr h2)] at hi
        exact absurd hi Bool.false_ne_true
      · exfalso; omega
/-- The block of output 11 stays as it is at the points that store nothing into it. -/
theorem dwinAt_carry (c : Dev nD) (t : Fin cfg0.N) (ht : 22 ≤ t.val) : dwinAt m c t = dwinAt m c ⟨t.val - 1, by omega⟩ := by
  have e : p21 t = p21 ⟨t.val - 1, by omega⟩ := Fin.ext (by show min t.val 21 = min (t.val - 1) 21; omega)
  unfold dwinAt; rw [e]

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  rw [after0_11, after0_11]
  by_cases h2 : 22 ≤ t.val
  · exact dwinAt_carry m c t h2
  · exfalso
    have h1 : t.val < 22 := by omega
    by_cases h0 : t.val % 34 = 0
    · rw [liveAt0_11_A t ((hcond0_0 t).mpr h0) ((hcond0_1 t).mpr h1) (fun h => h2 ((hcond0_2 t).mp h))] at hi
      exact absurd hi Bool.false_ne_true
    · rw [liveAt0_11_B t (fun h => h0 ((hcond0_0 t).mp h)) ((hcond0_1 t).mpr h1) (fun h => h2 ((hcond0_2 t).mp h))] at hi
      exact absurd hi Bool.false_ne_true

theorem before0_13_B (c : Dev nD) (t : Fin cfg0.N) (h0 : ¬t.val % 34 = 0) (h1 : t.val < 22) (h2 : ¬22 ≤ t.val) (d) :
    (dats m 0 c).before 13 t d = dhAt m c (t.val - 1) (Nat.lt_of_le_of_lt (Nat.sub_le _ _) t.isLt) := by
  rw [Dat.before_out_traj _ 13 rfl (fun _ _ => rfl) (hcarry0_13 m c) t.val t rfl d,
    if_neg (by rw [notFresh0_13_B t (fun h => h0 ((hcond0_0 t).mp h)) ((hcond0_1 t).mpr h1) (fun h => h2 ((hcond0_2 t).mp h))]; exact Bool.false_ne_true)]
  dsimp only [dats]
theorem before0_13_C (c : Dev nD) (t : Fin cfg0.N) (h0 : ¬t.val % 34 = 0) (h1 : ¬t.val < 22) (h2 : 22 ≤ t.val) (d) :
    (dats m 0 c).before 13 t d = dhAt m c (t.val - 1) (Nat.lt_of_le_of_lt (Nat.sub_le _ _) t.isLt) := by
  rw [Dat.before_out_traj _ 13 rfl (fun _ _ => rfl) (hcarry0_13 m c) t.val t rfl d,
    if_neg (by rw [notFresh0_13_C t (fun h => h0 ((hcond0_0 t).mp h)) (fun h => h1 ((hcond0_1 t).mp h)) ((hcond0_2 t).mpr h2)]; exact Bool.false_ne_true)]
  dsimp only [dats]
theorem before0_11_C (c : Dev nD) (t : Fin cfg0.N) (h0 : ¬t.val % 34 = 0) (h1 : ¬t.val < 22) (h2 : 22 ≤ t.val) (d) :
    (dats m 0 c).before 11 t d = dwinAt m c t := by
  rw [Dat.before_out_traj _ 11 rfl (fun _ _ => rfl) (hcarry0_11 m c) t.val t rfl d,
    if_neg (by rw [notFresh0_11_C t (fun h => h0 ((hcond0_0 t).mp h)) (fun h => h1 ((hcond0_1 t).mp h)) ((hcond0_2 t).mpr h2)]; exact Bool.false_ne_true), after0_11]
  exact (dwinAt_carry m c t h2).symm

/-- At a point of the `w_qkv` part the buffer of output 11, handed back untouched, is what the pipeline asks for, written back there
    or not. -/
theorem leaves0_11_C (c : Dev nD) (t : Fin cfg0.N) (h0 : ¬t.val % 34 = 0) (h1 : ¬t.val < 22) (h2 : 22 ≤ t.val) :
    (owns (c : Thread nD τ) (ms0_11 t) fullShare (dwinAt m c t) : sProp 𝕄) ⊢ (dats m 0 c).leavesExact 11 t := by
  unfold Dat.leavesExact
  rw [idleAt0_11_C t (fun h => h0 ((hcond0_0 t).mp h)) (fun h => h1 ((hcond0_1 t).mp h)) ((hcond0_2 t).mpr h2)]
  cases hf : (cfg0.win 11).flush t
  · dsimp only
    iintro H
    iexists (dwinAt m c t)
    rw [before0_11_C m c t h0 h1 h2]
    iexact H
  · dsimp only
    rw [after0_11]
    try exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
/-- The body at a point of case A. -/
theorem sound_A (c : Dev nD) (t : Fin cfg0.N) (h0 : t.val % 34 = 0) (h1 : t.val < 22) (h2 : ¬22 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 34 := lt_of_lt_of_eq t.isLt (show cfg0.N = 34 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11_A t ((hcond0_0 t).mpr h0) ((hcond0_1 t).mpr h1) (fun h => h2 ((hcond0_2 t).mp h))], after0_11]
  rw [Dat.leavesExact_idle (dats m 0 c) 12 t (idleAt0_12_A t ((hcond0_0 t).mpr h0) ((hcond0_1 t).mpr h1) (fun h => h2 ((hcond0_2 t).mp h))) (noFlush0_12_A t ((hcond0_0 t).mpr h0) ((hcond0_1 t).mpr h1) (fun h => h2 ((hcond0_2 t).mp h)))]
  rw [show (dats m 0 c).leavesExact 13 t = owns (c : Thread nD τ) (ms0_13 t) fullShare ((dats m 0 c).after 13 t) from by
    unfold Dat.leavesExact; rw [liveAt0_13_A t ((hcond0_0 t).mpr h0) ((hcond0_1 t).mpr h1) (fun h => h2 ((hcond0_2 t).mp h))], after0_13]
  have hz : t.val = 0 := by omega
  have ep : t = p0 := Fin.ext hz
  rw [PhiS_castSucc m c t, PhiS_zero m c _ _ hz, PhiA0_eq, dhAt_first m c t hz h1]
  have ex : xtAt m c = xtOf (iblk m c 0 t) (iblk m c 1 t) := by rw [ep]; rfl
  have ew : dwinAt m c t = dwinOf (iblk m c 2 t) (iblk m c 4 t) (iblk m c 7 t) (xtAt m c) := by
    have e : p21 t = t := Fin.ext (by show min t.val 21 = t.val; omega)
    unfold dwinAt; rw [e]
  rw [ew]
  rw [ex]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iexact H13

set_option maxHeartbeats 4000000 in
/-- The body at a point of case B. -/
theorem sound_B (c : Dev nD) (t : Fin cfg0.N) (h0 : ¬t.val % 34 = 0) (h1 : t.val < 22) (h2 : ¬22 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 34 := lt_of_lt_of_eq t.isLt (show cfg0.N = 34 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11_B t (fun h => h0 ((hcond0_0 t).mp h)) ((hcond0_1 t).mpr h1) (fun h => h2 ((hcond0_2 t).mp h))], after0_11]
  rw [Dat.leavesExact_idle (dats m 0 c) 12 t (idleAt0_12_B t (fun h => h0 ((hcond0_0 t).mp h)) ((hcond0_1 t).mpr h1) (fun h => h2 ((hcond0_2 t).mp h))) (noFlush0_12_B t (fun h => h0 ((hcond0_0 t).mp h)) ((hcond0_1 t).mpr h1) (fun h => h2 ((hcond0_2 t).mp h)))]
  rw [show (dats m 0 c).leavesExact 13 t = owns (c : Thread nD τ) (ms0_13 t) fullShare ((dats m 0 c).after 13 t) from by
    unfold Dat.leavesExact; rw [liveAt0_13_B t (fun h => h0 ((hcond0_0 t).mp h)) ((hcond0_1 t).mpr h1) (fun h => h2 ((hcond0_2 t).mp h))], after0_13]
  have hz : t.val ≠ 0 := by omega
  rw [PhiS_castSucc m c t, PhiS_pos m c _ _ hz, dhAt_later m c t hz]
  simp only [before0_13_B m c t h0 h1 h2]
  rw [show dhStep m c t = fun xo => dhFF (iblk m c 2 t) (iblk m c 5 t) (iblk m c 7 t) (iblk m c 8 t) xo from funext fun _ => if_pos h1]
  have ew : dwinAt m c t = dwinOf (iblk m c 2 t) (iblk m c 4 t) (iblk m c 7 t) (xtAt m c) := by
    have e : p21 t = t := Fin.ext (by show min t.val 21 = t.val; omega)
    unfold dwinAt; rw [e]
  rw [ew]
  try dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_B c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iexact H13

set_option maxHeartbeats 4000000 in
/-- The body at a point of case C. -/
theorem sound_C (c : Dev nD) (t : Fin cfg0.N) (h0 : ¬t.val % 34 = 0) (h1 : ¬t.val < 22) (h2 : 22 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 34 := lt_of_lt_of_eq t.isLt (show cfg0.N = 34 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 12 t = owns (c : Thread nD τ) (ms0_12 t) fullShare ((dats m 0 c).after 12 t) from by
    unfold Dat.leavesExact; rw [liveAt0_12_C t (fun h => h0 ((hcond0_0 t).mp h)) (fun h => h1 ((hcond0_1 t).mp h)) ((hcond0_2 t).mpr h2)], after0_12]
  rw [show (dats m 0 c).leavesExact 13 t = owns (c : Thread nD τ) (ms0_13 t) fullShare ((dats m 0 c).after 13 t) from by
    unfold Dat.leavesExact; rw [liveAt0_13_C t (fun h => h0 ((hcond0_0 t).mp h)) (fun h => h1 ((hcond0_1 t).mp h)) ((hcond0_2 t).mpr h2)], after0_13]
  have hz : t.val ≠ 0 := by omega
  rw [PhiS_castSucc m c t, PhiS_pos m c _ _ hz, dhAt_later m c t hz]
  simp only [before0_13_C m c t h0 h1 h2]
  rw [show dhStep m c t = fun xo => dhQ (iblk m c 3 t) (iblk m c 6 t) (iblk m c 9 t) (iblk m c 10 t) xo from funext fun _ => if_neg h1]
  simp only [before0_11_C m c t h0 h1 h2]
  try dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_C c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves0_11_C m c t h0 h1 h2); iexact H11
  isplitl [H12]; · iexact H12
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 34 := lt_of_lt_of_eq t.isLt (show cfg0.N = 34 from N_0)
  by_cases h1 : t.val < 22
  · by_cases h0 : t.val % 34 = 0
    · exact sound_A m c t h0 h1 (by omega)
    · exact sound_B m c t h0 h1 (by omega)
  · exact sound_C m c t (by omega) h1 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 34 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Hand

end
-- ==== Proof.V.Vals.lean ====
module

public import proofs.«01_k».proof.Proof.Gen.ReferenceIdeal.Value
public import proofs.«01_k».proof.Proof.Gen.KernelCIdeal.Value
public import proofs.«01_k».proof.Proof.Gen.ReferenceCIdeal.Value
public import proofs.«01_k».proof.Proof.Gen.ReferenceAIdeal.Value
-- ==== Proof.V.Body.lean ====
/- One point of the body of `proj_bwd` at an index, over the extended reals. -/
module

public import proofs.«01_k».proof.Proof.KI.Frame
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal.Gen Cert.KernelIdeal
open Idealize.ShloMosaic.Pipeline (Dat)

/-! ## The body's values at an index -/

/-- The transposed tokens, at (channel, token): code times scale. -/
theorem xtOf_at (x0 : Vec Ideal S1024x2048 .fp8e4m3) (x1 : Vec Ideal S1024x1 .f32) (y : S2048x1024.Idx) :
    xtOf (F := Ideal) x0 x1 y = x0 (ix2 (y 1) (y 0)) * x1 (ix2 (y 1) 0) := by
  unfold xtOf xtPieces
  canon_tiles x h
  all_goals
    pointwise [k0_pay1, k0_pay4, k0_pay5, k0_pay6]
    blk_point []

/-- The zero block. -/
theorem zero_at (j) : k0_pay2 (F := Ideal) j = 0 := by pointwise [k0_pay2]

/-- The `dw_in` block, at (channel, half, column). -/
theorem dwinOf_at (x2 : Vec Ideal S1024x1 .f32) (x4 : Vec Ideal S2048x1 .f32) (x7 : Vec Ideal S2x1024x256 .fp8e5m2) (xt : Vec Ideal S2048x1024 .bf16) (y : S2048x2x256.Idx) :
    dwinOf (F := Ideal) x2 x4 x7 xt y = (∑ t : Fin 1024, xt (ix2 (y 0) t) * (x7 (ix3 (y 1) t (y 2)) * x2 (ix2 t 0))) * x4 (ix2 (y 0) 0) := by
  pointwise [dwinOf, k0_pay7, k0_pay12, zdw]
  have hb : ((y 1 : Fin 2) : ℕ) < 2 := (y 1).isLt
  by_cases h : 1 ≤ ((y 1 : Fin 2) : ℕ)
  · rw [dif_pos h, show y 1 = (1 : Fin 2) from Fin.ext (by show ((y 1 : Fin 2) : ℕ) = 1; omega)]
  · rw [dif_neg h, dif_pos (by omega), show y 1 = (0 : Fin 2) from Fin.ext (by show ((y 1 : Fin 2) : ℕ) = 0; omega)]

/-- The `dw_qkv` block, at (channel, column). -/
theorem dwqOf_at (x3 : Vec Ideal S1024x1 .f32) (x4 : Vec Ideal S2048x1 .f32) (x9 : Vec Ideal S1024x512 .fp8e5m2) (xt : Vec Ideal S2048x1024 .bf16) (y : S2048x512.Idx) :
    dwqOf (F := Ideal) x3 x4 x9 xt y = (∑ t : Fin 1024, xt (ix2 (y 0) t) * (x9 (ix2 t (y 1)) * x3 (ix2 t 0))) * x4 (ix2 (y 0) 0) := by
  pointwise [dwqOf, k0_pay16]

/-- The accumulator after a point of the `w_in` part. -/
theorem dhFF_at (x2 : Vec Ideal S1024x1 .f32) (x5 : Vec Ideal S2x256 .f32) (x7 : Vec Ideal S2x1024x256 .fp8e5m2) (x8 : Vec Ideal S2x2048x256 .fp8e4m3) (xo : Vec Ideal S1024x2048 .f32) (y : S1024x2048.Idx) :
    dhFF (F := Ideal) x2 x5 x7 x8 xo y = xo y + (∑ k : Fin 256, x7 (ix3 0 (y 0) k) * x5 (ix2 0 k) * x8 (ix3 0 (y 1) k)) * x2 (ix2 (y 0) 0)
      + (∑ k : Fin 256, x7 (ix3 1 (y 0) k) * x5 (ix2 1 k) * x8 (ix3 1 (y 1) k)) * x2 (ix2 (y 0) 0) := by
  pointwise [dhFF, dhHalf, k0_pay3, k0_pay8, k0_pay9, k0_pay10, k0_pay11, k0_pay13, k0_pay14, k0_pay15]

/-- The accumulator after a point of the `w_qkv` part. -/
theorem dhQ_at (x3 : Vec Ideal S1024x1 .f32) (x6 : Vec Ideal S1x512 .f32) (x9 : Vec Ideal S1024x512 .fp8e5m2) (x10 : Vec Ideal S2048x512 .fp8e4m3) (xo : Vec Ideal S1024x2048 .f32) (y : S1024x2048.Idx) :
    dhQ (F := Ideal) x3 x6 x9 x10 xo y = xo y + (∑ k : Fin 512, x9 (ix2 (y 0) k) * x6 (ix2 0 k) * x10 (ix2 (y 1) k)) * x3 (ix2 (y 0) 0) := by
  pointwise [dhQ, k0_pay17]

end Cert.KernelIdeal.Hand

end
-- ==== Proof.V.Math.lean ====
/- What `proj_bwd` computes, as plain sums over the extended reals. -/
module

public import proofs.«01_k».proof.Proof.Gen.ReferenceIdeal.Value
public import Idealize.ShloMosaic.Lib.Pipeline.ValueKit

@[expose] public section

set_option maxRecDepth 16384

noncomputable section

open Idealize.ShloMosaic Idealize.ShloMosaic.TcCoe Idealize.SL.Sem

namespace Cert.Math

open Cert.ReferenceIdeal

/-- `dw_in` at (channel, half, column): the tokens' dequantised inputs against their dequantised gradients, times the channel's
    gamma. -/
def dwIn (X : FVec Ideal S1024x2048 .fp8e4m3) (xs : FVec Ideal S1024x1 .f32) (A : FVec Ideal S1024x2x5632 .fp8e5m2)
    (ta : FVec Ideal S1024x1 .f32) (g : FVec Ideal S2048x1 .f32) (d : Fin 2048) (h : Fin 2) (f : Fin 5632) : EReal :=
  (∑ t : Fin 1024, X (ix2 t d) * xs (ix2 t 0) * (A (ix3 t h f) * ta (ix2 t 0))) * g (ix2 d 0)

/-- `dw_qkv` at (channel, column). -/
def dwQ (X : FVec Ideal S1024x2048 .fp8e4m3) (xs : FVec Ideal S1024x1 .f32) (Q : FVec Ideal S1024x6144 .fp8e5m2)
    (qs : FVec Ideal S1024x1 .f32) (g : FVec Ideal S2048x1 .f32) (d : Fin 2048) (q : Fin 6144) : EReal :=
  (∑ t : Fin 1024, X (ix2 t d) * xs (ix2 t 0) * (Q (ix2 t q) * qs (ix2 t 0))) * g (ix2 d 0)

/-- `dh` at (token, channel), every product summed before the token's scale is applied. -/
def dh (A : FVec Ideal S1024x2x5632 .fp8e5m2) (ta : FVec Ideal S1024x1 .f32) (W : FVec Ideal S2048x2x5632 .fp8e4m3)
    (sa : FVec Ideal S2x5632 .f32) (Q : FVec Ideal S1024x6144 .fp8e5m2) (qs : FVec Ideal S1024x1 .f32)
    (U : FVec Ideal S2048x6144 .fp8e4m3) (sq : FVec Ideal S1x6144 .f32) (t : Fin 1024) (d : Fin 2048) : EReal :=
  (∑ f : Fin 5632, ∑ h : Fin 2, A (ix3 t h f) * (W (ix3 d h f) * sa (ix2 h f))) * ta (ix2 t 0)
    + (∑ q : Fin 6144, Q (ix2 t q) * (U (ix2 d q) * sq (ix2 0 q))) * qs (ix2 t 0)

end Cert.Math

end
-- ==== Proof.V.Arr.lean ====
/- The result arrays of `proj_bwd`, as sums over its operands. -/
module

public import proofs.«01_k».proof.Proof.V.Body
public import proofs.«01_k».proof.Proof.V.Math
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal.Gen Cert.KernelIdeal
open Idealize.ShloMosaic.Pipeline (Dat)

/-! ## The windows' blocks -/

variable (m : (ℓ : Loc nD τ sig) → Buf (Elt Ideal) ℓ)

/-- The block index of every window at every point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, min t.val 21] ∧ win0_6.index t = ![0, t.val - 22] ∧ win0_7.index t = ![0, 0, min t.val 21]
    ∧ win0_8.index t = ![0, 0, min t.val 21] ∧ win0_9.index t = ![0, t.val - 22] ∧ win0_10.index t = ![0, t.val - 22] ∧ win0_11.index t = ![0, 0, min t.val 21]
    ∧ win0_12.index t = ![0, t.val - 22] ∧ win0_13.index t = ![0, 0] :=
  (by decide +kernel : ∀ t : Fin grid0.N, _)

/-- A block of `dw_in` is written back at the points 0 to 20 and at the last. -/
theorem fl11 : ∀ t : Fin cfg0.N, (cfg0.win 11).flush t = true → t.val ≤ 20 ∨ t.val = 33 := (by decide +kernel : ∀ t : Fin grid0.N, _)
/-- A block of `dw_qkv` is written back at the points from 22 on. -/
theorem fl12 : ∀ t : Fin cfg0.N, (cfg0.win 12).flush t = true → 22 ≤ t.val := (by decide +kernel : ∀ t : Fin grid0.N, _)

/-- The token codes. -/
abbrev aX (c : Dev nD) : FVec Ideal S1024x2048 .fp8e4m3 := V m c main_v0
/-- Their scales. -/
abbrev aXs (c : Dev nD) : FVec Ideal S1024x1 .f32 := V m c main_v5
/-- The scales of the gradient codes of the first product. -/
abbrev aAs (c : Dev nD) : FVec Ideal S1024x1 .f32 := V m c main_v6
/-- The scales of the gradient codes of the second product. -/
abbrev aQs (c : Dev nD) : FVec Ideal S1024x1 .f32 := V m c main_v4
/-- The gammas. -/
abbrev aG (c : Dev nD) : FVec Ideal S2048x1 .f32 := V m c main_v8
/-- The column scales of the first weight. -/
abbrev aSa (c : Dev nD) : FVec Ideal S2x5632 .f32 := V m c main_arg8
/-- The column scales of the second weight. -/
abbrev aSq (c : Dev nD) : FVec Ideal S1x6144 .f32 := V m c main_v10
/-- The gradient codes of the first product. -/
abbrev aA (c : Dev nD) : FVec Ideal S1024x2x5632 .fp8e5m2 := V m c main_v2
/-- The codes of the first weight. -/
abbrev aW (c : Dev nD) : FVec Ideal S2048x2x5632 .fp8e4m3 := V m c main_arg7
/-- The gradient codes of the second product. -/
abbrev aQ (c : Dev nD) : FVec Ideal S1024x6144 .fp8e5m2 := V m c main_v7
/-- The codes of the second weight. -/
abbrev aU (c : Dev nD) : FVec Ideal S2048x6144 .fp8e4m3 := V m c main_v9

/-! ## The blocks at an index -/

theorem blk_0 (c : Dev nD) (t : Fin cfg0.N) : iblk m c 0 t = aX m c := by
  funext y; blk_ext [iblk, idx t]
theorem blk_1 (c : Dev nD) (t : Fin cfg0.N) : iblk m c 1 t = aXs m c := by
  funext y; blk_ext [iblk, idx t]
theorem blk_2 (c : Dev nD) (t : Fin cfg0.N) : iblk m c 2 t = aAs m c := by
  funext y; blk_ext [iblk, idx t]
theorem blk_3 (c : Dev nD) (t : Fin cfg0.N) : iblk m c 3 t = aQs m c := by
  funext y; blk_ext [iblk, idx t]
theorem blk_4 (c : Dev nD) (t : Fin cfg0.N) : iblk m c 4 t = aG m c := by
  funext y; blk_ext [iblk, idx t]

/-- The column of the first product's operands that lane `k` of point `t` is. -/
def colA (t : Fin cfg0.N) (k : Fin 256) : Fin 5632 := ⟨min t.val 21 * 256 + k.val, by have := k.isLt; omega⟩
/-- The column of the second product's operands that lane `k` of point `t` is. -/
def colQ (t : Fin cfg0.N) (k : Fin 512) : Fin 6144 := ⟨(t.val - 22) * 512 + k.val, by
  have := k.isLt; have := t.isLt; have hN : cfg0.N = 34 := N_0; omega⟩

/-- The block of the first product's column scales at point `t`. -/
def bSa (c : Dev nD) (t : Fin cfg0.N) : FVec Ideal S2x256 .f32 := fun i => aSa m c (ix2 (i 0) (colA t (i 1)))
/-- The block of the second product's column scales. -/
def bSq (c : Dev nD) (t : Fin cfg0.N) : FVec Ideal S1x512 .f32 := fun i => aSq m c (ix2 (i 0) (colQ t (i 1)))
/-- The block of the first product's gradient codes, half first. -/
def bA (c : Dev nD) (t : Fin cfg0.N) : FVec Ideal S2x1024x256 .fp8e5m2 := fun i => aA m c (ix3 (i 1) (i 0) (colA t (i 2)))
/-- The block of the first weight's codes, half first. -/
def bW (c : Dev nD) (t : Fin cfg0.N) : FVec Ideal S2x2048x256 .fp8e4m3 := fun i => aW m c (ix3 (i 1) (i 0) (colA t (i 2)))
/-- The block of the second product's gradient codes. -/
def bQ (c : Dev nD) (t : Fin cfg0.N) : FVec Ideal S1024x512 .fp8e5m2 := fun i => aQ m c (ix2 (i 0) (colQ t (i 1)))
/-- The block of the second weight's codes. -/
def bU (c : Dev nD) (t : Fin cfg0.N) : FVec Ideal S2048x512 .fp8e4m3 := fun i => aU m c (ix2 (i 0) (colQ t (i 1)))

theorem blk_5 (c : Dev nD) (t : Fin cfg0.N) : iblk m c 5 t = bSa m c t := by
  funext y; unfold bSa; blk_ext [iblk, idx t, colA]
theorem blk_6 (c : Dev nD) (t : Fin cfg0.N) : iblk m c 6 t = bSq m c t := by
  funext y; unfold bSq; blk_ext [iblk, idx t, colQ]
theorem blk_9 (c : Dev nD) (t : Fin cfg0.N) : iblk m c 9 t = bQ m c t := by
  funext y; unfold bQ; blk_ext [iblk, idx t, colQ]
theorem blk_10 (c : Dev nD) (t : Fin cfg0.N) : iblk m c 10 t = bU m c t := by
  funext y; unfold bU; blk_ext [iblk, idx t, colQ]

/-- The gradient codes, half first. -/
theorem V_v3 (c : Dev nD) : (V m c main_v3 : FVec Ideal S2x1024x5632 .fp8e5m2) = transpose S2x1024x5632 [1, 0, 2] (aA m c) transposes_S1024x2x5632_S2x1024x5632_1_0_2 := by
  have e2 : (V m c main_v2 : FVec Ideal S1024x2x5632 .fp8e5m2) = shapeCast S1024x2x5632 (m ((c : Thread nD τ).loc main_arg2)) shapeCasts_S1x1024x2x5632_S1024x2x5632 := by
    entry_read
    rfl
  rw [show aA m c = _ from e2]
  entry_read
  rfl
/-- The weight codes, half first. -/
theorem V_v1 (c : Dev nD) : (V m c main_v1 : FVec Ideal S2x2048x5632 .fp8e4m3) = transpose S2x2048x5632 [1, 0, 2] (aW m c) transposes_S2048x2x5632_S2x2048x5632_1_0_2 := by
  have e7 : aW m c = m ((c : Thread nD τ).loc main_arg7) := V_main_arg7 m c
  rw [e7]
  entry_read
  rfl

theorem blk_7 (c : Dev nD) (t : Fin cfg0.N) : iblk m c 7 t = bA m c t := by
  funext y
  refine Eq.trans (b := (V m c main_v3 : FVec Ideal S2x1024x5632 .fp8e5m2) (ix3 (y 0) (y 1) (colA t (y 2)))) (by blk_ext [iblk, idx t, colA]) ?_
  rw [V_v3]; unfold bA
  pointwise []
theorem blk_8 (c : Dev nD) (t : Fin cfg0.N) : iblk m c 8 t = bW m c t := by
  funext y
  refine Eq.trans (b := (V m c main_v1 : FVec Ideal S2x2048x5632 .fp8e4m3) (ix3 (y 0) (y 1) (colA t (y 2)))) (by blk_ext [iblk, idx t, colA]) ?_
  rw [V_v1]; unfold bW
  pointwise []

/-- The transposed tokens at (channel, token). -/
theorem xtAt_eq (c : Dev nD) : xtAt m c = fun y => aX m c (ix2 (y 1) (y 0)) * aXs m c (ix2 (y 1) 0) := by
  funext y; unfold xtAt; rw [xtOf_at, blk_0, blk_1]

/-! ## The two weight gradients -/

/-- The `dw_in` block held after point `t`, at the place `i` of the array where its index `y` sits. -/
theorem dwinAt_at (c : Dev nD) (t : Fin cfg0.N) (y : S2048x2x256.Idx) (i : S2048x2x5632.Idx) (h0 : (i 0).val = (y 0).val) (h1 : (i 1).val = (y 1).val)
    (h2 : (i 2).val = min t.val 21 * 256 + (y 2).val) :
    dwinAt m c t y = Cert.Math.dwIn (aX m c) (aXs m c) (aA m c) (aAs m c) (aG m c) (i 0) (i 1) (i 2) := by
  have e0 : i 0 = y 0 := Fin.ext h0
  have e1 : i 1 = y 1 := Fin.ext h1
  have e2 : i 2 = colA (p21 t) (y 2) := Fin.ext (by rw [h2]; simp [colA, p21])
  rw [e0, e1, e2]
  unfold dwinAt Cert.Math.dwIn
  rw [dwinOf_at, xtAt_eq, blk_2, blk_4, blk_7]
  rfl

/-- The `dw_qkv` block of point `t`, at the place `i` of the array where its index `y` sits. -/
theorem dwqAt_at (c : Dev nD) (t : Fin cfg0.N) (y : S2048x512.Idx) (i : S2048x6144.Idx) (h0 : (i 0).val = (y 0).val)
    (h1 : (i 1).val = (t.val - 22) * 512 + (y 1).val) :
    dwqAt m c t y = Cert.Math.dwQ (aX m c) (aXs m c) (aQ m c) (aQs m c) (aG m c) (i 0) (i 1) := by
  have e0 : i 0 = y 0 := Fin.ext h0
  have e1 : i 1 = colQ t (y 1) := Fin.ext h1
  rw [e0, e1]
  unfold dwqAt Cert.Math.dwQ
  rw [dwqOf_at, xtAt_eq, blk_3, blk_4, blk_9]
  rfl

/-- The array `dw_in` after the run. -/
theorem final_11 (c : Dev nD) : (dats m 0 c).arrAt 11 cfg0.N =
    fun i => Cert.Math.dwIn (aX m c) (aXs m c) (aA m c) (aAs m c) (aG m c) (i 0) (i 1) (i 2) := by
  refine (dats m 0 c).arrAt_eq_of_covers 11 _ (by decide +kernel) fun t hf y => ?_
  blk_simp
  rw [after0_11]
  refine dwinAt_at m c t _ _ ?_ ?_ ?_
  · blk_simp [idx t]
  · blk_simp [idx t]
  · blk_simp [idx t]

/-- The array `dw_qkv` after the run. -/
theorem final_12 (c : Dev nD) : (dats m 0 c).arrAt 12 cfg0.N =
    fun i => Cert.Math.dwQ (aX m c) (aXs m c) (aQ m c) (aQs m c) (aG m c) (i 0) (i 1) := by
  refine (dats m 0 c).arrAt_eq_of_covers 12 _ (by decide +kernel) fun t hf y => ?_
  blk_simp
  rw [after0_12]
  refine dwqAt_at m c t _ _ ?_ ?_
  · blk_simp [idx t]
  · blk_simp [idx t]

/-! ## The accumulator -/

/-- What point `t` adds to the accumulator at (token, channel). -/
def addend (c : Dev nD) (t : Fin cfg0.N) (y : S1024x2048.Idx) : EReal :=
  if t.val < 22 then
    (∑ k : Fin 256, aA m c (ix3 (y 0) 0 (colA t k)) * aSa m c (ix2 0 (colA t k)) * aW m c (ix3 (y 1) 0 (colA t k))) * aAs m c (ix2 (y 0) 0)
      + (∑ k : Fin 256, aA m c (ix3 (y 0) 1 (colA t k)) * aSa m c (ix2 1 (colA t k)) * aW m c (ix3 (y 1) 1 (colA t k))) * aAs m c (ix2 (y 0) 0)
  else (∑ k : Fin 512, aQ m c (ix2 (y 0) (colQ t k)) * aSq m c (ix2 0 (colQ t k)) * aU m c (ix2 (y 1) (colQ t k))) * aQs m c (ix2 (y 0) 0)

/-- One point's addition at an index. -/
theorem dhStep_at (c : Dev nD) (t : Fin cfg0.N) (xo) (y) : dhStep m c t xo y = xo y + addend m c t y := by
  unfold dhStep addend
  by_cases h : t.val < 22
  · rw [if_pos h, if_pos h, dhFF_at, add_assoc]
    rw [blk_2, blk_5, blk_7, blk_8]; rfl
  · rw [if_neg h, if_neg h, dhQ_at]
    rw [blk_3, blk_6, blk_9, blk_10]; rfl

/-- The accumulator after point `n` is the sum of the points' additions up to there. -/
theorem dhAt_eq (c : Dev nD) (y) : ∀ (n : ℕ) (h : n < cfg0.N), dhAt m c n h y = ∑ s : Fin (n + 1), addend m c ⟨s.val, by omega⟩ y
  | 0, h => by
    show dhStep m c ⟨0, h⟩ _ y = _
    rw [dhStep_at, zero_at, zero_add, Fin.sum_univ_one]; rfl
  | n + 1, h => by
    show dhStep m c ⟨n + 1, h⟩ _ y = _
    rw [dhStep_at, dhAt_eq c y n, Fin.sum_univ_castSucc (n := n + 1)]; rfl

/-- The last point. -/
def p33 : Fin cfg0.N := ⟨33, by rw [show cfg0.N = 34 from N_0]; decide⟩

/-- The array `dh` after the run: the points' additions summed. -/
theorem final_13 (c : Dev nD) : (dats m 0 c).arrAt 13 cfg0.N = fun i => ∑ s : Fin 34, addend m c ⟨s.val, by rw [show cfg0.N = 34 from N_0]; exact s.isLt⟩ i := by
  refine (dats m 0 c).arrAt_eq_of_after_last 13 p33 (by decide +kernel) _ fun j => ?_
  blk_simp
  rw [after0_13]
  exact dhAt_eq m c _ 33 _

end Cert.KernelIdeal.Hand

end
-- ==== Proof.V.Sum.lean ====
/- The kernel's accumulator against one sum per product: the token's scale comes out of the sums over the points. -/
module

public import proofs.«01_k».proof.Proof.V.Arr

@[expose] public section

set_option maxRecDepth 16384

noncomputable section

open Idealize.ShloMosaic Idealize.ShloMosaic.TcCoe Idealize.SL.Sem

namespace Cert.Math

/-- A factor that is not negative and not infinite comes out of a finite sum. -/
theorem sum_mul_const {ι : Type} (s : Finset ι) (f : ι → EReal) (c : EReal) (h0 : 0 ≤ c) (h1 : c ≠ ⊤) : ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 h1]

/-- A sum over 34 points is the sum over the first 22 and the sum over the last 12. -/
theorem sum_34 (g : Fin 34 → EReal) : ∑ s : Fin 34, g s = ∑ s : Fin 22, g ⟨s.val, by omega⟩ + ∑ s : Fin 12, g ⟨22 + s.val, by omega⟩ :=
  Fin.sum_univ_add (a := 22) (b := 12) g

/-- The 22 stretches of 256 columns, two halves each, every half scaled on its own, are one sum over all columns and halves, scaled
    once. -/
theorem sum_ff (A S W : Fin 2 → Fin 5632 → EReal) (c : EReal) (h0 : 0 ≤ c) (h1 : c ≠ ⊤) (g : Fin 22 → EReal)
    (hg : ∀ s : Fin 22, g s = (∑ k : Fin 256, A 0 ⟨s.val * 256 + k.val, by omega⟩ * S 0 ⟨s.val * 256 + k.val, by omega⟩ * W 0 ⟨s.val * 256 + k.val, by omega⟩) * c
      + (∑ k : Fin 256, A 1 ⟨s.val * 256 + k.val, by omega⟩ * S 1 ⟨s.val * 256 + k.val, by omega⟩ * W 1 ⟨s.val * 256 + k.val, by omega⟩) * c) :
    ∑ s : Fin 22, g s = (∑ f : Fin 5632, ∑ h : Fin 2, A h f * (W h f * S h f)) * c := by
  rw [← Fin.sum_mul_add_fin 22 256 (fun l : Fin 5632 => ∑ h : Fin 2, A h l * (W h l * S h l)), ← sum_mul_const _ _ _ h0 h1]
  refine Finset.sum_congr rfl fun s _ => ?_
  rw [hg, ← EReal.right_distrib_of_nonneg_of_ne_top h0 h1, ← Finset.sum_add_distrib]
  refine congrArg (· * c) (Finset.sum_congr rfl fun k _ => ?_)
  rw [Fin.sum_univ_two, mul_assoc, mul_assoc, mul_comm (S 0 _), mul_comm (S 1 _)]

/-- The 12 stretches of 512 columns, each scaled on its own, are one sum over all columns, scaled once. -/
theorem sum_q (A S W : Fin 6144 → EReal) (c : EReal) (h0 : 0 ≤ c) (h1 : c ≠ ⊤) (g : Fin 12 → EReal)
    (hg : ∀ s : Fin 12, g s = (∑ k : Fin 512, A ⟨s.val * 512 + k.val, by omega⟩ * S ⟨s.val * 512 + k.val, by omega⟩ * W ⟨s.val * 512 + k.val, by omega⟩) * c) :
    ∑ s : Fin 12, g s = (∑ f : Fin 6144, A f * (W f * S f)) * c := by
  rw [← Fin.sum_mul_add_fin 12 512 (fun l : Fin 6144 => A l * (W l * S l)), ← sum_mul_const _ _ _ h0 h1]
  refine Finset.sum_congr rfl fun s _ => ?_
  rw [hg]
  refine congrArg (· * c) (Finset.sum_congr rfl fun k _ => ?_)
  rw [mul_assoc, mul_comm (S _)]

end Cert.Math

namespace Cert.KernelIdeal.Hand

open Cert.KernelIdeal Cert.KernelIdeal.Gen
variable (m : (ℓ : Loc nD τ sig) → Buf (Elt Ideal) ℓ)

/-- Point `n` of the grid. -/
def pt (n : ℕ) (h : n < 34) : Fin cfg0.N := ⟨n, by rw [show cfg0.N = 34 from N_0]; exact h⟩

/-- The points' additions summed are the two products summed and then scaled, on a row whose two token scales are not negative and
    not infinite. -/
theorem sum_addend (c : Dev nD) (y : S1024x2048.Idx) (a0 : 0 ≤ aAs m c (ix2 (y 0) 0)) (a1 : aAs m c (ix2 (y 0) 0) ≠ ⊤)
    (q0 : 0 ≤ aQs m c (ix2 (y 0) 0)) (q1 : aQs m c (ix2 (y 0) 0) ≠ ⊤) :
    ∑ s : Fin 34, addend m c (pt s.val s.isLt) y =
      Cert.Math.dh (aA m c) (aAs m c) (aW m c) (aSa m c) (aQ m c) (aQs m c) (aU m c) (aSq m c) (y 0) (y 1) := by
  refine (Cert.Math.sum_34 _).trans ?_
  unfold Cert.Math.dh
  refine congrArg₂ (· + ·) ?_ ?_
  · refine Cert.Math.sum_ff (fun h f => aA m c (ix3 (y 0) h f)) (fun h f => aSa m c (ix2 h f)) (fun h f => aW m c (ix3 (y 1) h f)) _ a0 a1 _ fun s => ?_
    have ek : ∀ k : Fin 256, colA (pt s.val (by omega)) k = (⟨s.val * 256 + k.val, by omega⟩ : Fin 5632) := fun k =>
      Fin.ext (by show min s.val 21 * 256 + k.val = _; rw [Nat.min_eq_left (by omega)])
    refine (if_pos s.isLt).trans ?_
    refine congrArg₂ (· + ·) ?_ ?_
    · refine congrArg (· * _) (Finset.sum_congr rfl fun k _ => ?_)
      rw [← ek k]
    · refine congrArg (· * _) (Finset.sum_congr rfl fun k _ => ?_)
      rw [← ek k]
  · refine Cert.Math.sum_q (fun f => aQ m c (ix2 (y 0) f)) (fun f => aSq m c (ix2 0 f)) (fun f => aU m c (ix2 (y 1) f)) _ q0 q1 _ fun s => ?_
    have ek : ∀ k : Fin 512, colQ (pt (22 + s.val) (by omega)) k = (⟨s.val * 512 + k.val, by omega⟩ : Fin 6144) := fun k =>
      Fin.ext (by show (22 + s.val - 22) * 512 + k.val = _; rw [Nat.add_sub_cancel_left])
    refine (if_neg (by show ¬ 22 + s.val < 22; omega)).trans ?_
    refine congrArg (· * _) (Finset.sum_congr rfl fun k _ => ?_)
    rw [← ek k]

end Cert.KernelIdeal.Hand

end
-- ==== Proof.V.Ref.lean ====
/- The result arrays of the reference of `proj_bwd`, as plain sums of its operands. -/
module

public import proofs.«01_k».proof.Proof.V.Math
public import Idealize.ShloMosaic.Lib.Pipeline.ValueKit

@[expose] public section

set_option maxRecDepth 16384

noncomputable section

open Idealize.ShloMosaic Idealize.ShloMosaic.TcCoe Idealize.SL.Sem

namespace Cert.ReferenceIdeal.Hand

open Cert.ReferenceIdeal.Gen Cert.ReferenceIdeal
open Idealize.ShloMosaic.Pipeline (Dat)

variable (m : (ℓ : Loc nD τ sig) → Buf (Elt Ideal) ℓ)

/-- The one grid point's index of every window is zero. -/
theorem idx : ∀ t : Fin cfg0.N, win0_0.index t = ![0, 0] ∧ win0_1.index t = ![0, 0] ∧ win0_2.index t = ![0, 0, 0] ∧ win0_3.index t = ![0, 0]
    ∧ win0_4.index t = ![0, 0] ∧ win0_5.index t = ![0, 0] ∧ win0_6.index t = ![0, 0] ∧ win0_7.index t = ![0, 0, 0]
    ∧ win0_8.index t = ![0, 0] ∧ win0_9.index t = ![0, 0] ∧ win0_10.index t = ![0, 0] ∧ win0_11.index t = ![0, 0, 0]
    ∧ win0_12.index t = ![0, 0] ∧ win0_13.index t = ![0, 0] :=
  (by decide +kernel : ∀ t : Fin grid0.N, _)

/-- Every block is its whole array. -/
theorem blk_0 (c : Dev nD) (t : Fin cfg0.N) : iblk m c 0 t = V m c main_v0 := by
  funext y; blk_ext [iblk, idx t]
theorem blk_1 (c : Dev nD) (t : Fin cfg0.N) : iblk m c 1 t = V m c main_v1 := by
  funext y; blk_ext [iblk, idx t]
theorem blk_2 (c : Dev nD) (t : Fin cfg0.N) : iblk m c 2 t = V m c main_v2 := by
  funext y; blk_ext [iblk, idx t]
theorem blk_3 (c : Dev nD) (t : Fin cfg0.N) : iblk m c 3 t = V m c main_v3 := by
  funext y; blk_ext [iblk, idx t]
theorem blk_4 (c : Dev nD) (t : Fin cfg0.N) : iblk m c 4 t = V m c main_v4 := by
  funext y; blk_ext [iblk, idx t]
theorem blk_5 (c : Dev nD) (t : Fin cfg0.N) : iblk m c 5 t = V m c main_v5 := by
  funext y; blk_ext [iblk, idx t]
theorem blk_6 (c : Dev nD) (t : Fin cfg0.N) : iblk m c 6 t = V m c main_v6 := by
  funext y; blk_ext [iblk, idx t]
theorem blk_7 (c : Dev nD) (t : Fin cfg0.N) : iblk m c 7 t = V m c main_arg7 := by
  funext y; blk_ext [iblk, idx t]
theorem blk_8 (c : Dev nD) (t : Fin cfg0.N) : iblk m c 8 t = V m c main_arg8 := by
  funext y; blk_ext [iblk, idx t]
theorem blk_9 (c : Dev nD) (t : Fin cfg0.N) : iblk m c 9 t = V m c main_v7 := by
  funext y; blk_ext [iblk, idx t]
theorem blk_10 (c : Dev nD) (t : Fin cfg0.N) : iblk m c 10 t = V m c main_v8 := by
  funext y; blk_ext [iblk, idx t]

/-- The stored `dw_in` is the plain sum. -/
theorem pay_11 (X xs A ta g) (i) : k0_pay3 (F := Ideal) X xs A ta g i = Cert.Math.dwIn X xs A ta g (i 0) (i 1) (i 2) := by
  pointwise [k0_pay3, k0_pay1, Cert.Math.dwIn]
  exact mul_comm _ _

/-- The stored `dw_qkv` is the plain sum. -/
theorem pay_12 (X xs A ta g) (i) : k0_pay4 (k0_pay2 (F := Ideal) X xs A ta g) i = Cert.Math.dwQ X xs A ta g (i 0) (i 1) := by
  pointwise [k0_pay4, k0_pay2, k0_pay1, Cert.Math.dwQ]
  exact mul_comm _ _

/-- The stored `dh` is the plain sum. -/
theorem pay_13 (W sa A ta U sq Q qs) (i) : k0_pay5 (F := Ideal) W sa A ta U sq Q qs i = Cert.Math.dh A ta W sa Q qs U sq (i 0) (i 1) := by
  pointwise [k0_pay5, Cert.Math.dh]

/-- The array `dw_in` after the run. -/
theorem final_11 (c : Dev nD) : (dats m 0 c).arrAt 11 cfg0.N = fun i => Cert.Math.dwIn (V m c main_v0) (V m c main_v1) (V m c main_v2) (V m c main_v3) (V m c main_v6) (i 0) (i 1) (i 2) := by
  refine (dats m 0 c).arrAt_eq_of_after_last 11 t0_0 (by decide +kernel) _ fun j => ?_
  blk_simp
  rw [after0_11]; frame_out
  simp only [blk_0, blk_1, blk_2, blk_3, blk_4, blk_5, blk_6, blk_7, blk_8, blk_9, blk_10]
  exact pay_11 ..

/-- The array `dw_qkv` after the run. -/
theorem final_12 (c : Dev nD) : (dats m 0 c).arrAt 12 cfg0.N = fun i => Cert.Math.dwQ (V m c main_v0) (V m c main_v1) (V m c main_v4) (V m c main_v5) (V m c main_v6) (i 0) (i 1) := by
  refine (dats m 0 c).arrAt_eq_of_after_last 12 t0_0 (by decide +kernel) _ fun j => ?_
  blk_simp
  rw [after0_12]; frame_out
  simp only [blk_0, blk_1, blk_2, blk_3, blk_4, blk_5, blk_6, blk_7, blk_8, blk_9, blk_10]
  exact pay_12 ..

/-- The array `dh` after the run. -/
theorem final_13 (c : Dev nD) : (dats m 0 c).arrAt 13 cfg0.N = fun i => Cert.Math.dh (V m c main_v2) (V m c main_v3) (V m c main_arg7) (V m c main_arg8) (V m c main_v4) (V m c main_v5) (V m c main_v7) (V m c main_v8) (i 0) (i 1) := by
  refine (dats m 0 c).arrAt_eq_of_after_last 13 t0_0 (by decide +kernel) _ fun j => ?_
  blk_simp
  rw [after0_13]; frame_out
  simp only [blk_0, blk_1, blk_2, blk_3, blk_4, blk_5, blk_6, blk_7, blk_8, blk_9, blk_10]
  exact pay_13 ..

end Cert.ReferenceIdeal.Hand

end
-- ==== Proof.V.Args.lean ====
/- The arrays the two `proj_bwd` programs read, when their arguments agree: each operand of the reference's region is the kernel's. -/
module

public import proofs.«01_k».proof.Proof.V.Sum
public import proofs.«01_k».proof.Proof.V.Ref

@[expose] public section

set_option maxRecDepth 16384

noncomputable section

open Idealize.ShloMosaic Idealize.ShloMosaic.TcCoe Idealize.SL.Sem

namespace Cert.Tie

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' argument arrays agree on device `c`. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable (h : Agree m m' c)
include h

/-- Operand from argument 0. -/
theorem eX : (Cert.ReferenceIdeal.Gen.V m' c Cert.ReferenceIdeal.main_v0 : FVec Ideal Cert.ReferenceIdeal.S1024x2048 .fp8e4m3) = Cert.KernelIdeal.Hand.aX m c := by
  have e := h.1
  show (Cert.ReferenceIdeal.Gen.V m' c Cert.ReferenceIdeal.main_v0 : FVec Ideal Cert.ReferenceIdeal.S1024x2048 .fp8e4m3) = (Cert.KernelIdeal.Gen.V m c Cert.KernelIdeal.main_v0 : FVec Ideal Cert.KernelIdeal.S1024x2048 .fp8e4m3)
  entry_read
  rw [e]
  rfl
/-- Operand from argument 1. -/
theorem eXs : (Cert.ReferenceIdeal.Gen.V m' c Cert.ReferenceIdeal.main_v1 : FVec Ideal Cert.ReferenceIdeal.S1024x1 .f32) = Cert.KernelIdeal.Hand.aXs m c := by
  have e := h.2.1
  show (Cert.ReferenceIdeal.Gen.V m' c Cert.ReferenceIdeal.main_v1 : FVec Ideal Cert.ReferenceIdeal.S1024x1 .f32) = (Cert.KernelIdeal.Gen.V m c Cert.KernelIdeal.main_v5 : FVec Ideal Cert.KernelIdeal.S1024x1 .f32)
  entry_read
  rw [e]
  rfl
/-- Operand from argument 2. -/
theorem eA : (Cert.ReferenceIdeal.Gen.V m' c Cert.ReferenceIdeal.main_v2 : FVec Ideal Cert.ReferenceIdeal.S1024x2x5632 .fp8e5m2) = Cert.KernelIdeal.Hand.aA m c := by
  have e := h.2.2.1
  show (Cert.ReferenceIdeal.Gen.V m' c Cert.ReferenceIdeal.main_v2 : FVec Ideal Cert.ReferenceIdeal.S1024x2x5632 .fp8e5m2) = (Cert.KernelIdeal.Gen.V m c Cert.KernelIdeal.main_v2 : FVec Ideal Cert.KernelIdeal.S1024x2x5632 .fp8e5m2)
  entry_read
  rw [e]
  rfl
/-- Operand from argument 3. -/
theorem eAs : (Cert.ReferenceIdeal.Gen.V m' c Cert.ReferenceIdeal.main_v3 : FVec Ideal Cert.ReferenceIdeal.S1024x1 .f32) = Cert.KernelIdeal.Hand.aAs m c := by
  have e := h.2.2.2.1
  show (Cert.ReferenceIdeal.Gen.V m' c Cert.ReferenceIdeal.main_v3 : FVec Ideal Cert.ReferenceIdeal.S1024x1 .f32) = (Cert.KernelIdeal.Gen.V m c Cert.KernelIdeal.main_v6 : FVec Ideal Cert.KernelIdeal.S1024x1 .f32)
  entry_read
  rw [e]
  rfl
/-- Operand from argument 4. -/
theorem eQ : (Cert.ReferenceIdeal.Gen.V m' c Cert.ReferenceIdeal.main_v4 : FVec Ideal Cert.ReferenceIdeal.S1024x6144 .fp8e5m2) = Cert.KernelIdeal.Hand.aQ m c := by
  have e := h.2.2.2.2.1
  show (Cert.ReferenceIdeal.Gen.V m' c Cert.ReferenceIdeal.main_v4 : FVec Ideal Cert.ReferenceIdeal.S1024x6144 .fp8e5m2) = (Cert.KernelIdeal.Gen.V m c Cert.KernelIdeal.main_v7 : FVec Ideal Cert.KernelIdeal.S1024x6144 .fp8e5m2)
  entry_read
  rw [e]
  rfl
/-- Operand from argument 5. -/
theorem eQs : (Cert.ReferenceIdeal.Gen.V m' c Cert.ReferenceIdeal.main_v5 : FVec Ideal Cert.ReferenceIdeal.S1024x1 .f32) = Cert.KernelIdeal.Hand.aQs m c := by
  have e := h.2.2.2.2.2.1
  show (Cert.ReferenceIdeal.Gen.V m' c Cert.ReferenceIdeal.main_v5 : FVec Ideal Cert.ReferenceIdeal.S1024x1 .f32) = (Cert.KernelIdeal.Gen.V m c Cert.KernelIdeal.main_v4 : FVec Ideal Cert.KernelIdeal.S1024x1 .f32)
  entry_read
  rw [e]
  rfl
/-- Operand from argument 6. -/
theorem eG : (Cert.ReferenceIdeal.Gen.V m' c Cert.ReferenceIdeal.main_v6 : FVec Ideal Cert.ReferenceIdeal.S2048x1 .f32) = Cert.KernelIdeal.Hand.aG m c := by
  have e := h.2.2.2.2.2.2.1
  show (Cert.ReferenceIdeal.Gen.V m' c Cert.ReferenceIdeal.main_v6 : FVec Ideal Cert.ReferenceIdeal.S2048x1 .f32) = (Cert.KernelIdeal.Gen.V m c Cert.KernelIdeal.main_v8 : FVec Ideal Cert.KernelIdeal.S2048x1 .f32)
  entry_read
  rw [e]
  rfl
/-- Operand from argument 7. -/
theorem eW : (Cert.ReferenceIdeal.Gen.V m' c Cert.ReferenceIdeal.main_arg7 : FVec Ideal Cert.ReferenceIdeal.S2048x2x5632 .fp8e4m3) = Cert.KernelIdeal.Hand.aW m c := by
  have e := h.2.2.2.2.2.2.2.1
  show (Cert.ReferenceIdeal.Gen.V m' c Cert.ReferenceIdeal.main_arg7 : FVec Ideal Cert.ReferenceIdeal.S2048x2x5632 .fp8e4m3) = (Cert.KernelIdeal.Gen.V m c Cert.KernelIdeal.main_arg7 : FVec Ideal Cert.KernelIdeal.S2048x2x5632 .fp8e4m3)
  exact (Cert.ReferenceIdeal.Gen.V_main_arg7 m' c).trans (e.trans (Cert.KernelIdeal.Gen.V_main_arg7 m c).symm)
/-- Operand from argument 8. -/
theorem eSa : (Cert.ReferenceIdeal.Gen.V m' c Cert.ReferenceIdeal.main_arg8 : FVec Ideal Cert.ReferenceIdeal.S2x5632 .f32) = Cert.KernelIdeal.Hand.aSa m c := by
  have e := h.2.2.2.2.2.2.2.2.1
  show (Cert.ReferenceIdeal.Gen.V m' c Cert.ReferenceIdeal.main_arg8 : FVec Ideal Cert.ReferenceIdeal.S2x5632 .f32) = (Cert.KernelIdeal.Gen.V m c Cert.KernelIdeal.main_arg8 : FVec Ideal Cert.KernelIdeal.S2x5632 .f32)
  exact (Cert.ReferenceIdeal.Gen.V_main_arg8 m' c).trans (e.trans (Cert.KernelIdeal.Gen.V_main_arg8 m c).symm)
/-- Operand from argument 9. -/
theorem eU : (Cert.ReferenceIdeal.Gen.V m' c Cert.ReferenceIdeal.main_v7 : FVec Ideal Cert.ReferenceIdeal.S2048x6144 .fp8e4m3) = Cert.KernelIdeal.Hand.aU m c := by
  have e := h.2.2.2.2.2.2.2.2.2.1
  show (Cert.ReferenceIdeal.Gen.V m' c Cert.ReferenceIdeal.main_v7 : FVec Ideal Cert.ReferenceIdeal.S2048x6144 .fp8e4m3) = (Cert.KernelIdeal.Gen.V m c Cert.KernelIdeal.main_v9 : FVec Ideal Cert.KernelIdeal.S2048x6144 .fp8e4m3)
  entry_read
  rw [e]
  rfl
/-- Operand from argument 10. -/
theorem eSq : (Cert.ReferenceIdeal.Gen.V m' c Cert.ReferenceIdeal.main_v8 : FVec Ideal Cert.ReferenceIdeal.S1x6144 .f32) = Cert.KernelIdeal.Hand.aSq m c := by
  have e := h.2.2.2.2.2.2.2.2.2.2
  show (Cert.ReferenceIdeal.Gen.V m' c Cert.ReferenceIdeal.main_v8 : FVec Ideal Cert.ReferenceIdeal.S1x6144 .f32) = (Cert.KernelIdeal.Gen.V m c Cert.KernelIdeal.main_v10 : FVec Ideal Cert.KernelIdeal.S1x6144 .f32)
  entry_read
  rw [e]
  rfl

end Cert.Tie

end
-- ==== Proof.V.Mask.lean ====
/- What the mask and the precondition say: on a row the two token scales are not negative and not infinite. -/
module

public import proofs.«01_k».proof.Proof.V.Sum
public import proofs.«01_k».proof.Defs
public import proofs.«01_k».proof.Proof.Gen.On_proper_rows
public import proofs.«01_k».proof.Proof.Gen.Pre_proper_scales

@[expose] public section

set_option maxRecDepth 16384

noncomputable section

open Idealize.ShloMosaic Idealize.ShloMosaic.TcCoe Idealize.SL.Sem

namespace Cert.Tie

/-- The word of infinity is the top of the extended reals. -/
theorem ofBits_inf : Ideal.ofBits .f32 0x7F800000#32 = ⊤ := by simp [Ideal.ofBits, Ideal.ieee]

/-- The two comparisons at one scale. -/
theorem proper_word (x : EReal) : IntOp.andi (Ideal.cmp .oge x (Ideal.ofBits .f32 0x00000000#32)) (Ideal.cmp .olt x (Ideal.ofBits .f32 0x7F800000#32)) = 1#1 ↔ 0 ≤ x ∧ x ≠ ⊤ := by
  rw [ofBits_inf, Ideal.ofBits_zero_f32]
  rw [← lt_top_iff_ne_top]
  show BitVec.ofBool (decide (0 ≤ x)) &&& BitVec.ofBool (decide (x < ⊤)) = 1#1 ↔ _
  by_cases h : 0 ≤ x <;> by_cases h' : x < ⊤ <;> simp only [h, h', decide_true, decide_false] <;> decide

/-- Both bits of a conjunction of bits. -/
theorem and_bits (a b : BitVec 1) : IntOp.andi a b = 1#1 ↔ a = 1#1 ∧ b = 1#1 := by
  revert a b; decide

/-- The mask over `dh` at (token, channel). -/
theorem on_iff (x0 x1 x2 x3 x4 x5 x6 x7 x8 x9 x10) (i : Cert.On_proper_rows.S1024x2048.Idx) :
    (Cert.On_proper_rows.fn (F := Ideal) x0 x1 x2 x3 x4 x5 x6 x7 x8 x9 x10).2.2 i = 1#1
      ↔ ((0 : EReal) ≤ x3 (ix2 0 (i 0)) ∧ (x3 (ix2 0 (i 0)) : EReal) ≠ ⊤) ∧ ((0 : EReal) ≤ x5 (ix2 0 (i 0)) ∧ (x5 (ix2 0 (i 0)) : EReal) ≠ ⊤) := by
  rw [← proper_word, ← proper_word, ← and_bits]
  refine iff_of_eq (congrArg (· = 1#1) ?_)
  pointwise [Cert.On_proper_rows.fn]

/-- The precondition at one token. -/
theorem pre_1 (x0 x1 x2 x3 x4 x5 x6 x7 x8 x9 x10) (i : Cert.Pre_proper_scales.S1x1024.Idx) :
    (Cert.Pre_proper_scales.fn (F := Ideal) x0 x1 x2 x3 x4 x5 x6 x7 x8 x9 x10).1 i = 1#1 ↔ (0 : EReal) ≤ x3 i ∧ (x3 i : EReal) ≠ ⊤ :=
  proper_word _
theorem pre_2 (x0 x1 x2 x3 x4 x5 x6 x7 x8 x9 x10) (i : Cert.Pre_proper_scales.S1x1024.Idx) :
    (Cert.Pre_proper_scales.fn (F := Ideal) x0 x1 x2 x3 x4 x5 x6 x7 x8 x9 x10).2 i = 1#1 ↔ (0 : EReal) ≤ x5 i ∧ (x5 i : EReal) ≠ ⊤ :=
  proper_word _

variable (m : (ℓ : Loc Cert.KernelIdeal.nD Cert.KernelIdeal.τ Cert.KernelIdeal.sig) → Buf (Elt Ideal) ℓ) (c : Dev Cert.KernelIdeal.nD)

/-- The columns of token scales the region reads are the argument rows. -/
theorem aAs_at (t : Fin 1024) : Cert.KernelIdeal.Hand.aAs m c (ix2 t 0) = (m ((c.tc : Thread Cert.KernelIdeal.nD Cert.KernelIdeal.τ).loc Cert.KernelIdeal.main_arg3) : FVec Ideal Cert.KernelIdeal.S1x1024 .f32) (ix2 0 t) := by
  show (Cert.KernelIdeal.Gen.V m c Cert.KernelIdeal.main_v6 : FVec Ideal Cert.KernelIdeal.S1024x1 .f32) (ix2 t 0) = _
  entry_read
  pointwise []
theorem aQs_at (t : Fin 1024) : Cert.KernelIdeal.Hand.aQs m c (ix2 t 0) = (m ((c.tc : Thread Cert.KernelIdeal.nD Cert.KernelIdeal.τ).loc Cert.KernelIdeal.main_arg5) : FVec Ideal Cert.KernelIdeal.S1x1024 .f32) (ix2 0 t) := by
  show (Cert.KernelIdeal.Gen.V m c Cert.KernelIdeal.main_v4 : FVec Ideal Cert.KernelIdeal.S1024x1 .f32) (ix2 t 0) = _
  entry_read
  pointwise []

end Cert.Tie

end
-- ==== Proof.V.Tie.lean ====
/- The claims about `proj_bwd`: kernel and reference end with equal results. -/
module

public import proofs.«01_k».proof.Proof.V.Args
public import proofs.«01_k».proof.Proof.V.Mask

@[expose] public section

set_option maxRecDepth 16384

noncomputable section

open Idealize.ShloMosaic Idealize.ShloMosaic.TcCoe Idealize.SL.Sem

namespace Cert.KernelIdeal.Hand

open Cert.KernelIdeal Cert.KernelIdeal.Gen
variable (m : (ℓ : Loc nD τ sig) → Buf (Elt Ideal) ℓ) (ρ : Dev nD → PrngReg)

/-- The run of the ideal kernel with its three results named, and its arguments unchanged. -/
theorem run_results : θ_run defs (onTc (τ := τ) (main (F := Ideal))) ⟨m, fun _ => 0, ρ⟩ (fun r => ∀ c : Dev nD,
      r.2.mem ((c.tc : Thread nD τ).loc main_v11_0) = (dats m 0 c).arrAt 11 cfg0.N
      ∧ r.2.mem ((c.tc : Thread nD τ).loc main_v11_1) = (dats m 0 c).arrAt 12 cfg0.N
      ∧ r.2.mem ((c.tc : Thread nD τ).loc main_v11_2) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h.1 c).1 11, (h.1 c).1 12, (h.1 c).1 13, h.2 c⟩)
    (θ_run_and (run_main m ρ) (unchanged m ρ))

end Cert.KernelIdeal.Hand

namespace Cert.Tie

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h : Agree m m' c)
include h

/-- The kernel's `dw_in` is the reference's. -/
theorem tie_11 : (Cert.ReferenceIdeal.Gen.dats m' 0 c).arrAt 11 Cert.ReferenceIdeal.cfg0.N = (Cert.KernelIdeal.Hand.dats m 0 c).arrAt 11 Cert.KernelIdeal.cfg0.N := by
  refine (Cert.ReferenceIdeal.Hand.final_11 m' c).trans (Eq.trans ?_ (Cert.KernelIdeal.Hand.final_11 m c).symm)
  rw [eX m m' c h, eXs m m' c h, eA m m' c h, eAs m m' c h, eG m m' c h]
  rfl

/-- The kernel's `dw_qkv` is the reference's. -/
theorem tie_12 : (Cert.ReferenceIdeal.Gen.dats m' 0 c).arrAt 12 Cert.ReferenceIdeal.cfg0.N = (Cert.KernelIdeal.Hand.dats m 0 c).arrAt 12 Cert.KernelIdeal.cfg0.N := by
  refine (Cert.ReferenceIdeal.Hand.final_12 m' c).trans (Eq.trans ?_ (Cert.KernelIdeal.Hand.final_12 m c).symm)
  rw [eX m m' c h, eXs m m' c h, eQ m m' c h, eQs m m' c h, eG m m' c h]
  rfl

/-- The kernel's `dh` is the reference's at a token whose two scales are not negative and not infinite. -/
theorem tie_13 (i : Cert.KernelIdeal.S1024x2048.Idx)
    (p : ((0 : EReal) ≤ Cert.KernelIdeal.Hand.aAs m c (ix2 (i 0) 0) ∧ (Cert.KernelIdeal.Hand.aAs m c (ix2 (i 0) 0) : EReal) ≠ ⊤)
      ∧ ((0 : EReal) ≤ Cert.KernelIdeal.Hand.aQs m c (ix2 (i 0) 0) ∧ (Cert.KernelIdeal.Hand.aQs m c (ix2 (i 0) 0) : EReal) ≠ ⊤)) :
    (Cert.ReferenceIdeal.Gen.dats m' 0 c).arrAt 13 Cert.ReferenceIdeal.cfg0.N i = (Cert.KernelIdeal.Hand.dats m 0 c).arrAt 13 Cert.KernelIdeal.cfg0.N i := by
  refine (congrFun (Cert.ReferenceIdeal.Hand.final_13 m' c) i).trans (Eq.trans ?_ (congrFun (Cert.KernelIdeal.Hand.final_13 m c) i).symm)
  refine Eq.trans ?_ (Cert.KernelIdeal.Hand.sum_addend m c i p.1.1 p.1.2 p.2.1 p.2.2).symm
  rw [eA m m' c h, eAs m m' c h, eW m m' c h, eSa m m' c h, eQ m m' c h, eQs m m' c h, eU m m' c h, eSq m m' c h]

end Cert.Tie

namespace Cert.Tie

/-- The two programs agree on all of `dw_in` and `dw_qkv`, and on the rows of `dh` whose two token scales are not negative and not
    infinite. -/
theorem algebraic_on : Cert.algebraic_KernelIdeal_ReferenceIdeal_on_proper_rows := by
  intro m g m' g' _ hagree
  refine ⟨fun c => (Cert.KernelIdeal.Hand.dats m 0 c).arrAt 11 Cert.KernelIdeal.cfg0.N, fun c => (Cert.KernelIdeal.Hand.dats m 0 c).arrAt 12 Cert.KernelIdeal.cfg0.N,
    fun c => (Cert.KernelIdeal.Hand.dats m 0 c).arrAt 13 Cert.KernelIdeal.cfg0.N, ?_, ?_⟩
  · exact (θ_run Cert.KernelIdeal.defs _ _).mono (fun r h c => ⟨fun i _ => congrFun (h c).1 i, fun i _ => congrFun (h c).2.1 i, fun i _ => congrFun (h c).2.2.1 i, (h c).2.2.2⟩)
      (Cert.KernelIdeal.Hand.run_results m g)
  · refine (θ_run Cert.ReferenceIdeal.defs _ _).mono (fun r h c => ⟨fun i _ => congrFun ((h c).1.trans (tie_11 m m' c (hagree c))) i,
      fun i _ => congrFun ((h c).2.1.trans (tie_12 m m' c (hagree c))) i,
      fun i hi => (congrFun (h c).2.2.1 i).trans (tie_13 m m' c (hagree c) i ?_), (h c).2.2.2⟩)
      (Cert.ReferenceIdeal.Value.run_blocks m' g')
    have := (on_iff _ _ _ _ _ _ _ _ _ _ _ i).mp hi
    rw [aAs_at m c (i 0), aQs_at m c (i 0)]
    exact this

/-- With every token scale not negative and not infinite the two programs agree on all three results. -/
theorem algebraic_pre : Cert.algebraic_KernelIdeal_ReferenceIdeal_pre_proper_scales := by
  intro m g m' g' hpre hagree
  refine ⟨fun c => (Cert.KernelIdeal.Hand.dats m 0 c).arrAt 11 Cert.KernelIdeal.cfg0.N, fun c => (Cert.KernelIdeal.Hand.dats m 0 c).arrAt 12 Cert.KernelIdeal.cfg0.N,
    fun c => (Cert.KernelIdeal.Hand.dats m 0 c).arrAt 13 Cert.KernelIdeal.cfg0.N, Cert.KernelIdeal.Hand.run_results m g, ?_⟩
  refine (θ_run Cert.ReferenceIdeal.defs _ _).mono (fun r h c => ⟨(h c).1.trans (tie_11 m m' c (hagree c)), (h c).2.1.trans (tie_12 m m' c (hagree c)),
      (h c).2.2.1.trans (funext fun i => tie_13 m m' c (hagree c) i ?_), (h c).2.2.2⟩)
      (Cert.ReferenceIdeal.Value.run_blocks m' g')
  rw [aAs_at m c (i 0), aQs_at m c (i 0)]
  exact ⟨(pre_1 _ _ _ _ _ _ _ _ _ _ _ _).mp (congrFun (hpre c).1 (ix2 0 (i 0))), (pre_2 _ _ _ _ _ _ _ _ _ _ _ _).mp (congrFun (hpre c).2 (ix2 0 (i 0)))⟩

end Cert.Tie

end
-- ==== Proof.V.MathC.lean ====
/- What `layernorm_bwd` computes, as plain sums over the extended reals, and the two constants. -/
module

public import proofs.«01_k».proof.Proof.Gen.ReferenceCIdeal.Value
public import Idealize.ShloMosaic.Lib.Pipeline.ValueKit

@[expose] public section

set_option maxRecDepth 16384

noncomputable section

open Idealize.ShloMosaic Idealize.ShloMosaic.TcCoe Idealize.SL.Sem

namespace Cert.MathC

open Cert.ReferenceCIdeal

/-- The gradient of the normalised input times gamma, at (token, channel). -/
def dxh (H : FVec Ideal S1024x2048 .f32) (g : FVec Ideal S1x2048 .f32) (t : Fin 1024) (d : Fin 2048) : EReal := H (ix2 t d) * g (ix2 0 d)
/-- The dequantised normalised input. -/
def xh (X : FVec Ideal S1024x2048 .fp8e4m3) (xs : FVec Ideal S1024x1 .f32) (t : Fin 1024) (d : Fin 2048) : EReal := X (ix2 t d) * xs (ix2 t 0)

/-- `dx` at (token, channel): the residual's gradient and the layer norm's, with the two means over the channels. -/
def dx (H : FVec Ideal S1024x2048 .f32) (X : FVec Ideal S1024x2048 .fp8e4m3) (xs rs : FVec Ideal S1024x1 .f32) (g : FVec Ideal S1x2048 .f32)
    (Y : FVec Ideal S1024x2048 .fp8e5m2) (ys : FVec Ideal S1024x1 .f32) (t : Fin 1024) (d : Fin 2048) : EReal :=
  Y (ix2 t d) * ys (ix2 t 0) + rs (ix2 t 0) * (dxh H g t d - (∑ e : Fin 2048, dxh H g t e) * ((1 / 2048 : ℝ) : EReal)
    - xh X xs t d * ((∑ e : Fin 2048, dxh H g t e * xh X xs t e) * ((1 / 2048 : ℝ) : EReal)))

/-- `dgamma` at a channel: the sum over the tokens. -/
def dgam (H : FVec Ideal S1024x2048 .f32) (X : FVec Ideal S1024x2048 .fp8e4m3) (xs : FVec Ideal S1024x1 .f32) (d : Fin 2048) : EReal :=
  ∑ t : Fin 1024, H (ix2 t d) * xh X xs t d

/-- The word 0x45000000 is 2048. -/
theorem ofBits_2048 : Ideal.ofBits .f32 0x45000000#32 = ((2048 : ℝ) : EReal) := by
  simp [Ideal.ofBits, Ideal.ieee]
  rw [← EReal.coe_mul]; norm_num
/-- The word 0x3A000000 is 1/2048. -/
theorem ofBits_inv_2048 : Ideal.ofBits .f32 0x3A000000#32 = ((1 / 2048 : ℝ) : EReal) := by
  simp [Ideal.ofBits, Ideal.ieee]
  rw [← EReal.coe_mul]; norm_num
/-- Division by the constant. -/
theorem div_2048 (x : EReal) : Ideal.div x (Ideal.ofBits .f32 0x45000000#32) = x * ((1 / 2048 : ℝ) : EReal) := by
  rw [ofBits_2048, Ideal.div_coe (by norm_num)]

end Cert.MathC

end
-- ==== Proof.V.KerC.lean ====
/- The kernel `layernorm_bwd`: what one block computes, and its two arrays as plain sums. -/
module

public import proofs.«01_k».proof.Proof.Gen.KernelCIdeal.Value
public import proofs.«01_k».proof.Proof.V.MathC

@[expose] public section

set_option maxRecDepth 16384

noncomputable section

open Idealize.ShloMosaic Idealize.ShloMosaic.TcCoe Idealize.SL.Sem

namespace Cert.KernelCIdeal.Hand

open Cert.KernelCIdeal Cert.KernelCIdeal.Gen

variable (m : (ℓ : Loc nD τ sig) → Buf (Elt Ideal) ℓ)

/-- The windows' block indices: the rows' blocks move with the point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] ∧ win0_7.index t = ![t.val, 0] ∧ win0_8.index t = ![0, 0] ∧ t.val < 8 :=
  (by decide +kernel : ∀ t : Fin grid0.N, _)

/-- The arrays the region reads. -/
abbrev aH (c : Dev nD) : FVec Ideal S1024x2048 .f32 := V m c main_arg0
abbrev aX (c : Dev nD) : FVec Ideal S1024x2048 .fp8e4m3 := V m c main_v1
abbrev aXs (c : Dev nD) : FVec Ideal S1024x1 .f32 := V m c main_v3
abbrev aR (c : Dev nD) : FVec Ideal S1024x1 .f32 := V m c main_v4
abbrev aG (c : Dev nD) : FVec Ideal S1x2048 .f32 := V m c main_v5
abbrev aY (c : Dev nD) : FVec Ideal S1024x2048 .fp8e5m2 := V m c main_v0
abbrev aYs (c : Dev nD) : FVec Ideal S1024x1 .f32 := V m c main_v2

/-- Row `r` of the block of point `t` is this token. -/
def row (t : Fin cfg0.N) (r : Fin 128) : Fin 1024 := ⟨t.val * 128 + r.val, by have := t.isLt; have : cfg0.N = 8 := N_0; omega⟩

/-- The blocks of point `t`. -/
def bH (c : Dev nD) (t : Fin cfg0.N) : FVec Ideal S128x2048 .f32 := fun i => aH m c (ix2 (row t (i 0)) (i 1))
def bX (c : Dev nD) (t : Fin cfg0.N) : FVec Ideal S128x2048 .fp8e4m3 := fun i => aX m c (ix2 (row t (i 0)) (i 1))
def bXs (c : Dev nD) (t : Fin cfg0.N) : FVec Ideal S128x1 .f32 := fun i => aXs m c (ix2 (row t (i 0)) (i 1))
def bR (c : Dev nD) (t : Fin cfg0.N) : FVec Ideal S128x1 .f32 := fun i => aR m c (ix2 (row t (i 0)) (i 1))
def bY (c : Dev nD) (t : Fin cfg0.N) : FVec Ideal S128x2048 .fp8e5m2 := fun i => aY m c (ix2 (row t (i 0)) (i 1))
def bYs (c : Dev nD) (t : Fin cfg0.N) : FVec Ideal S128x1 .f32 := fun i => aYs m c (ix2 (row t (i 0)) (i 1))

theorem blk_0 (c : Dev nD) (t : Fin cfg0.N) : iblk m c 0 t = bH m c t := by
  funext y; unfold bH; blk_ext [iblk, idx t, row]
theorem blk_1 (c : Dev nD) (t : Fin cfg0.N) : iblk m c 1 t = bX m c t := by
  funext y; unfold bX; blk_ext [iblk, idx t, row]
theorem blk_2 (c : Dev nD) (t : Fin cfg0.N) : iblk m c 2 t = bXs m c t := by
  funext y; unfold bXs; blk_ext [iblk, idx t, row]
theorem blk_3 (c : Dev nD) (t : Fin cfg0.N) : iblk m c 3 t = bR m c t := by
  funext y; unfold bR; blk_ext [iblk, idx t, row]
theorem blk_4 (c : Dev nD) (t : Fin cfg0.N) : iblk m c 4 t = aG m c := by
  funext y; blk_ext [iblk, idx t]
theorem blk_5 (c : Dev nD) (t : Fin cfg0.N) : iblk m c 5 t = bY m c t := by
  funext y; unfold bY; blk_ext [iblk, idx t, row]
theorem blk_6 (c : Dev nD) (t : Fin cfg0.N) : iblk m c 6 t = bYs m c t := by
  funext y; unfold bYs; blk_ext [iblk, idx t, row]

/-- The block of `dx` at (row, channel). -/
theorem pay_7 (H X xs rs g Y ys) (y : S128x2048.Idx) : k0_pay1 (k0_pay5 (F := Ideal) H X xs g) (k0_pay6 rs) Y ys y =
    Y (ix2 (y 0) (y 1)) * ys (ix2 (y 0) 0) + rs (ix2 (y 0) 0) * (H (ix2 (y 0) (y 1)) * g (ix2 0 (y 1)) - (∑ e : Fin 2048, H (ix2 (y 0) e) * g (ix2 0 e)) * ((1 / 2048 : ℝ) : EReal)
      - X (ix2 (y 0) (y 1)) * xs (ix2 (y 0) 0) * ((∑ e : Fin 2048, H (ix2 (y 0) e) * g (ix2 0 e) * (X (ix2 (y 0) e) * xs (ix2 (y 0) 0))) * ((1 / 2048 : ℝ) : EReal))) := by
  pointwise [k0_pay1, k0_pay5, k0_pay6, k0_pay2]
  simp only [Cert.MathC.ofBits_inv_2048]

/-- What a block adds to `dgamma`. -/
theorem pay_3 (H X xs) (y : S1x2048.Idx) : k0_pay3 (F := Ideal) H X xs y = ∑ r : Fin 128, H (ix2 r (y 1)) * (X (ix2 r (y 1)) * xs (ix2 r 0)) := by
  pointwise [k0_pay3, k0_pay2]
/-- The accumulating store. -/
theorem pay_4 (H X xs acc) (y : S1x2048.Idx) : k0_pay4 (F := Ideal) H X xs acc y = acc y + ∑ r : Fin 128, H (ix2 r (y 1)) * (X (ix2 r (y 1)) * xs (ix2 r 0)) := by
  pointwise [k0_pay4, k0_pay3, k0_pay2]

/-- What is written back to `dx` at point `t`, in either case of the body. -/
theorem after_7 (c : Dev nD) (t : Fin cfg0.N) (y : S128x2048.Idx) : (outsAt0 m c t.val t.isLt).1 y
    = k0_pay1 (k0_pay5 (F := Ideal) (bH m c t) (bX m c t) (bXs m c t) (aG m c)) (k0_pay6 (bR m c t)) (bY m c t) (bYs m c t) y := by
  have hN : t.val < 8 := (idx t).2.2.2.2.2.2.2.2.2
  by_cases h : t.val % 8 = 0
  · rw [outsAt0_A m c t h (by omega)]; frame_out
    rw [blk_0, blk_1, blk_2, blk_3, blk_4, blk_5, blk_6]
  · rw [outsAt0_B m c t h (by omega)]; frame_out
    rw [blk_0, blk_1, blk_2, blk_3, blk_4, blk_5, blk_6]

/-- The array `dx` after the run. -/
theorem final_7 (c : Dev nD) : (dats m 0 c).arrAt 7 cfg0.N = fun i => Cert.MathC.dx (aH m c) (aX m c) (aXs m c) (aR m c) (aG m c) (aY m c) (aYs m c) (i 0) (i 1) := by
  refine (dats m 0 c).arrAt_eq_of_covers 7 _ (by decide +kernel) fun t hf y => ?_
  blk_simp
  rw [after0_7, after_7]
  have key : ∀ (y : S128x2048.Idx) (i : S1024x2048.Idx) (h0 : (i 0).val = t.val * 128 + (y 0).val) (h1 : (i 1).val = (y 1).val),
      k0_pay1 (k0_pay5 (F := Ideal) (bH m c t) (bX m c t) (bXs m c t) (aG m c)) (k0_pay6 (bR m c t)) (bY m c t) (bYs m c t) y
        = Cert.MathC.dx (aH m c) (aX m c) (aXs m c) (aR m c) (aG m c) (aY m c) (aYs m c) (i 0) (i 1) := by
    intro y i h0 h1
    have e0 : i 0 = row t (y 0) := Fin.ext h0
    have e1 : i 1 = y 1 := Fin.ext h1
    rw [e0, e1, pay_7]
    rfl
  refine key _ _ ?_ ?_
  · blk_simp [idx t]
  · blk_simp [idx t]

/-- The array `dgamma` after the run. -/
theorem final_8 (c : Dev nD) : (dats m 0 c).arrAt 8 cfg0.N = fun i => Cert.MathC.dgam (aH m c) (aX m c) (aXs m c) (i 1) := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => (0 : EReal))
    (fun p (j : S1x2048.Idx) => ∑ r : Fin 128, aH m c (ix2 (row p r) (j 1)) * (aX m c (ix2 (row p r) (j 1)) * aXs m c (ix2 (row p r) 0)))
    (fun t h j => by
      have hN : t.val < 8 := (idx t).2.2.2.2.2.2.2.2.2
      show (outsAt0 m c t.val t.isLt).2 j = _
      rw [outsAt0_A m c t h (by omega)]; frame_out
      rw [blk_0, blk_1, blk_2, pay_3, zero_add]; rfl)
    (fun t h j => by
      have hN : t.val < 8 := (idx t).2.2.2.2.2.2.2.2.2
      show (outsAt0 m c t.val t.isLt).2 j = _
      rw [outsAt0_B m c t h (by omega)]; frame_out
      rw [blk_0, blk_1, blk_2, pay_4]; rfl)
    (le_of_eq N_0) t0_7 rfl _, zero_add]
  exact Fin.sum_mul_add_fin 8 128 (fun l : Fin 1024 => aH m c (ix2 l (j 1)) * (aX m c (ix2 l (j 1)) * aXs m c (ix2 l 0)))

end Cert.KernelCIdeal.Hand

end
-- ==== Proof.V.RefC.lean ====
/- The reference of `layernorm_bwd`: its two arrays are the plain sums. -/
module

public import proofs.«01_k».proof.Proof.V.MathC

@[expose] public section

set_option maxRecDepth 16384

noncomputable section

open Idealize.ShloMosaic Idealize.ShloMosaic.TcCoe Idealize.SL.Sem

namespace Cert.ReferenceCIdeal.Hand

open Cert.ReferenceCIdeal Cert.ReferenceCIdeal.Gen

variable (m : (ℓ : Loc nD τ sig) → Buf (Elt Ideal) ℓ)

/-- The one grid point's index of every window is zero. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- Every block is its whole array. -/
theorem blk_0 (c : Dev nD) (t : Fin cfg0.N) : iblk m c 0 t = V m c main_arg0 := by
  funext y; blk_ext [iblk, idx t]
theorem blk_1 (c : Dev nD) (t : Fin cfg0.N) : iblk m c 1 t = V m c main_v0 := by
  funext y; blk_ext [iblk, idx t]
theorem blk_2 (c : Dev nD) (t : Fin cfg0.N) : iblk m c 2 t = V m c main_v1 := by
  funext y; blk_ext [iblk, idx t]
theorem blk_3 (c : Dev nD) (t : Fin cfg0.N) : iblk m c 3 t = V m c main_v2 := by
  funext y; blk_ext [iblk, idx t]
theorem blk_4 (c : Dev nD) (t : Fin cfg0.N) : iblk m c 4 t = V m c main_v3 := by
  funext y; blk_ext [iblk, idx t]
theorem blk_5 (c : Dev nD) (t : Fin cfg0.N) : iblk m c 5 t = V m c main_v4 := by
  funext y; blk_ext [iblk, idx t]
theorem blk_6 (c : Dev nD) (t : Fin cfg0.N) : iblk m c 6 t = V m c main_v5 := by
  funext y; blk_ext [iblk, idx t]

/-- The stored `dx` is the plain formula. -/
theorem pay_7 (H X xs rs g Y ys) (i) : k0_pay1 (k0_pay4 (F := Ideal) H X xs g rs) (k0_pay5 Y) ys i = Cert.MathC.dx H X xs rs g Y ys (i 0) (i 1) := by
  pointwise [k0_pay1, k0_pay4, k0_pay5, k0_pay2, Cert.MathC.dx, Cert.MathC.dxh, Cert.MathC.xh]
  simp only [Cert.MathC.div_2048]

/-- The stored `dgamma` is the plain sum. -/
theorem pay_8 (H X xs) (i) : k0_pay3 (F := Ideal) H X xs i = Cert.MathC.dgam H X xs (i 1) := by
  pointwise [k0_pay3, k0_pay2, Cert.MathC.dgam, Cert.MathC.xh]

/-- The array `dx` after the run. -/
theorem final_7 (c : Dev nD) : (dats m 0 c).arrAt 7 cfg0.N = fun i => Cert.MathC.dx (V m c main_arg0) (V m c main_v0) (V m c main_v1) (V m c main_v2) (V m c main_v3) (V m c main_v4) (V m c main_v5) (i 0) (i 1) := by
  refine (dats m 0 c).arrAt_eq_of_after_last 7 t0_0 (by decide +kernel) _ fun j => ?_
  blk_simp
  rw [after0_7]; frame_out
  simp only [blk_0, blk_1, blk_2, blk_3, blk_4, blk_5, blk_6]
  exact pay_7 ..

/-- The array `dgamma` after the run. -/
theorem final_8 (c : Dev nD) : (dats m 0 c).arrAt 8 cfg0.N = fun i => Cert.MathC.dgam (V m c main_arg0) (V m c main_v0) (V m c main_v1) (i 1) := by
  refine (dats m 0 c).arrAt_eq_of_after_last 8 t0_0 (by decide +kernel) _ fun j => ?_
  blk_simp
  rw [after0_8]; frame_out
  simp only [blk_0, blk_1, blk_2]
  exact pay_8 ..

end Cert.ReferenceCIdeal.Hand

end
-- ==== Proof.V.TieC.lean ====
/- The claim about `layernorm_bwd`: kernel and reference end with equal results. -/
module

public import proofs.«01_k».proof.Defs
public import proofs.«01_k».proof.Proof.V.KerC
public import proofs.«01_k».proof.Proof.V.RefC

@[expose] public section

set_option maxRecDepth 16384

noncomputable section

open Idealize.ShloMosaic Idealize.ShloMosaic.TcCoe Idealize.SL.Sem

namespace Cert.TieC

variable (m : (ℓ : Loc Cert.KernelCIdeal.nD Cert.KernelCIdeal.τ Cert.KernelCIdeal.sig) → Buf (Elt Ideal) ℓ)
  (m' : (ℓ : Loc Cert.ReferenceCIdeal.nD Cert.ReferenceCIdeal.τ Cert.ReferenceCIdeal.sig) → Buf (Elt Ideal) ℓ) (c : Dev Cert.KernelCIdeal.nD)

/-- The two programs' argument arrays agree on device `c`. -/
abbrev Agree : Prop :=
  m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
    ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
    ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
    ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
    ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
    ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
    ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)

variable (h : Agree m m' c)
include h

/-- Operand from argument 0. -/
theorem eH : (Cert.ReferenceCIdeal.Gen.V m' c Cert.ReferenceCIdeal.main_arg0 : FVec Ideal Cert.ReferenceCIdeal.S1024x2048 .f32) = Cert.KernelCIdeal.Hand.aH m c := by
  have e := h.1
  show (Cert.ReferenceCIdeal.Gen.V m' c Cert.ReferenceCIdeal.main_arg0 : FVec Ideal Cert.ReferenceCIdeal.S1024x2048 .f32) = (Cert.KernelCIdeal.Gen.V m c Cert.KernelCIdeal.main_arg0 : FVec Ideal Cert.KernelCIdeal.S1024x2048 .f32)
  exact (Cert.ReferenceCIdeal.Gen.V_main_arg0 m' c).trans (e.trans (Cert.KernelCIdeal.Gen.V_main_arg0 m c).symm)
/-- Operand from argument 1. -/
theorem eX : (Cert.ReferenceCIdeal.Gen.V m' c Cert.ReferenceCIdeal.main_v0 : FVec Ideal Cert.ReferenceCIdeal.S1024x2048 .fp8e4m3) = Cert.KernelCIdeal.Hand.aX m c := by
  have e := h.2.1
  show (Cert.ReferenceCIdeal.Gen.V m' c Cert.ReferenceCIdeal.main_v0 : FVec Ideal Cert.ReferenceCIdeal.S1024x2048 .fp8e4m3) = (Cert.KernelCIdeal.Gen.V m c Cert.KernelCIdeal.main_v1 : FVec Ideal Cert.KernelCIdeal.S1024x2048 .fp8e4m3)
  entry_read
  rw [e]
  rfl
/-- Operand from argument 2. -/
theorem eXs : (Cert.ReferenceCIdeal.Gen.V m' c Cert.ReferenceCIdeal.main_v1 : FVec Ideal Cert.ReferenceCIdeal.S1024x1 .f32) = Cert.KernelCIdeal.Hand.aXs m c := by
  have e := h.2.2.1
  show (Cert.ReferenceCIdeal.Gen.V m' c Cert.ReferenceCIdeal.main_v1 : FVec Ideal Cert.ReferenceCIdeal.S1024x1 .f32) = (Cert.KernelCIdeal.Gen.V m c Cert.KernelCIdeal.main_v3 : FVec Ideal Cert.KernelCIdeal.S1024x1 .f32)
  entry_read
  rw [e]
  rfl
/-- Operand from argument 3. -/
theorem eR : (Cert.ReferenceCIdeal.Gen.V m' c Cert.ReferenceCIdeal.main_v2 : FVec Ideal Cert.ReferenceCIdeal.S1024x1 .f32) = Cert.KernelCIdeal.Hand.aR m c := by
  have e := h.2.2.2.1
  show (Cert.ReferenceCIdeal.Gen.V m' c Cert.ReferenceCIdeal.main_v2 : FVec Ideal Cert.ReferenceCIdeal.S1024x1 .f32) = (Cert.KernelCIdeal.Gen.V m c Cert.KernelCIdeal.main_v4 : FVec Ideal Cert.KernelCIdeal.S1024x1 .f32)
  entry_read
  rw [e]
  rfl
/-- Operand from argument 4. -/
theorem eG : (Cert.ReferenceCIdeal.Gen.V m' c Cert.ReferenceCIdeal.main_v3 : FVec Ideal Cert.ReferenceCIdeal.S1x2048 .f32) = Cert.KernelCIdeal.Hand.aG m c := by
  have e := h.2.2.2.2.1
  show (Cert.ReferenceCIdeal.Gen.V m' c Cert.ReferenceCIdeal.main_v3 : FVec Ideal Cert.ReferenceCIdeal.S1x2048 .f32) = (Cert.KernelCIdeal.Gen.V m c Cert.KernelCIdeal.main_v5 : FVec Ideal Cert.KernelCIdeal.S1x2048 .f32)
  entry_read
  rw [e]
  rfl
/-- Operand from argument 5. -/
theorem eY : (Cert.ReferenceCIdeal.Gen.V m' c Cert.ReferenceCIdeal.main_v4 : FVec Ideal Cert.ReferenceCIdeal.S1024x2048 .fp8e5m2) = Cert.KernelCIdeal.Hand.aY m c := by
  have e := h.2.2.2.2.2.1
  show (Cert.ReferenceCIdeal.Gen.V m' c Cert.ReferenceCIdeal.main_v4 : FVec Ideal Cert.ReferenceCIdeal.S1024x2048 .fp8e5m2) = (Cert.KernelCIdeal.Gen.V m c Cert.KernelCIdeal.main_v0 : FVec Ideal Cert.KernelCIdeal.S1024x2048 .fp8e5m2)
  entry_read
  rw [e]
  rfl
/-- Operand from argument 6. -/
theorem eYs : (Cert.ReferenceCIdeal.Gen.V m' c Cert.ReferenceCIdeal.main_v5 : FVec Ideal Cert.ReferenceCIdeal.S1024x1 .f32) = Cert.KernelCIdeal.Hand.aYs m c := by
  have e := h.2.2.2.2.2.2
  show (Cert.ReferenceCIdeal.Gen.V m' c Cert.ReferenceCIdeal.main_v5 : FVec Ideal Cert.ReferenceCIdeal.S1024x1 .f32) = (Cert.KernelCIdeal.Gen.V m c Cert.KernelCIdeal.main_v2 : FVec Ideal Cert.KernelCIdeal.S1024x1 .f32)
  entry_read
  rw [e]
  rfl

/-- The kernel's `dx` is the reference's. -/
theorem tie_7 : (Cert.ReferenceCIdeal.Gen.dats m' 0 c).arrAt 7 Cert.ReferenceCIdeal.cfg0.N = (Cert.KernelCIdeal.Gen.dats m 0 c).arrAt 7 Cert.KernelCIdeal.cfg0.N := by
  refine (Cert.ReferenceCIdeal.Hand.final_7 m' c).trans (Eq.trans ?_ (Cert.KernelCIdeal.Hand.final_7 m c).symm)
  rw [eH m m' c h, eX m m' c h, eXs m m' c h, eR m m' c h, eG m m' c h, eY m m' c h, eYs m m' c h]
  rfl

/-- The kernel's `dgamma` is the reference's. -/
theorem tie_8 : (Cert.ReferenceCIdeal.Gen.dats m' 0 c).arrAt 8 Cert.ReferenceCIdeal.cfg0.N = (Cert.KernelCIdeal.Gen.dats m 0 c).arrAt 8 Cert.KernelCIdeal.cfg0.N := by
  refine (Cert.ReferenceCIdeal.Hand.final_8 m' c).trans (Eq.trans ?_ (Cert.KernelCIdeal.Hand.final_8 m c).symm)
  rw [eH m m' c h, eX m m' c h, eXs m m' c h]
  rfl

end Cert.TieC

namespace Cert.TieC

/-- The two programs agree on `dx` and `dgamma`. -/
theorem algebraic : Cert.algebraic_KernelCIdeal_ReferenceCIdeal := by
  intro m g m' g' _ hagree
  refine ⟨fun c => (Cert.KernelCIdeal.Gen.dats m 0 c).arrAt 7 Cert.KernelCIdeal.cfg0.N, fun c => (Cert.KernelCIdeal.Gen.dats m 0 c).arrAt 8 Cert.KernelCIdeal.cfg0.N,
    Cert.KernelCIdeal.Value.run_blocks m g, ?_⟩
  exact (θ_run Cert.ReferenceCIdeal.defs _ _).mono (fun r h c => ⟨(h c).1.trans (tie_7 m m' c (hagree c)), (h c).2.1.trans (tie_8 m m' c (hagree c)), (h c).2.2⟩)
    (Cert.ReferenceCIdeal.Value.run_blocks m' g')

end Cert.TieC

end
-- ==== Proof.AK.Points.lean ====
/- What the runs of the body of `swiglu_bwd` are stated over: its branch conditions in closed form over the points, where its windows are idle, the staging and scratch memrefs. -/
module

public import proofs.«01_k».proof.Proof.Gen.KernelA.Frame
public import proofs.«01_k».proof.Proof.Gen.KernelA.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelA.Hand

open Cert.KernelA.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the branches of the body are taken -/

/-- The first branch is taken at the first point only. -/
theorem hcond0_0 : ∀ t : Fin cfg0.N, Scalar.cmpi .ne (Scalar.extui (Scalar.cmpi .eq (BitVec.ofNat 32 (grid0.coords t 0).val) 0#32) : BitVec 32) 0#32 = 1#1 ↔ t.val = 0 :=
  (by decide +kernel : ∀ t : Fin grid0.N, Scalar.cmpi .ne (Scalar.extui (Scalar.cmpi .eq (BitVec.ofNat 32 (grid0.coords t 0).val) 0#32) : BitVec 32) 0#32 = 1#1 ↔ t.val = 0)

/-- The second branch is taken before point 11. -/
theorem hcond0_1 : ∀ t : Fin cfg0.N, k0_cond2 (grid0.coords t) = 1#1 ↔ t.val < 11 :=
  (by decide +kernel : ∀ t : Fin grid0.N, k0_cond2 (grid0.coords t) = 1#1 ↔ t.val < 11)

/-- The last branch is taken from point 11 on. -/
theorem hcond0_3 : ∀ t : Fin cfg0.N, k0_cond4 (grid0.coords t) = 1#1 ↔ 11 ≤ t.val :=
  (by decide +kernel : ∀ t : Fin grid0.N, k0_cond4 (grid0.coords t) = 1#1 ↔ 11 ≤ t.val)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-- Before point 11 nothing is stored into the `dw_out` block, -/
theorem idleAt0_10 : ∀ t : Fin cfg0.N, ¬11 ≤ t.val → cfg0.idle 10 (grid0.coords t) = true :=
  (by decide +kernel : ∀ t : Fin grid0.N, ¬11 ≤ t.val → idle0 10 (grid0.coords t) = true)
/-- nor is it written back; -/
theorem noFlush0_10 : ∀ t : Fin cfg0.N, ¬11 ≤ t.val → (cfg0.win 10).flush t = false :=
  (by decide +kernel : ∀ t : Fin grid0.N, ¬11 ≤ t.val → win0_10.flush t = false)
/-- from there on it is stored at every point, -/
theorem liveAt0_10 : ∀ t : Fin cfg0.N, 11 ≤ t.val → cfg0.idle 10 (grid0.coords t) = false :=
  (by decide +kernel : ∀ t : Fin grid0.N, 11 ≤ t.val → idle0 10 (grid0.coords t) = false)
/-- and written back after it. -/
theorem flush0_10 : ∀ t : Fin cfg0.N, 11 ≤ t.val → (cfg0.win 10).flush t = true :=
  (by decide +kernel : ∀ t : Fin grid0.N, 11 ≤ t.val → win0_10.flush t = true)

/-! ## The buffers the body is called with -/

abbrev ms0_0 (t : Fin cfg0.N) : Memref sig .tc .vmem S1024x2048 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1024x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x1024x512 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .bf16 := win0_10.stage (cfg0.slots t 10)
abbrev hs0_10 (t : Fin cfg0.N) : (ms0_10 t).IsWhole := hstage0_10 ((cfg0.slots t 10).cast nbuf0_10)
abbrev scM0_0 : Memref sig .tc .vmem S1024x2048 .bf16 := Memref.whole cc0_scratch0
abbrev scM0_1 : Memref sig .tc .vmem S1024x2048 .bf16 := Memref.whole cc0_scratch1
abbrev scM0_2 : Memref sig .tc .vmem S11x1024x512 .f32 := Memref.whole cc0_scratch2
abbrev scM0_3 : Memref sig .tc .vmem S1024x128 .f32 := Memref.whole cc0_scratch3
abbrev scM0_4 : Memref sig .tc .vmem S1024x128 .f32 := Memref.whole cc0_scratch4

/-- The region's buffers of the kernel's own, each at anything, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelA.Hand

end
-- ==== Proof.A.Rules.lean ====
/- Running a body while a fixed assertion is kept: rules for loads, stores and sequencing that do not follow the values. -/
module

public import Idealize.ShloMosaic.Lib.Memref
public import Idealize.ShloMosaic.Lib.Tactic
public import Idealize.ShloMosaic.Lib.Pipeline.FrameBody
public import Idealize.ShloMosaic.Lib.Pipeline.Kit

@[expose] public section

noncomputable section

namespace Cert.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (UR sig nD τ) ℕ

variable (τ Val) in
/-- `R` gives the buffer `m`, at some contents, and takes it back as it was. -/
class Reads (c : Dev nD) (R : sProp 𝕄) {sp : Space} {s : Shape} {e : EltTy} (m : Memref sig .tc sp s e) : Prop where
  out : R ⊢ iprop(∃ X, owns (c : Thread nD τ) m fullShare X ∗ (owns (c : Thread nD τ) m fullShare X -∗ R))

variable (τ Val) in
/-- `R` gives the buffer `m`, at some contents, and takes it back at any. -/
class Writes (c : Dev nD) (R : sProp 𝕄) {sp : Space} {s : Shape} {e : EltTy} (m : Memref sig .tc sp s e) : Prop where
  out : R ⊢ iprop(∃ X, owns (c : Thread nD τ) m fullShare X ∗ (∀ X', owns (c : Thread nD τ) m fullShare X' -∗ R))

section Holdings

variable {c : Dev nD} {sp : Space} {s : Shape} {e : EltTy} {m : Memref sig .tc sp s e}

theorem Reads.exact {X : s.Idx → Val e} : Reads τ Val c (owns (c : Thread nD τ) m fullShare X : sProp 𝕄) m where
  out := by
    iintro H; iexists X; isplitl [H]
    · iexact H
    iintro H; iexact H

theorem Writes.some : Writes τ Val c (iprop(∃ d, owns (c : Thread nD τ) m fullShare d) : sProp 𝕄) m where
  out := by
    iintro ⟨%d, H⟩; iexists d; isplitl [H]
    · iexact H
    iintro %d' H; iexists d'; iexact H

theorem Writes.reads {A : sProp 𝕄} (h : Writes τ Val c A m) : Reads τ Val c A m where
  out := by
    refine h.out.trans ?_
    iintro ⟨%X, H, Hk⟩; iexists X; isplitl [H]
    · iexact H
    iintro H; iapply Hk; iexact H

theorem Reads.left {A B : sProp 𝕄} (h : Reads τ Val c A m) : Reads τ Val c iprop(A ∗ B) m where
  out := by
    refine (sep_mono h.out .rfl).trans ?_
    iintro ⟨⟨%X, H, Hk⟩, HB⟩; iexists X; isplitl [H]
    · iexact H
    iintro H; isplitl [Hk H]
    · iapply Hk; iexact H
    · iexact HB

theorem Reads.right {A B : sProp 𝕄} (h : Reads τ Val c B m) : Reads τ Val c iprop(A ∗ B) m where
  out := by
    refine (sep_mono .rfl h.out).trans ?_
    iintro ⟨HA, ⟨%X, H, Hk⟩⟩; iexists X; isplitl [H]
    · iexact H
    iintro H; isplitl [HA]
    · iexact HA
    · iapply Hk; iexact H

theorem Writes.left {A B : sProp 𝕄} (h : Writes τ Val c A m) : Writes τ Val c iprop(A ∗ B) m where
  out := by
    refine (sep_mono h.out .rfl).trans ?_
    iintro ⟨⟨%X, H, Hk⟩, HB⟩; iexists X; isplitl [H]
    · iexact H
    iintro %X' H; isplitl [Hk H]
    · iapply Hk; iexact H
    · iexact HB

theorem Writes.right {A B : sProp 𝕄} (h : Writes τ Val c B m) : Writes τ Val c iprop(A ∗ B) m where
  out := by
    refine (sep_mono .rfl h.out).trans ?_
    iintro ⟨HA, ⟨%X, H, Hk⟩⟩; iexists X; isplitl [H]
    · iexact H
    iintro %X' H; isplitl [HA]
    · iexact HA
    · iapply Hk; iexact H

end Holdings

variable (defs : Defs nD τ sig Val Λ) (c : Dev nD) {α β : Type}

/-- The program runs from `P` to `Q`, whatever its result. -/
def Runs (P : sProp 𝕄) (p : Prog (TpuEff nD τ sig Val Λ .tc) α) (Q : sProp 𝕄) : Prop :=
  ∀ (E : Set ℕ) (K : α → sProp 𝕄), iprop(P ∗ (∀ a, Q -∗ K a)) ⊢ wp frame (wpE defs Variants.none (c : Thread nD τ) none) E p K

/-- The program runs from `R` to `R`, whatever the values it meets. -/
def Keeps (R : sProp 𝕄) (p : Prog (TpuEff nD τ sig Val Λ .tc) α) : Prop := Runs defs c R p R

variable {defs c}

theorem Runs.bind {P Q R : sProp 𝕄} {p : Prog (TpuEff nD τ sig Val Λ .tc) α} {k : α → Prog (TpuEff nD τ sig Val Λ .tc) β}
    (hp : Runs defs c P p Q) (hk : ∀ a, Runs defs c Q (k a) R) : Runs defs c P (p >>= k) R := fun E K => by
  rw [wp_bind]
  refine BIBase.Entails.trans ?_ (hp E _)
  iintro ⟨HR, HK⟩; isplitl [HR]
  · iexact HR
  iintro %a HR
  iapply (hk a E K)
  isplitl [HR]
  · iexact HR
  · iexact HK

theorem Runs.mono {P P' Q Q' : sProp 𝕄} {p : Prog (TpuEff nD τ sig Val Λ .tc) α} (h : Runs defs c P p Q) (hP : P' ⊢ P) (hQ : Q ⊢ Q') :
    Runs defs c P' p Q' := fun E K => by
  refine BIBase.Entails.trans ?_ (h E K)
  iintro ⟨HP, HK⟩; isplitl [HP]
  · iapply hP; iexact HP
  iintro %a HQ; iapply HK; iapply hQ; iexact HQ

/-- What a program does not touch stays. -/
theorem Runs.frame {P Q : sProp 𝕄} (A : sProp 𝕄) {p : Prog (TpuEff nD τ sig Val Λ .tc) α} (h : Runs defs c P p Q) :
    Runs defs c iprop(P ∗ A) p iprop(Q ∗ A) := fun E K => by
  refine BIBase.Entails.trans ?_ (h E K)
  iintro ⟨⟨HP, HA⟩, HK⟩; isplitl [HP]
  · iexact HP
  iintro %a HQ; iapply HK
  isplitl [HQ]
  · iexact HQ
  · iexact HA

theorem Runs.dite_pos {P Q : sProp 𝕄} {b : Prop} [Decidable b] {t : b → Prog (TpuEff nD τ sig Val Λ .tc) α} {e : ¬b → Prog (TpuEff nD τ sig Val Λ .tc) α}
    (hb : b) (h : Runs defs c P (t hb) Q) : Runs defs c P (if hb : b then t hb else e hb) Q := by rwa [dif_pos hb]

theorem Runs.dite_neg {P Q : sProp 𝕄} {b : Prop} [Decidable b] {t : b → Prog (TpuEff nD τ sig Val Λ .tc) α} {e : ¬b → Prog (TpuEff nD τ sig Val Λ .tc) α}
    (hb : ¬b) (h : Runs defs c P (e hb) Q) : Runs defs c P (if hb : b then t hb else e hb) Q := by rwa [dif_neg hb]

theorem Runs.dite {P Q : sProp 𝕄} {b : Prop} [Decidable b] {t : b → Prog (TpuEff nD τ sig Val Λ .tc) α} {e : ¬b → Prog (TpuEff nD τ sig Val Λ .tc) α}
    (ht : ∀ hb, Runs defs c P (t hb) Q) (he : ∀ hb, Runs defs c P (e hb) Q) : Runs defs c P (if hb : b then t hb else e hb) Q := by
  by_cases hb : b
  · exact Runs.dite_pos hb (ht hb)
  · exact Runs.dite_neg hb (he hb)

theorem Keeps.dite_neg {R : sProp 𝕄} {b : Prop} [Decidable b] {t : b → Prog (TpuEff nD τ sig Val Λ .tc) α} {e : ¬b → Prog (TpuEff nD τ sig Val Λ .tc) α}
    (hb : ¬b) (h : Keeps defs c R (e hb)) : Keeps defs c R (if hb : b then t hb else e hb) := Runs.dite_neg hb h

theorem Keeps.dite {R : sProp 𝕄} {b : Prop} [Decidable b] {t : b → Prog (TpuEff nD τ sig Val Λ .tc) α} {e : ¬b → Prog (TpuEff nD τ sig Val Λ .tc) α}
    (ht : ∀ hb, Keeps defs c R (t hb)) (he : ∀ hb, Keeps defs c R (e hb)) : Keeps defs c R (if hb : b then t hb else e hb) := Runs.dite ht he

theorem Keeps.ret {R : sProp 𝕄} (a : α) : Keeps defs c R (pure a) := fun E K => by
  refine BIBase.Entails.trans ?_ (le_wp_ret _ _ _ a K)
  iintro ⟨HR, HK⟩; iapply HK; iexact HR

theorem Keeps.bind {R : sProp 𝕄} {p : Prog (TpuEff nD τ sig Val Λ .tc) α} {k : α → Prog (TpuEff nD τ sig Val Λ .tc) β}
    (hp : Keeps defs c R p) (hk : ∀ a, Keeps defs c R (k a)) : Keeps defs c R (p >>= k) := Runs.bind hp hk

theorem Keeps.load {R : sProp 𝕄} {cs : CoreSpace} {s : Shape} {e : EltTy} {m : Memref sig .tc cs s e} {r : LoadRect s} {hl : m.view.LoadsAt r}
    (h : Reads τ Val c R m) :
    Keeps defs c R (Prog.lift (.load m r hl) : Prog (TpuEff nD τ sig Val Λ .tc) _) := fun E K => by
  refine (sep_mono h.out .rfl).trans ?_
  unfold owns
  iintro ⟨⟨%X, ⟨%f, %hf, Hm⟩, Hk⟩, HK⟩
  unfold Prog.lift
  iapply (wp_load (defs := defs) Variants.none (c : Thread nD τ) none E (m := m) (m.view.setOn_subset_set _)) $$ Hm
  iintro Hm
  iapply (le_wp_ret _ _ _ _ K)
  iapply HK
  iapply Hk
  iexists f; isplitr
  · ipureintro; exact hf
  · iexact Hm

theorem Keeps.store {R : sProp 𝕄} {cs : CoreSpace} {s : Shape} {e : EltTy} {m : Memref sig .tc cs s e} {r : Rect s} {w : r.shape.Idx → Val e} {Mk : Finset r.shape.Idx} {hx : (m.access r).Stores Mk}
    {hm : Mk = Finset.univ ∨ ∀ a, r.stride a = 1} (h : Writes τ Val c R m) :
    Keeps defs c R (Prog.lift (.store m r w Mk hx hm) : Prog (TpuEff nD τ sig Val Λ .tc) _) := fun E K => by
  refine (sep_mono h.out .rfl).trans ?_
  unfold owns
  iintro ⟨⟨%X, ⟨%f, %hf, Hm⟩, Hk⟩, HK⟩
  unfold Prog.lift
  iapply (wp_store (defs := defs) Variants.none (c : Thread nD τ) none E (m := m) (r := r) (S := m.view.set)
    (((m.access r).setOn_subset_set Mk).trans (m.view.set_slice_subset r))) $$ Hm
  iintro Hm
  iapply (le_wp_ret _ _ _ _ K)
  iapply HK
  ispecialize Hk $$ %(m.view.read Val ((m.access r).write Val f w Mk))
  iapply Hk
  iexists _; isplitr
  · ipureintro; rfl
  · iexact Hm

end Cert.Keep

end
-- ==== Proof.AK.Keep.lean ====
/- The buffers of one run of the body of `swiglu_bwd`, and what a load or a store of each asks for. -/
module

public import proofs.«01_k».proof.Proof.AK.Points
public import proofs.«01_k».proof.Proof.A.Rules

@[expose] public section

set_option maxRecDepth 16384

noncomputable section

namespace Cert.KernelA.Hand

open Cert.KernelA.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

/-- The buffers of one run of the body: the inputs at given contents, what is said of the `dw_out` block (`A11`) and of the dequantised
    gradient (`A13`), the others at anything. -/
def Inv (c : Dev nD) (arg1 : Memref sig .tc .vmem S1024x2048 .fp8e5m2) (arg2 : Memref sig .tc .vmem S1024x1 .f32) (arg3 : Memref sig .tc .vmem S1024x1 .f32) (arg4 : Memref sig .tc .vmem S1024x1 .f32) (arg5 : Memref sig .tc .vmem S1x2048 .f32) (arg6 : Memref sig .tc .vmem S512x2048 .fp8e4m3) (arg7 : Memref sig .tc .vmem S2x1024x512 .fp8e4m3) (arg8 : Memref sig .tc .vmem S1024x512 .fp8e4m3) (arg9 : Memref sig .tc .vmem S2x1024x512 .fp8e5m2) (arg10 : Memref sig .tc .vmem S1024x1 .f32) (arg11 : Memref sig .tc .vmem S512x2048 .bf16) (arg12 : Memref sig .tc .vmem S1024x2048 .bf16) (arg13 : Memref sig .tc .vmem S1024x2048 .bf16) (arg14 : Memref sig .tc .vmem S11x1024x512 .f32) (arg15 : Memref sig .tc .vmem S1024x128 .f32) (arg16 : Memref sig .tc .vmem S1024x128 .f32) (x1 : Vec F S1024x2048 .fp8e5m2) (x2 : Vec F S1024x1 .f32) (x3 : Vec F S1024x1 .f32) (x4 : Vec F S1024x1 .f32) (x5 : Vec F S1x2048 .f32) (x6 : Vec F S512x2048 .fp8e4m3) (x7 : Vec F S2x1024x512 .fp8e4m3) (x8 : Vec F S1024x512 .fp8e4m3) (A11 A13 : sProp 𝕄) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ A11 ∗ (∃ d, owns (c : Thread nD τ) arg12 fullShare d) ∗ A13 ∗ (∃ d, owns (c : Thread nD τ) arg14 fullShare d) ∗ (∃ d, owns (c : Thread nD τ) arg15 fullShare d) ∗ (∃ d, owns (c : Thread nD τ) arg16 fullShare d))

section

variable {c : Dev nD} {arg1 : Memref sig .tc .vmem S1024x2048 .fp8e5m2} {arg2 : Memref sig .tc .vmem S1024x1 .f32} {arg3 : Memref sig .tc .vmem S1024x1 .f32} {arg4 : Memref sig .tc .vmem S1024x1 .f32} {arg5 : Memref sig .tc .vmem S1x2048 .f32} {arg6 : Memref sig .tc .vmem S512x2048 .fp8e4m3} {arg7 : Memref sig .tc .vmem S2x1024x512 .fp8e4m3} {arg8 : Memref sig .tc .vmem S1024x512 .fp8e4m3} {arg9 : Memref sig .tc .vmem S2x1024x512 .fp8e5m2} {arg10 : Memref sig .tc .vmem S1024x1 .f32} {arg11 : Memref sig .tc .vmem S512x2048 .bf16} {arg12 : Memref sig .tc .vmem S1024x2048 .bf16} {arg13 : Memref sig .tc .vmem S1024x2048 .bf16} {arg14 : Memref sig .tc .vmem S11x1024x512 .f32} {arg15 : Memref sig .tc .vmem S1024x128 .f32} {arg16 : Memref sig .tc .vmem S1024x128 .f32} {x1 : Vec F S1024x2048 .fp8e5m2} {x2 : Vec F S1024x1 .f32} {x3 : Vec F S1024x1 .f32} {x4 : Vec F S1024x1 .f32} {x5 : Vec F S1x2048 .f32} {x6 : Vec F S512x2048 .fp8e4m3} {x7 : Vec F S2x1024x512 .fp8e4m3} {x8 : Vec F S1024x512 .fp8e4m3}

instance reads1 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg1 := (Reads.left Reads.exact)
instance reads2 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg2 := (Reads.right (Reads.left Reads.exact))
instance reads3 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg3 := (Reads.right (Reads.right (Reads.left Reads.exact)))
instance reads4 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg4 := (Reads.right (Reads.right (Reads.right (Reads.left Reads.exact))))
instance reads5 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg5 := (Reads.right (Reads.right (Reads.right (Reads.right (Reads.left Reads.exact)))))
instance reads6 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg6 := (Reads.right (Reads.right (Reads.right (Reads.right (Reads.right (Reads.left Reads.exact))))))
instance reads7 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg7 := (Reads.right (Reads.right (Reads.right (Reads.right (Reads.right (Reads.right (Reads.left Reads.exact)))))))
instance reads8 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg8 := (Reads.right (Reads.right (Reads.right (Reads.right (Reads.right (Reads.right (Reads.right (Reads.left Reads.exact))))))))
instance writes9 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg9 := (Writes.right (Writes.right (Writes.right (Writes.right (Writes.right (Writes.right (Writes.right (Writes.right (Writes.left Writes.some)))))))))
instance reads9 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg9 := writes9.reads
instance writes10 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg10 := (Writes.right (Writes.right (Writes.right (Writes.right (Writes.right (Writes.right (Writes.right (Writes.right (Writes.right (Writes.left Writes.some))))))))))
instance reads10 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg10 := writes10.reads
instance writes12 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg12 := (Writes.right (Writes.right (Writes.right (Writes.right (Writes.right (Writes.right (Writes.right (Writes.right (Writes.right (Writes.right (Writes.right (Writes.left Writes.some))))))))))))
instance reads12 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg12 := writes12.reads
instance writes14 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg14 := (Writes.right (Writes.right (Writes.right (Writes.right (Writes.right (Writes.right (Writes.right (Writes.right (Writes.right (Writes.right (Writes.right (Writes.right (Writes.right (Writes.left Writes.some))))))))))))))
instance reads14 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg14 := writes14.reads
instance writes15 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg15 := (Writes.right (Writes.right (Writes.right (Writes.right (Writes.right (Writes.right (Writes.right (Writes.right (Writes.right (Writes.right (Writes.right (Writes.right (Writes.right (Writes.right (Writes.left Writes.some)))))))))))))))
instance reads15 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg15 := writes15.reads
instance writes16 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg16 := (Writes.right (Writes.right (Writes.right (Writes.right (Writes.right (Writes.right (Writes.right (Writes.right (Writes.right (Writes.right (Writes.right (Writes.right (Writes.right (Writes.right (Writes.right Writes.some)))))))))))))))
instance reads16 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg16 := writes16.reads

end

end Cert.KernelA.Hand

end
-- ==== Proof.AK.Run.lean ====
/- The run of the body of `swiglu_bwd`: what it leaves in the dequantised gradient and in the `dw_out` block. -/
module

public import proofs.«01_k».proof.Proof.AK.Keep

@[expose] public section

set_option maxRecDepth 16384

noncomputable section

namespace Cert.KernelA.Hand

open Cert.KernelA.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

/-! ## What the body leaves, as functions of the blocks it reads -/

/-- The four blocks of rows of the dequantised gradient the first point stores, last first. -/
def dyrPieces (x0 : Vec F S1024x2048 .fp8e5m2) (x1 : Vec F S1024x1 .f32) : List (View.Piece (Elt F) S1024x2048 .bf16) :=
  [⟨(Rect.unit (s := S1024x2048) ![768, 0] S256x2048.size inb_S1024x2048_S256x2048_768_0), k0_pay1 (k0_pay18 (View.ld x0 (Rect.unit (s := S1024x2048) ![768, 0] S256x2048.size inb_S1024x2048_S256x2048_768_0)) (View.ld x1 (Rect.unit (s := S1024x1) ![768, 0] S256x1.size inb_S1024x1_S256x1_768_0)))⟩, ⟨(Rect.unit (s := S1024x2048) ![512, 0] S256x2048.size inb_S1024x2048_S256x2048_512_0), k0_pay15 (View.ld x0 (Rect.unit (s := S1024x2048) ![512, 0] S256x2048.size inb_S1024x2048_S256x2048_512_0)) (View.ld x1 (Rect.unit (s := S1024x1) ![512, 0] S256x1.size inb_S1024x1_S256x1_512_0))⟩, ⟨(Rect.unit (s := S1024x2048) ![256, 0] S256x2048.size inb_S1024x2048_S256x2048_256_0), k0_pay12 (k0_pay11 (View.ld x0 (Rect.unit (s := S1024x2048) ![256, 0] S256x2048.size inb_S1024x2048_S256x2048_256_0)) (View.ld x1 (Rect.unit (s := S1024x1) ![256, 0] S256x1.size inb_S1024x1_S256x1_256_0)))⟩, ⟨(Rect.unit (s := S1024x2048) ![0, 0] S256x2048.size inb_S1024x2048_S256x2048_0_0), k0_pay8 (View.ld x0 (Rect.unit (s := S1024x2048) ![0, 0] S256x2048.size inb_S1024x2048_S256x2048_0_0)) (View.ld x1 (Rect.unit (s := S1024x1) ![0, 0] S256x1.size inb_S1024x1_S256x1_0_0))⟩]

/-- The gradient of the down-projection's output, dequantised: what the first point leaves in its scratch buffer. -/
def dyrOf (x0 : Vec F S1024x2048 .fp8e5m2) (x1 : Vec F S1024x1 .f32) : Vec F S1024x2048 .bf16 := View.canon (dyrPieces x0 x1)

theorem dyr_cover (x0 : Vec F S1024x2048 .fp8e5m2) (x1 : Vec F S1024x1 .f32) (y : S1024x2048.Idx) : ∃ pc ∈ dyrPieces x0 x1, y ∈ pc.1.set :=
  View.cover_of_tiledL (dyrPieces x0 x1) S256x2048.size (by sl_kernel_rfl) y

theorem hz2 : (![0, 0] : Fin 2 → Nat) = fun _ => 0 := funext fun a => by fin_cases a <;> rfl

/-- A store of the whole buffer, last, is what the buffer reads. -/
theorem read_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rwa [Rect.emb_whole_apply] at e

section

variable {c : Dev nD} (i : grid0.Coords) (arg1 : Memref sig .tc .vmem S1024x2048 .fp8e5m2) (arg2 : Memref sig .tc .vmem S1024x1 .f32) (arg3 : Memref sig .tc .vmem S1024x1 .f32) (arg4 : Memref sig .tc .vmem S1024x1 .f32) (arg5 : Memref sig .tc .vmem S1x2048 .f32) (arg6 : Memref sig .tc .vmem S512x2048 .fp8e4m3) (arg7 : Memref sig .tc .vmem S2x1024x512 .fp8e4m3) (arg8 : Memref sig .tc .vmem S1024x512 .fp8e4m3) (arg9 : Memref sig .tc .vmem S2x1024x512 .fp8e5m2) (arg10 : Memref sig .tc .vmem S1024x1 .f32) (arg11 : Memref sig .tc .vmem S512x2048 .bf16) (arg12 : Memref sig .tc .vmem S1024x2048 .bf16) (arg13 : Memref sig .tc .vmem S1024x2048 .bf16) (arg14 : Memref sig .tc .vmem S11x1024x512 .f32) (arg15 : Memref sig .tc .vmem S1024x128 .f32) (arg16 : Memref sig .tc .vmem S1024x128 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) {x1 : Vec F S1024x2048 .fp8e5m2} {x2 : Vec F S1024x1 .f32} {x3 : Vec F S1024x1 .f32} {x4 : Vec F S1024x1 .f32} {x5 : Vec F S1x2048 .f32} {x6 : Vec F S512x2048 .fp8e4m3} {x7 : Vec F S2x1024x512 .fp8e4m3} {x8 : Vec F S1024x512 .fp8e4m3}

set_option maxHeartbeats 4000000 in
/-- The head of the last branch stores the `dw_out` block. -/
theorem runs59 (X11 : Vec F S512x2048 .bf16) (X13 : Vec F S1024x2048 .bf16) (a0 : BitVec 32) (h : k0_cond4 i = 1#1) :
    Runs (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13)) (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 a0 h)
      (Inv c arg1 arg2 arg3 arg4 arg5 arg6 arg7 arg8 arg9 arg10 arg11 arg12 arg13 arg14 arg15 arg16 x1 x2 x3 x4 x5 x6 x7 x8 (owns (c : Thread nD τ) arg11 fullShare (k0_pay242 x8 x4 X13)) (owns (c : Thread nD τ) arg13 fullShare X13)) := by
  intro E K
  rw [k0_part59_eq_skeleton]; unfold k0_part59_skel Inv owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, H9⟩, ⟨%d10, H10⟩, ⟨%f11, %hf11, H11⟩, ⟨%d12, H12⟩, ⟨%f13, %hf13, H13⟩, ⟨%d14, %f14, -, H14⟩, H15, ⟨%d16, %f16, -, H16⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]; · iexists d9; iexact H9
  isplitl [H10]; · iexists d10; iexact H10
  isplitl [H11]
  · iexists _; isplitr; swap; · iexact H11
    ipureintro
    sl_unfold_words
    refine (read_whole (S := S512x2048) arg11.view _ hz2 _ _ _).trans ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S1024x512) hz2, View.ld_unit_zero (S := S1024x2048) hz2]
  isplitl [H12]; · iexists d12; iexact H12
  isplitl [H13]
  · iexists _; isplitr; · ipureintro; exact harg13.read_unread _
    iexact H13
  isplitl [H14]
  · iexists _, _; isplitr; swap; · iexact H14
    ipureintro; rfl
  isplitl [H15]; · iexact H15
  iexists _, _; isplitr; swap; · iexact H16
  ipureintro; rfl

set_option maxHeartbeats 4000000 in
/-- The run at the first point: the dequantised gradient is stored, the `dw_out` block left as it was. -/
theorem runs_first (X11 : Vec F S512x2048 .bf16) (h1 : Scalar.cmpi .ne (Scalar.extui (Scalar.cmpi .eq (BitVec.ofNat 32 (i 0).val) 0#32) : BitVec 32) 0#32 = 1#1) (h4 : ¬k0_cond4 i = 1#1) :
    Runs (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) iprop(∃ d, owns (c : Thread nD τ) arg13 fullShare d)) (cc0_swiglu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare (dyrOf x1 x2))) := by
  rw [cc0_swiglu_bwd_eq_skeleton]; unfold cc0_swiglu_bwd_skel
  intro E K
  simp only [k0_part1_eq_skeleton, k0_part2_eq_skeleton]
  unfold k0_part1_skel k0_part2_skel Inv
  unfold owns
  iintro ⟨⟨⟨%f1, %hf1, H1⟩, ⟨%f2, %hf2, H2⟩, H3, H4, ⟨%f5, %hf5, H5⟩, H6, H7, H8, H9, H10, H11, ⟨%d12, %f12, -, H12⟩, ⟨%d13, %f13, -, H13⟩, H14, ⟨%d15, %f15, -, H15⟩, H16⟩, Hk⟩
  obtain rfl := harg1.eq_unread hf1; obtain rfl := harg2.eq_unread hf2; obtain rfl := harg5.eq_unread hf5
  sl_exec (disch := sl_exact h1)
  refine BIBase.Entails.trans ?_ ((?hrest : Keeps (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare (dyrOf x1 x2))) _) E K)
  case hrest =>
    repeat' (first
        | with_reducible exact Keeps.ret _
        | with_reducible exact Keeps.load inferInstance
        | with_reducible exact Keeps.store inferInstance
        | (with_reducible refine Keeps.bind ?_ fun _ => ?_)
        | (with_reducible refine Keeps.dite_neg h4 ?_)
        | (with_reducible refine Keeps.dite (fun _ => ?_) fun _ => ?_)
        | (refine Keeps.bind ?_ fun _ => ?_))
  iintro ⟨⟨⟨⟨⟨⟨⟨⟨⟨⟨⟨⟨⟨⟨⟨⟨H1, H2⟩, H3⟩, H4⟩, H5⟩, H6⟩, H7⟩, H8⟩, H9⟩, H10⟩, H11⟩, H12⟩, H13⟩, H14⟩, H15⟩, H16⟩, Hk⟩
  isplitr [Hk]; swap; · iexact Hk
  unfold Inv owns
  isplitl [H1]
  · iexists _; isplitr; · ipureintro; exact harg1.read_unread _
    iexact H1
  isplitl [H2]
  · iexists _; isplitr; · ipureintro; exact harg2.read_unread _
    iexact H2
  isplitl [H3]
  · iexact H3
  isplitl [H4]
  · iexact H4
  isplitl [H5]
  · iexists _; isplitr; · ipureintro; exact harg5.read_unread _
    iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _, _; isplitr; swap; · iexact H12
    ipureintro; rfl
  isplitl [H13]
  · iexists _; isplitr; swap; · iexact H13
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S1024x512) hz2, View.ld_unit_zero (S := S1024x2048) hz2]
    exact View.read_writes_eq_canon _ _ _ (dyr_cover x1 x2)
  isplitl [H14]
  · iexact H14
  isplitl [H15]
  · iexists _, _; isplitr; swap; · iexact H15
    ipureintro; rfl
  iexact H16

set_option maxHeartbeats 4000000 in
/-- The run at a later point before point 11: nothing of what is kept changes. -/
theorem runs_mid (X11 : Vec F S512x2048 .bf16) (X13 : Vec F S1024x2048 .bf16) (h1 : ¬Scalar.cmpi .ne (Scalar.extui (Scalar.cmpi .eq (BitVec.ofNat 32 (i 0).val) 0#32) : BitVec 32) 0#32 = 1#1) (h4 : ¬k0_cond4 i = 1#1) :
    Runs (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13)) (cc0_swiglu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13)) := by
  rw [cc0_swiglu_bwd_eq_skeleton]; unfold cc0_swiglu_bwd_skel
  refine Keeps.dite_neg h1 ?_
  repeat' (first
    | with_reducible exact Keeps.ret _
    | with_reducible exact Keeps.load inferInstance
    | with_reducible exact Keeps.store inferInstance
    | (with_reducible refine Keeps.bind ?_ fun _ => ?_)
    | (with_reducible refine Keeps.dite_neg h4 ?_)
    | (with_reducible refine Keeps.dite (fun _ => ?_) fun _ => ?_)
    | (refine Keeps.bind ?_ fun _ => ?_))

set_option maxHeartbeats 4000000 in
/-- The run at a point from point 11 on: the `dw_out` block is stored. -/
theorem runs_last (X11 : Vec F S512x2048 .bf16) (X13 : Vec F S1024x2048 .bf16) (h1 : ¬Scalar.cmpi .ne (Scalar.extui (Scalar.cmpi .eq (BitVec.ofNat 32 (i 0).val) 0#32) : BitVec 32) 0#32 = 1#1) (h4 : k0_cond4 i = 1#1) (hx : k0_cond4 i = 1#1 → ¬k0_cond2 i = 1#1) :
    Runs (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13)) (cc0_swiglu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (Inv c arg1 arg2 arg3 arg4 arg5 arg6 arg7 arg8 arg9 arg10 arg11 arg12 arg13 arg14 arg15 arg16 x1 x2 x3 x4 x5 x6 x7 x8 (owns (c : Thread nD τ) arg11 fullShare (k0_pay242 x8 x4 X13)) (owns (c : Thread nD τ) arg13 fullShare X13)) := by
  rw [cc0_swiglu_bwd_eq_skeleton]; unfold cc0_swiglu_bwd_skel
  have h2 : ¬k0_cond2 i = 1#1 := fun h2 => absurd h2 (hx h4)
  refine Runs.dite_neg h1 (Runs.dite_neg h2 (Runs.dite (fun h3 => Runs.bind (Q := (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13))) ?_ fun _ =>
    Runs.bind (Q := (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13))) ?_ fun _ => Runs.bind (Q := (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13))) ?_ fun _ => Runs.dite_pos h4 ?_) (fun h3 => Runs.dite_pos h4 ?_)))
  · show Keeps _ _ _ _
    repeat' (first
    | with_reducible exact Keeps.ret _
    | with_reducible exact Keeps.load inferInstance
    | with_reducible exact Keeps.store inferInstance
    | (with_reducible refine Keeps.bind ?_ fun _ => ?_)
    | (refine Keeps.bind ?_ fun _ => ?_))
  · exact Keeps.load inferInstance
  · exact Keeps.store inferInstance
  all_goals
    refine Runs.bind (Q := (Inv c arg1 arg2 arg3 arg4 arg5 arg6 arg7 arg8 arg9 arg10 arg11 arg12 arg13 arg14 arg15 arg16 x1 x2 x3 x4 x5 x6 x7 x8 (owns (c : Thread nD τ) arg11 fullShare (k0_pay242 x8 x4 X13)) (owns (c : Thread nD τ) arg13 fullShare X13))) ?_ fun _ => ?_
    · rw [k0_part134_eq_skeleton]; unfold k0_part134_skel
      refine Runs.bind (runs59 i arg1 arg2 arg3 arg4 arg5 arg6 arg7 arg8 arg9 arg10 arg11 arg12 arg13 arg14 arg15 arg16 harg1 harg2 harg3 harg4 harg5 harg6 harg7 harg8 harg9 harg10 harg11 harg12 harg13 harg14 harg15 harg16 (X11 := X11) (X13 := X13) (a0 := _) (h := h4)) fun _ => ?_
      show Keeps _ _ _ _
      repeat' (first
      | with_reducible exact Keeps.ret _
      | with_reducible exact Keeps.load inferInstance
      | with_reducible exact Keeps.store inferInstance
      | (with_reducible refine Keeps.bind ?_ fun _ => ?_)
      | (refine Keeps.bind ?_ fun _ => ?_))
    · show Keeps _ _ _ _
      repeat' (first
      | with_reducible exact Keeps.ret _
      | with_reducible exact Keeps.load inferInstance
      | with_reducible exact Keeps.store inferInstance
      | (with_reducible refine Keeps.bind ?_ fun _ => ?_)
      | (refine Keeps.bind ?_ fun _ => ?_))

end

end Cert.KernelA.Hand

end
-- ==== Proof.AK.Frame.lean ====
/- The frame of `swiglu_bwd`: what every point leaves, the body at every point, the run. -/
module

public import proofs.«01_k».proof.Proof.AK.Run
public import Idealize.ShloMosaic.Lib.Claim

@[expose] public section

set_option maxRecDepth 16384

noncomputable section

namespace Cert.KernelA.Hand

open Cert.KernelA.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The first point. -/
def p0 : Fin cfg0.N := ⟨0, by rw [show cfg0.N = 22 from N_0]; decide⟩

/-- The dequantised incoming gradient, as the first point leaves it. -/
def dyrAt (c : Dev nD) : Vec F S1024x2048 .bf16 := dyrOf (iblk m c 0 p0) (iblk m c 1 p0)

/-- The `dw_out` block of point `t`. -/
def dwoAt (c : Dev nD) (t : Fin cfg0.N) : Vec F S512x2048 .bf16 := k0_pay242 (iblk m c 7 t) (iblk m c 3 t) (dyrAt m c)

/-! ## The region's invariant and the pipeline's proof data -/

/-- The buffers of the kernel's own, the second at `B`, the others at anything. -/
def Scr (c : Dev nD) (B : sProp 𝕄) : sProp 𝕄 :=
  iprop((∃ d, owns (c : Thread nD τ) scM0_0 fullShare d) ∗ B ∗ (∃ d, owns (c : Thread nD τ) scM0_2 fullShare d) ∗ (∃ d, owns (c : Thread nD τ) scM0_3 fullShare d) ∗ (∃ d, owns (c : Thread nD τ) scM0_4 fullShare d))

/-- The region's invariant before position `n`: before the first point every scratch buffer at anything, afterwards the dequantised
    gradient in the second scratch buffer; the generator register at some state. -/
def PhiS (c : Dev nD) : (n : ℕ) → n ≤ cfg0.N → sProp 𝕄
  | 0, _ => Pipeline.ΦA spec0 c
  | n + 1, hn => iprop(Scr c (owns (c : Thread nD τ) scM0_1 fullShare (dyrAt m c)) ∗ (∃ r, prngReg c r))

theorem PhiS_zero (c : Dev nD) (n : ℕ) (h : n ≤ cfg0.N) (hz : n = 0) :
    PhiS m c n h = iprop(Scr c iprop(∃ d, owns (c : Thread nD τ) scM0_1 fullShare d) ∗ (∃ r, prngReg c r)) := by
  subst hz; exact PhiA0_eq c

theorem PhiS_pos (c : Dev nD) (n : ℕ) (h : n ≤ cfg0.N) (hz : n ≠ 0) :
    PhiS m c n h = iprop(Scr c (owns (c : Thread nD τ) scM0_1 fullShare (dyrAt m c)) ∗ (∃ r, prngReg c r)) := by
  cases n with
  | zero => exact absurd rfl hz
  | succ n => rfl

/-- The windows of whose contents nothing is said: the codes and the scales of the incoming gradient of the preactivations. -/
def fgt (w : Fin cfg0.W) : Bool := match w with
  | ⟨8, _⟩ => true
  | ⟨9, _⟩ => true
  | _ => false

/-- The proof data: the arrays as the region finds them; after a point each input's buffer at its block and the `dw_out` buffer at
    the value above; nothing owed; full shares. The two forgotten windows carry a placeholder. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dwoAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_10 (c : Dev nD) (t : Fin cfg0.N) : (dats m 0 c).after 10 t = dwoAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- The buffers the body is handed and hands back: the inputs' at their blocks, the forgotten ones at anything, `dw_out`'s at `A`. -/
def Bufs (c : Dev nD) (t : Fin cfg0.N) (A : sProp 𝕄) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ X, owns (c : Thread nD τ) (ms0_8 t) fullShare X) ∗ (∃ X, owns (c : Thread nD τ) (ms0_9 t) fullShare X) ∗ A)

/-- A run of the body between two contents of the `dw_out` buffer and of the second scratch buffer, framed by the rest of what the
    body is handed. -/
theorem sound_of (c : Dev nD) (t : Fin cfg0.N) (A A' B B' G O : sProp 𝕄)
    (h : Runs (defs₀ (F := F)) c (Inv c (ms0_0 t) (ms0_1 t) (ms0_2 t) (ms0_3 t) (ms0_4 t) (ms0_5 t) (ms0_6 t) (ms0_7 t) (ms0_8 t) (ms0_9 t) (ms0_10 t) scM0_0 scM0_1 scM0_2 scM0_3 scM0_4 (iblk m c 0 t) (iblk m c 1 t) (iblk m c 2 t) (iblk m c 3 t) (iblk m c 4 t) (iblk m c 5 t) (iblk m c 6 t) (iblk m c 7 t) A B) (bodyAt0 t) (Inv c (ms0_0 t) (ms0_1 t) (ms0_2 t) (ms0_3 t) (ms0_4 t) (ms0_5 t) (ms0_6 t) (ms0_7 t) (ms0_8 t) (ms0_9 t) (ms0_10 t) scM0_0 scM0_1 scM0_2 scM0_3 scM0_4 (iblk m c 0 t) (iblk m c 1 t) (iblk m c 2 t) (iblk m c 3 t) (iblk m c 4 t) (iblk m c 5 t) (iblk m c 6 t) (iblk m c 7 t) A' B')) :
    iprop((Scr c B ∗ G) ∗ O ∗ Bufs m c t A)
      ⊢ wp frame (wpE (defs₀ (F := F)) Variants.none c none) Set.univ (bodyAt0 t) (fun _ => iprop((Scr c B' ∗ G) ∗ O ∗ Bufs m c t A')) := by
  refine BIBase.Entails.trans ?_ (h Set.univ _)
  unfold Scr Bufs Inv
  iintro ⟨⟨⟨S0, S1, S2, S3, S4⟩, HG⟩, HO, H0, H1, H2, H3, H4, H5, H6, H7, H8, H9, H10⟩
  isplitr [HG HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    iexact S4
  iintro %a ⟨H0, H1, H2, H3, H4, H5, H6, H7, H8, H9, H10, S0, S1, S2, S3, S4⟩
  isplitl [S0 S1 S2 S3 S4 HG]
  · isplitr [HG]; swap; · iexact HG
    isplitl [S0]; · iexact S0
    isplitl [S1]; · iexact S1
    isplitl [S2]; · iexact S2
    isplitl [S3]; · iexact S3
    iexact S4
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ X, owns (c : Thread nD τ) (ms0_8 t) fullShare X)
    ∗ (∃ X, owns (c : Thread nD τ) (ms0_9 t) fullShare X)
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ X, owns (c : Thread nD τ) (ms0_8 t) fullShare X)
    ∗ (∃ X, owns (c : Thread nD τ) (ms0_9 t) fullShare X)
    ∗ (dats m 0 c).leavesExact 10 t)

/-- What the body is called with, the inputs' blocks named. -/
theorem bodyPre_le (c : Dev nD) (t : Fin cfg0.N) :
    bodyPre m c t ⊢ iprop((dats m 0 c).Φ t.castSucc ∗ (dats m 0 c).owesAt () t.castSucc ∗ Bufs m c t iprop(∃ d, owns (c : Thread nD τ) (ms0_10 t) fullShare ((dats m 0 c).before 10 t d))) := by
  unfold bodyPre Bufs
  simp only [before0_0, before0_1, before0_2, before0_3, before0_4, before0_5, before0_6, before0_7]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What it returns, the inputs' blocks named. -/
theorem bodyPost_eq (c : Dev nD) (t : Fin cfg0.N) :
    bodyPost m c t = iprop((dats m 0 c).Φ t.succ ∗ (dats m 0 c).owesAt () t.succ ∗ Bufs m c t ((dats m 0 c).leavesExact 10 t)) := by
  unfold bodyPost Bufs
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]

/-- The invariant after point `t`. -/
theorem PhiS_next (c : Dev nD) (t : Fin cfg0.N) :
    (dats m 0 c).Φ t.succ = iprop(Scr c (owns (c : Thread nD τ) scM0_1 fullShare (dyrAt m c)) ∗ (∃ r, prngReg c r)) := rfl

/-- The `dw_out` buffer before point 11, handed back as it was. -/
theorem leaves_early (c : Dev nD) (t : Fin cfg0.N) (ht : ¬11 ≤ t.val) :
    (dats m 0 c).leavesExact 10 t = iprop(∃ d, owns (c : Thread nD τ) (ms0_10 t) fullShare ((dats m 0 c).before 10 t d)) :=
  Dat.leavesExact_idle (dats m 0 c) 10 t (idleAt0_10 t ht) (noFlush0_10 t ht)

/-- The `dw_out` buffer from point 11 on. -/
theorem leaves_late (c : Dev nD) (t : Fin cfg0.N) (ht : 11 ≤ t.val) :
    (dats m 0 c).leavesExact 10 t = owns (c : Thread nD τ) (ms0_10 t) fullShare (dwoAt m c t) := by
  unfold Dat.leavesExact; rw [liveAt0_10 t ht]; dsimp only; rw [after0_10]

/-- A resource at some contents runs to a post when each of its contents does. -/
theorem sound_ex (c : Dev nD) (t : Fin cfg0.N) {ι : Type} (A : ι → sProp 𝕄) (P O Q : sProp 𝕄)
    (h : ∀ d, iprop(P ∗ O ∗ Bufs m c t (A d)) ⊢ wp frame (wpE (defs₀ (F := F)) Variants.none c none) Set.univ (bodyAt0 t) (fun _ => Q)) :
    iprop(P ∗ O ∗ Bufs m c t iprop(∃ d, A d)) ⊢ wp frame (wpE (defs₀ (F := F)) Variants.none c none) Set.univ (bodyAt0 t) (fun _ => Q) := by
  unfold Bufs at h ⊢
  iintro ⟨HP, HO, H0, H1, H2, H3, H4, H5, H6, H7, H8, H9, ⟨%d, H10⟩⟩
  iapply (h d)
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The buffers at one contents of the `dw_out` buffer are the buffers at some contents. -/
theorem Bufs_ex (c : Dev nD) (t : Fin cfg0.N) {ι : Type} (A : ι → sProp 𝕄) (P O : sProp 𝕄) (d : ι) :
    iprop(P ∗ O ∗ Bufs m c t (A d)) ⊢ iprop(P ∗ O ∗ Bufs m c t iprop(∃ d, A d)) := by
  unfold Bufs
  iintro ⟨HP, HO, H0, H1, H2, H3, H4, H5, H6, H7, H8, H9, H10⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d; iexact H10

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  refine (bodyPre_le m c t).trans ?_
  rw [show (fun _ : PUnit => bodyPost m c t) = fun _ => _ from funext fun _ => bodyPost_eq m c t, PhiS_next,
    show (dats m 0 c).owesAt () t.succ = (dats m 0 c).owesAt () t.castSucc from rfl, PhiS_castSucc]
  refine sound_ex m c t _ _ _ _ fun d => ?_
  by_cases ht : 11 ≤ t.val
  · rw [leaves_late m c t ht, PhiS_pos m c _ _ (by omega)]
    exact sound_of m c t _ _ _ _ _ _ (runs_last (grid0.coords t) _ _ _ _ _ _ _ _ _ _ _ _ _ _ _ _ _ _ _ _ _ _ _ _ _ _ _ _ _ _ _ _ _ _
      (fun h => absurd ((hcond0_0 t).mp h) (by omega)) ((hcond0_3 t).mpr ht) fun _ h => absurd ((hcond0_1 t).mp h) (by omega))
  · rw [leaves_early m c t ht]
    refine BIBase.Entails.trans ?_ (wp_mono _ _ _ fun _ => Bufs_ex m c t _ _ _ d)
    by_cases h0 : t.val = 0
    · rw [PhiS_zero m c _ _ h0, show dyrAt m c = dyrOf (iblk m c 0 t) (iblk m c 1 t) from by rw [show t = p0 from Fin.ext h0]; rfl]
      exact sound_of m c t _ _ _ _ _ _ (runs_first (grid0.coords t) _ _ _ _ _ _ _ _ _ _ _ _ _ _ _ _ _ _ _ _ _ _ _ _ _ _ _ _ _ _ _ _ _
        ((hcond0_0 t).mpr h0) fun h => ht ((hcond0_3 t).mp h))
    · rw [PhiS_pos m c _ _ h0]
      exact sound_of m c t _ _ _ _ _ _ (runs_mid (grid0.coords t) _ _ _ _ _ _ _ _ _ _ _ _ _ _ _ _ _ _ _ _ _ _ _ _ _ _ _ _ _ _ _ _ _ _
        (fun h => h0 ((hcond0_0 t).mp h)) fun h => ht ((hcond0_3 t).mp h))

theorem defs₀_row (t : Fin cfg0.N) :
    defs₀ (F := F) .tc cfg0.body (cfg0.bodyArgs t (cfg0.slots t)) = bodyAt0 t := by
  unfold defs₀; rw [Defs.onTc_tc]

/-- The library's body obligation, at every point, two windows forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- The invariant after the last point gives it back, the scratch's named contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 22 := N_0; omega), PhiA0_eq]
  unfold Scr
  iintro ⟨⟨S0, S1, S2, S3, S4⟩, HG⟩
  isplitr [HG]; swap; · iexact HG
  isplitl [S0]; · iexact S0
  isplitl [S1]; · iexists _; iexact S1
  isplitl [S2]; · iexact S2
  isplitl [S3]; · iexact S3
  iexact S4

/-! ## The run and the frame -/

/-- What the run ends with: every array at contents it may hold, the two forgotten ones at anything. -/
abbrev Post (r : PUnit × MemSt nD τ sig (Elt F)) : Prop := Pipeline.RDat.FramePost cfg0 (fun c => (dats m 0 c).toRForget fgt) (V m) r

set_option backward.isDefEq.respectTransparency.types false in
/-- The launch, with every semaphore counter at zero at every final state. -/
theorem run_main_quiescent : θ_run defs (onTc (τ := τ) (main (F := F))) (s₀ m ρ) (fun r => Post m r ∧ r.2.sem = fun _ => 0) :=
  Pipeline.θ_run_frame_track_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Post m) :=
  (θ_run defs _ _).mono (fun _ h => h.1) (run_main_quiescent m ρ)

/-- The argument arrays at a final state. -/
theorem args_of (r : PUnit × MemSt nD τ sig (Elt F)) (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 5 rfl).trans ((A_eq m c 5).trans (V_main_arg6 m c)),
    ((h c).2 main_arg7 (Pipeline.mem_restRefs_of main_arg7 (by decide) (by decide))).trans (V_main_arg7 m c)⟩

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_of m r h c) (run_main m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelA.Hand

end
-- ==== Proof.AKI.Points.lean ====
/- What the runs of the body of `swiglu_bwd` are stated over: its branch conditions in closed form over the points, where its windows are idle, the staging and scratch memrefs. -/
module

public import proofs.«01_k».proof.Proof.Gen.KernelAIdeal.Frame
public import proofs.«01_k».proof.Proof.Gen.KernelAIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelAIdeal.Hand

open Cert.KernelAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the branches of the body are taken -/

/-- The first branch is taken at the first point only. -/
theorem hcond0_0 : ∀ t : Fin cfg0.N, Scalar.cmpi .ne (Scalar.extui (Scalar.cmpi .eq (BitVec.ofNat 32 (grid0.coords t 0).val) 0#32) : BitVec 32) 0#32 = 1#1 ↔ t.val = 0 :=
  (by decide +kernel : ∀ t : Fin grid0.N, Scalar.cmpi .ne (Scalar.extui (Scalar.cmpi .eq (BitVec.ofNat 32 (grid0.coords t 0).val) 0#32) : BitVec 32) 0#32 = 1#1 ↔ t.val = 0)

/-- The second branch is taken before point 11. -/
theorem hcond0_1 : ∀ t : Fin cfg0.N, k0_cond2 (grid0.coords t) = 1#1 ↔ t.val < 11 :=
  (by decide +kernel : ∀ t : Fin grid0.N, k0_cond2 (grid0.coords t) = 1#1 ↔ t.val < 11)

/-- The last branch is taken from point 11 on. -/
theorem hcond0_3 : ∀ t : Fin cfg0.N, k0_cond4 (grid0.coords t) = 1#1 ↔ 11 ≤ t.val :=
  (by decide +kernel : ∀ t : Fin grid0.N, k0_cond4 (grid0.coords t) = 1#1 ↔ 11 ≤ t.val)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-- Before point 11 nothing is stored into the `dw_out` block, -/
theorem idleAt0_10 : ∀ t : Fin cfg0.N, ¬11 ≤ t.val → cfg0.idle 10 (grid0.coords t) = true :=
  (by decide +kernel : ∀ t : Fin grid0.N, ¬11 ≤ t.val → idle0 10 (grid0.coords t) = true)
/-- nor is it written back; -/
theorem noFlush0_10 : ∀ t : Fin cfg0.N, ¬11 ≤ t.val → (cfg0.win 10).flush t = false :=
  (by decide +kernel : ∀ t : Fin grid0.N, ¬11 ≤ t.val → win0_10.flush t = false)
/-- from there on it is stored at every point, -/
theorem liveAt0_10 : ∀ t : Fin cfg0.N, 11 ≤ t.val → cfg0.idle 10 (grid0.coords t) = false :=
  (by decide +kernel : ∀ t : Fin grid0.N, 11 ≤ t.val → idle0 10 (grid0.coords t) = false)
/-- and written back after it. -/
theorem flush0_10 : ∀ t : Fin cfg0.N, 11 ≤ t.val → (cfg0.win 10).flush t = true :=
  (by decide +kernel : ∀ t : Fin grid0.N, 11 ≤ t.val → win0_10.flush t = true)

/-! ## The buffers the body is called with -/

abbrev ms0_0 (t : Fin cfg0.N) : Memref sig .tc .vmem S1024x2048 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1024x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x1024x512 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .bf16 := win0_10.stage (cfg0.slots t 10)
abbrev hs0_10 (t : Fin cfg0.N) : (ms0_10 t).IsWhole := hstage0_10 ((cfg0.slots t 10).cast nbuf0_10)
abbrev scM0_0 : Memref sig .tc .vmem S1024x2048 .bf16 := Memref.whole cc0_scratch0
abbrev scM0_1 : Memref sig .tc .vmem S1024x2048 .bf16 := Memref.whole cc0_scratch1
abbrev scM0_2 : Memref sig .tc .vmem S11x1024x512 .f32 := Memref.whole cc0_scratch2
abbrev scM0_3 : Memref sig .tc .vmem S1024x128 .f32 := Memref.whole cc0_scratch3
abbrev scM0_4 : Memref sig .tc .vmem S1024x128 .f32 := Memref.whole cc0_scratch4

/-- The region's buffers of the kernel's own, each at anything, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelAIdeal.Hand

end
-- ==== Proof.AKI.Keep.lean ====
/- The buffers of one run of the body of `swiglu_bwd`, and what a load or a store of each asks for. -/
module

public import proofs.«01_k».proof.Proof.AKI.Points
public import proofs.«01_k».proof.Proof.A.Rules

@[expose] public section

set_option maxRecDepth 16384

noncomputable section

namespace Cert.KernelAIdeal.Hand

open Cert.KernelAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

/-- The buffers of one run of the body: the inputs at given contents, what is said of the `dw_out` block (`A11`) and of the dequantised
    gradient (`A13`), the others at anything. -/
def Inv (c : Dev nD) (arg1 : Memref sig .tc .vmem S1024x2048 .fp8e5m2) (arg2 : Memref sig .tc .vmem S1024x1 .f32) (arg3 : Memref sig .tc .vmem S1024x1 .f32) (arg4 : Memref sig .tc .vmem S1024x1 .f32) (arg5 : Memref sig .tc .vmem S1x2048 .f32) (arg6 : Memref sig .tc .vmem S512x2048 .fp8e4m3) (arg7 : Memref sig .tc .vmem S2x1024x512 .fp8e4m3) (arg8 : Memref sig .tc .vmem S1024x512 .fp8e4m3) (arg9 : Memref sig .tc .vmem S2x1024x512 .fp8e5m2) (arg10 : Memref sig .tc .vmem S1024x1 .f32) (arg11 : Memref sig .tc .vmem S512x2048 .bf16) (arg12 : Memref sig .tc .vmem S1024x2048 .bf16) (arg13 : Memref sig .tc .vmem S1024x2048 .bf16) (arg14 : Memref sig .tc .vmem S11x1024x512 .f32) (arg15 : Memref sig .tc .vmem S1024x128 .f32) (arg16 : Memref sig .tc .vmem S1024x128 .f32) (x1 : Vec F S1024x2048 .fp8e5m2) (x2 : Vec F S1024x1 .f32) (x3 : Vec F S1024x1 .f32) (x4 : Vec F S1024x1 .f32) (x5 : Vec F S1x2048 .f32) (x6 : Vec F S512x2048 .fp8e4m3) (x7 : Vec F S2x1024x512 .fp8e4m3) (x8 : Vec F S1024x512 .fp8e4m3) (A11 A13 : sProp 𝕄) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ A11 ∗ (∃ d, owns (c : Thread nD τ) arg12 fullShare d) ∗ A13 ∗ (∃ d, owns (c : Thread nD τ) arg14 fullShare d) ∗ (∃ d, owns (c : Thread nD τ) arg15 fullShare d) ∗ (∃ d, owns (c : Thread nD τ) arg16 fullShare d))

section

variable {c : Dev nD} {arg1 : Memref sig .tc .vmem S1024x2048 .fp8e5m2} {arg2 : Memref sig .tc .vmem S1024x1 .f32} {arg3 : Memref sig .tc .vmem S1024x1 .f32} {arg4 : Memref sig .tc .vmem S1024x1 .f32} {arg5 : Memref sig .tc .vmem S1x2048 .f32} {arg6 : Memref sig .tc .vmem S512x2048 .fp8e4m3} {arg7 : Memref sig .tc .vmem S2x1024x512 .fp8e4m3} {arg8 : Memref sig .tc .vmem S1024x512 .fp8e4m3} {arg9 : Memref sig .tc .vmem S2x1024x512 .fp8e5m2} {arg10 : Memref sig .tc .vmem S1024x1 .f32} {arg11 : Memref sig .tc .vmem S512x2048 .bf16} {arg12 : Memref sig .tc .vmem S1024x2048 .bf16} {arg13 : Memref sig .tc .vmem S1024x2048 .bf16} {arg14 : Memref sig .tc .vmem S11x1024x512 .f32} {arg15 : Memref sig .tc .vmem S1024x128 .f32} {arg16 : Memref sig .tc .vmem S1024x128 .f32} {x1 : Vec F S1024x2048 .fp8e5m2} {x2 : Vec F S1024x1 .f32} {x3 : Vec F S1024x1 .f32} {x4 : Vec F S1024x1 .f32} {x5 : Vec F S1x2048 .f32} {x6 : Vec F S512x2048 .fp8e4m3} {x7 : Vec F S2x1024x512 .fp8e4m3} {x8 : Vec F S1024x512 .fp8e4m3}

instance reads1 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg1 := (Reads.left Reads.exact)
instance reads2 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg2 := (Reads.right (Reads.left Reads.exact))
instance reads3 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg3 := (Reads.right (Reads.right (Reads.left Reads.exact)))
instance reads4 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg4 := (Reads.right (Reads.right (Reads.right (Reads.left Reads.exact))))
instance reads5 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg5 := (Reads.right (Reads.right (Reads.right (Reads.right (Reads.left Reads.exact)))))
instance reads6 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg6 := (Reads.right (Reads.right (Reads.right (Reads.right (Reads.right (Reads.left Reads.exact))))))
instance reads7 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg7 := (Reads.right (Reads.right (Reads.right (Reads.right (Reads.right (Reads.right (Reads.left Reads.exact)))))))
instance reads8 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg8 := (Reads.right (Reads.right (Reads.right (Reads.right (Reads.right (Reads.right (Reads.right (Reads.left Reads.exact))))))))
instance writes9 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg9 := (Writes.right (Writes.right (Writes.right (Writes.right (Writes.right (Writes.right (Writes.right (Writes.right (Writes.left Writes.some)))))))))
instance reads9 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg9 := writes9.reads
instance writes10 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg10 := (Writes.right (Writes.right (Writes.right (Writes.right (Writes.right (Writes.right (Writes.right (Writes.right (Writes.right (Writes.left Writes.some))))))))))
instance reads10 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg10 := writes10.reads
instance writes12 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg12 := (Writes.right (Writes.right (Writes.right (Writes.right (Writes.right (Writes.right (Writes.right (Writes.right (Writes.right (Writes.right (Writes.right (Writes.left Writes.some))))))))))))
instance reads12 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg12 := writes12.reads
instance writes14 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg14 := (Writes.right (Writes.right (Writes.right (Writes.right (Writes.right (Writes.right (Writes.right (Writes.right (Writes.right (Writes.right (Writes.right (Writes.right (Writes.right (Writes.left Writes.some))))))))))))))
instance reads14 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg14 := writes14.reads
instance writes15 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg15 := (Writes.right (Writes.right (Writes.right (Writes.right (Writes.right (Writes.right (Writes.right (Writes.right (Writes.right (Writes.right (Writes.right (Writes.right (Writes.right (Writes.right (Writes.left Writes.some)))))))))))))))
instance reads15 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg15 := writes15.reads
instance writes16 {A11 A13 : sProp 𝕄} : Writes τ (Elt F) c (Inv c arg1 arg2 arg3 arg4 arg5 arg6 arg7 arg8 arg9 arg10 arg11 arg12 arg13 arg14 arg15 arg16 x1 x2 x3 x4 x5 x6 x7 x8 A11 A13) arg16 := (Writes.right (Writes.right (Writes.right (Writes.right (Writes.right (Writes.right (Writes.right (Writes.right (Writes.right (Writes.right (Writes.right (Writes.right (Writes.right (Writes.right (Writes.right Writes.some)))))))))))))))
instance reads16 {A11 A13 : sProp 𝕄} : Reads τ (Elt F) c (Inv c arg1 arg2 arg3 arg4 arg5 arg6 arg7 arg8 arg9 arg10 arg11 arg12 arg13 arg14 arg15 arg16 x1 x2 x3 x4 x5 x6 x7 x8 A11 A13) arg16 := writes16.reads

end

end Cert.KernelAIdeal.Hand

end
-- ==== Proof.AKI.Run.lean ====
/- The run of the body of `swiglu_bwd`: what it leaves in the dequantised gradient and in the `dw_out` block. -/
module

public import proofs.«01_k».proof.Proof.AKI.Keep

@[expose] public section

set_option maxRecDepth 16384

noncomputable section

namespace Cert.KernelAIdeal.Hand

open Cert.KernelAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

/-! ## What the body leaves, as functions of the blocks it reads -/

/-- The four blocks of rows of the dequantised gradient the first point stores, last first. -/
def dyrPieces (x0 : Vec F S1024x2048 .fp8e5m2) (x1 : Vec F S1024x1 .f32) : List (View.Piece (Elt F) S1024x2048 .bf16) :=
  [⟨(Rect.unit (s := S1024x2048) ![768, 0] S256x2048.size inb_S1024x2048_S256x2048_768_0), k0_pay1 (k0_pay18 (View.ld x0 (Rect.unit (s := S1024x2048) ![768, 0] S256x2048.size inb_S1024x2048_S256x2048_768_0)) (View.ld x1 (Rect.unit (s := S1024x1) ![768, 0] S256x1.size inb_S1024x1_S256x1_768_0)))⟩, ⟨(Rect.unit (s := S1024x2048) ![512, 0] S256x2048.size inb_S1024x2048_S256x2048_512_0), k0_pay15 (View.ld x0 (Rect.unit (s := S1024x2048) ![512, 0] S256x2048.size inb_S1024x2048_S256x2048_512_0)) (View.ld x1 (Rect.unit (s := S1024x1) ![512, 0] S256x1.size inb_S1024x1_S256x1_512_0))⟩, ⟨(Rect.unit (s := S1024x2048) ![256, 0] S256x2048.size inb_S1024x2048_S256x2048_256_0), k0_pay12 (k0_pay11 (View.ld x0 (Rect.unit (s := S1024x2048) ![256, 0] S256x2048.size inb_S1024x2048_S256x2048_256_0)) (View.ld x1 (Rect.unit (s := S1024x1) ![256, 0] S256x1.size inb_S1024x1_S256x1_256_0)))⟩, ⟨(Rect.unit (s := S1024x2048) ![0, 0] S256x2048.size inb_S1024x2048_S256x2048_0_0), k0_pay8 (View.ld x0 (Rect.unit (s := S1024x2048) ![0, 0] S256x2048.size inb_S1024x2048_S256x2048_0_0)) (View.ld x1 (Rect.unit (s := S1024x1) ![0, 0] S256x1.size inb_S1024x1_S256x1_0_0))⟩]

/-- The gradient of the down-projection's output, dequantised: what the first point leaves in its scratch buffer. -/
def dyrOf (x0 : Vec F S1024x2048 .fp8e5m2) (x1 : Vec F S1024x1 .f32) : Vec F S1024x2048 .bf16 := View.canon (dyrPieces x0 x1)

theorem dyr_cover (x0 : Vec F S1024x2048 .fp8e5m2) (x1 : Vec F S1024x1 .f32) (y : S1024x2048.Idx) : ∃ pc ∈ dyrPieces x0 x1, y ∈ pc.1.set :=
  View.cover_of_tiledL (dyrPieces x0 x1) S256x2048.size (by sl_kernel_rfl) y

theorem hz2 : (![0, 0] : Fin 2 → Nat) = fun _ => 0 := funext fun a => by fin_cases a <;> rfl

/-- A store of the whole buffer, last, is what the buffer reads. -/
theorem read_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rwa [Rect.emb_whole_apply] at e

section

variable {c : Dev nD} (i : grid0.Coords) (arg1 : Memref sig .tc .vmem S1024x2048 .fp8e5m2) (arg2 : Memref sig .tc .vmem S1024x1 .f32) (arg3 : Memref sig .tc .vmem S1024x1 .f32) (arg4 : Memref sig .tc .vmem S1024x1 .f32) (arg5 : Memref sig .tc .vmem S1x2048 .f32) (arg6 : Memref sig .tc .vmem S512x2048 .fp8e4m3) (arg7 : Memref sig .tc .vmem S2x1024x512 .fp8e4m3) (arg8 : Memref sig .tc .vmem S1024x512 .fp8e4m3) (arg9 : Memref sig .tc .vmem S2x1024x512 .fp8e5m2) (arg10 : Memref sig .tc .vmem S1024x1 .f32) (arg11 : Memref sig .tc .vmem S512x2048 .bf16) (arg12 : Memref sig .tc .vmem S1024x2048 .bf16) (arg13 : Memref sig .tc .vmem S1024x2048 .bf16) (arg14 : Memref sig .tc .vmem S11x1024x512 .f32) (arg15 : Memref sig .tc .vmem S1024x128 .f32) (arg16 : Memref sig .tc .vmem S1024x128 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) {x1 : Vec F S1024x2048 .fp8e5m2} {x2 : Vec F S1024x1 .f32} {x3 : Vec F S1024x1 .f32} {x4 : Vec F S1024x1 .f32} {x5 : Vec F S1x2048 .f32} {x6 : Vec F S512x2048 .fp8e4m3} {x7 : Vec F S2x1024x512 .fp8e4m3} {x8 : Vec F S1024x512 .fp8e4m3}

set_option maxHeartbeats 4000000 in
/-- The head of the last branch stores the `dw_out` block. -/
theorem runs59 (X11 : Vec F S512x2048 .bf16) (X13 : Vec F S1024x2048 .bf16) (a0 : BitVec 32) (h : k0_cond4 i = 1#1) :
    Runs (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13)) (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 a0 h)
      (Inv c arg1 arg2 arg3 arg4 arg5 arg6 arg7 arg8 arg9 arg10 arg11 arg12 arg13 arg14 arg15 arg16 x1 x2 x3 x4 x5 x6 x7 x8 (owns (c : Thread nD τ) arg11 fullShare (k0_pay242 x8 x4 X13)) (owns (c : Thread nD τ) arg13 fullShare X13)) := by
  intro E K
  rw [k0_part59_eq_skeleton]; unfold k0_part59_skel Inv owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, H9⟩, ⟨%d10, H10⟩, ⟨%f11, %hf11, H11⟩, ⟨%d12, H12⟩, ⟨%f13, %hf13, H13⟩, ⟨%d14, %f14, -, H14⟩, H15, ⟨%d16, %f16, -, H16⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]; · iexists d9; iexact H9
  isplitl [H10]; · iexists d10; iexact H10
  isplitl [H11]
  · iexists _; isplitr; swap; · iexact H11
    ipureintro
    sl_unfold_words
    refine (read_whole (S := S512x2048) arg11.view _ hz2 _ _ _).trans ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S1024x512) hz2, View.ld_unit_zero (S := S1024x2048) hz2]
  isplitl [H12]; · iexists d12; iexact H12
  isplitl [H13]
  · iexists _; isplitr; · ipureintro; exact harg13.read_unread _
    iexact H13
  isplitl [H14]
  · iexists _, _; isplitr; swap; · iexact H14
    ipureintro; rfl
  isplitl [H15]; · iexact H15
  iexists _, _; isplitr; swap; · iexact H16
  ipureintro; rfl

set_option maxHeartbeats 4000000 in
/-- The run at the first point: the dequantised gradient is stored, the `dw_out` block left as it was. -/
theorem runs_first (X11 : Vec F S512x2048 .bf16) (h1 : Scalar.cmpi .ne (Scalar.extui (Scalar.cmpi .eq (BitVec.ofNat 32 (i 0).val) 0#32) : BitVec 32) 0#32 = 1#1) (h4 : ¬k0_cond4 i = 1#1) :
    Runs (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) iprop(∃ d, owns (c : Thread nD τ) arg13 fullShare d)) (cc0_swiglu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare (dyrOf x1 x2))) := by
  rw [cc0_swiglu_bwd_eq_skeleton]; unfold cc0_swiglu_bwd_skel
  intro E K
  simp only [k0_part1_eq_skeleton, k0_part2_eq_skeleton]
  unfold k0_part1_skel k0_part2_skel Inv
  unfold owns
  iintro ⟨⟨⟨%f1, %hf1, H1⟩, ⟨%f2, %hf2, H2⟩, H3, H4, ⟨%f5, %hf5, H5⟩, H6, H7, H8, H9, H10, H11, ⟨%d12, %f12, -, H12⟩, ⟨%d13, %f13, -, H13⟩, H14, ⟨%d15, %f15, -, H15⟩, H16⟩, Hk⟩
  obtain rfl := harg1.eq_unread hf1; obtain rfl := harg2.eq_unread hf2; obtain rfl := harg5.eq_unread hf5
  sl_exec (disch := sl_exact h1)
  refine BIBase.Entails.trans ?_ ((?hrest : Keeps (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare (dyrOf x1 x2))) _) E K)
  case hrest =>
    repeat' (first
        | with_reducible exact Keeps.ret _
        | with_reducible exact Keeps.load inferInstance
        | with_reducible exact Keeps.store inferInstance
        | (with_reducible refine Keeps.bind ?_ fun _ => ?_)
        | (with_reducible refine Keeps.dite_neg h4 ?_)
        | (with_reducible refine Keeps.dite (fun _ => ?_) fun _ => ?_)
        | (refine Keeps.bind ?_ fun _ => ?_))
  iintro ⟨⟨⟨⟨⟨⟨⟨⟨⟨⟨⟨⟨⟨⟨⟨⟨H1, H2⟩, H3⟩, H4⟩, H5⟩, H6⟩, H7⟩, H8⟩, H9⟩, H10⟩, H11⟩, H12⟩, H13⟩, H14⟩, H15⟩, H16⟩, Hk⟩
  isplitr [Hk]; swap; · iexact Hk
  unfold Inv owns
  isplitl [H1]
  · iexists _; isplitr; · ipureintro; exact harg1.read_unread _
    iexact H1
  isplitl [H2]
  · iexists _; isplitr; · ipureintro; exact harg2.read_unread _
    iexact H2
  isplitl [H3]
  · iexact H3
  isplitl [H4]
  · iexact H4
  isplitl [H5]
  · iexists _; isplitr; · ipureintro; exact harg5.read_unread _
    iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _, _; isplitr; swap; · iexact H12
    ipureintro; rfl
  isplitl [H13]
  · iexists _; isplitr; swap; · iexact H13
    ipureintro
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1) hz2, View.ld_unit_zero (S := S1024x512) hz2, View.ld_unit_zero (S := S1024x2048) hz2]
    exact View.read_writes_eq_canon _ _ _ (dyr_cover x1 x2)
  isplitl [H14]
  · iexact H14
  isplitl [H15]
  · iexists _, _; isplitr; swap; · iexact H15
    ipureintro; rfl
  iexact H16

set_option maxHeartbeats 4000000 in
/-- The run at a later point before point 11: nothing of what is kept changes. -/
theorem runs_mid (X11 : Vec F S512x2048 .bf16) (X13 : Vec F S1024x2048 .bf16) (h1 : ¬Scalar.cmpi .ne (Scalar.extui (Scalar.cmpi .eq (BitVec.ofNat 32 (i 0).val) 0#32) : BitVec 32) 0#32 = 1#1) (h4 : ¬k0_cond4 i = 1#1) :
    Runs (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13)) (cc0_swiglu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13)) := by
  rw [cc0_swiglu_bwd_eq_skeleton]; unfold cc0_swiglu_bwd_skel
  refine Keeps.dite_neg h1 ?_
  repeat' (first
    | with_reducible exact Keeps.ret _
    | with_reducible exact Keeps.load inferInstance
    | with_reducible exact Keeps.store inferInstance
    | (with_reducible refine Keeps.bind ?_ fun _ => ?_)
    | (with_reducible refine Keeps.dite_neg h4 ?_)
    | (with_reducible refine Keeps.dite (fun _ => ?_) fun _ => ?_)
    | (refine Keeps.bind ?_ fun _ => ?_))

set_option maxHeartbeats 4000000 in
/-- The run at a point from point 11 on: the `dw_out` block is stored. -/
theorem runs_last (X11 : Vec F S512x2048 .bf16) (X13 : Vec F S1024x2048 .bf16) (h1 : ¬Scalar.cmpi .ne (Scalar.extui (Scalar.cmpi .eq (BitVec.ofNat 32 (i 0).val) 0#32) : BitVec 32) 0#32 = 1#1) (h4 : k0_cond4 i = 1#1) (hx : k0_cond4 i = 1#1 → ¬k0_cond2 i = 1#1) :
    Runs (defs₀ (F := F)) c (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13)) (cc0_swiglu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (Inv c arg1 arg2 arg3 arg4 arg5 arg6 arg7 arg8 arg9 arg10 arg11 arg12 arg13 arg14 arg15 arg16 x1 x2 x3 x4 x5 x6 x7 x8 (owns (c : Thread nD τ) arg11 fullShare (k0_pay242 x8 x4 X13)) (owns (c : Thread nD τ) arg13 fullShare X13)) := by
  rw [cc0_swiglu_bwd_eq_skeleton]; unfold cc0_swiglu_bwd_skel
  have h2 : ¬k0_cond2 i = 1#1 := fun h2 => absurd h2 (hx h4)
  refine Runs.dite_neg h1 (Runs.dite_neg h2 (Runs.dite (fun h3 => Runs.bind (Q := (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13))) ?_ fun _ =>
    Runs.bind (Q := (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13))) ?_ fun _ => Runs.bind (Q := (Inv c arg1 arg2 arg3 arg4 arg5 arg6 arg7 arg8 arg9 arg10 arg11 arg12 arg13 arg14 arg15 arg16 x1 x2 x3 x4 x5 x6 x7 x8 (owns (c : Thread nD τ) arg11 fullShare X11) (owns (c : Thread nD τ) arg13 fullShare X13))) ?_ fun _ => Runs.dite_pos h4 ?_) (fun h3 => Runs.dite_pos h4 ?_)))
  · show Keeps _ _ _ _
    repeat' (first
    | with_reducible exact Keeps.ret _
    | with_reducible exact Keeps.load inferInstance
    | with_reducible exact Keeps.store inferInstance
    | (with_reducible refine Keeps.bind ?_ fun _ => ?_)
    | (refine Keeps.bind ?_ fun _ => ?_))
  · exact Keeps.load inferInstance
  · exact Keeps.store inferInstance
  all_goals
    refine Runs.bind (Q := (Inv c arg1 arg2 arg3 arg4 arg5 arg6 arg7 arg8 arg9 arg10 arg11 arg12 arg13 arg14 arg15 arg16 x1 x2 x3 x4 x5 x6 x7 x8 (owns (c : Thread nD τ) arg11 fullShare (k0_pay242 x8 x4 X13)) (owns (c : Thread nD τ) arg13 fullShare X13))) ?_ fun _ => ?_
    · rw [k0_part134_eq_skeleton]; unfold k0_part134_skel
      refine Runs.bind (runs59 i arg1 arg2 arg3 arg4 arg5 arg6 arg7 arg8 arg9 arg10 arg11 arg12 arg13 arg14 arg15 arg16 harg1 harg2 harg3 harg4 harg5 harg6 harg7 harg8 harg9 harg10 harg11 harg12 harg13 harg14 harg15 harg16 (X11 := X11) (X13 := X13) (a0 := _) (h := h4)) fun _ => ?_
      show Keeps _ _ _ _
      repeat' (first
      | with_reducible exact Keeps.ret _
      | with_reducible exact Keeps.load inferInstance
      | with_reducible exact Keeps.store inferInstance
      | (with_reducible refine Keeps.bind ?_ fun _ => ?_)
      | (refine Keeps.bind ?_ fun _ => ?_))
    · show Keeps _ _ _ _
      repeat' (first
      | with_reducible exact Keeps.ret _
      | with_reducible exact Keeps.load inferInstance
      | with_reducible exact Keeps.store inferInstance
      | (with_reducible refine Keeps.bind ?_ fun _ => ?_)
      | (refine Keeps.bind ?_ fun _ => ?_))

end

end Cert.KernelAIdeal.Hand

end
-- ==== Proof.AKI.Frame.lean ====
/- The frame of `swiglu_bwd`: what every point leaves, the body at every point, the run. -/
module

public import proofs.«01_k».proof.Proof.AKI.Run
public import Idealize.ShloMosaic.Lib.Claim

@[expose] public section

set_option maxRecDepth 16384

noncomputable section

namespace Cert.KernelAIdeal.Hand

open Cert.KernelAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The first point. -/
def p0 : Fin cfg0.N := ⟨0, by rw [show cfg0.N = 22 from N_0]; decide⟩

/-- The dequantised incoming gradient, as the first point leaves it. -/
def dyrAt (c : Dev nD) : Vec F S1024x2048 .bf16 := dyrOf (iblk m c 0 p0) (iblk m c 1 p0)

/-- The `dw_out` block of point `t`. -/
def dwoAt (c : Dev nD) (t : Fin cfg0.N) : Vec F S512x2048 .bf16 := k0_pay242 (iblk m c 7 t) (iblk m c 3 t) (dyrAt m c)

/-! ## The region's invariant and the pipeline's proof data -/

/-- The buffers of the kernel's own, the second at `B`, the others at anything. -/
def Scr (c : Dev nD) (B : sProp 𝕄) : sProp 𝕄 :=
  iprop((∃ d, owns (c : Thread nD τ) scM0_0 fullShare d) ∗ B ∗ (∃ d, owns (c : Thread nD τ) scM0_2 fullShare d) ∗ (∃ d, owns (c : Thread nD τ) scM0_3 fullShare d) ∗ (∃ d, owns (c : Thread nD τ) scM0_4 fullShare d))

/-- The region's invariant before position `n`: before the first point every scratch buffer at anything, afterwards the dequantised
    gradient in the second scratch buffer; the generator register at some state. -/
def PhiS (c : Dev nD) : (n : ℕ) → n ≤ cfg0.N → sProp 𝕄
  | 0, _ => Pipeline.ΦA spec0 c
  | n + 1, hn => iprop(Scr c (owns (c : Thread nD τ) scM0_1 fullShare (dyrAt m c)) ∗ (∃ r, prngReg c r))

theorem PhiS_zero (c : Dev nD) (n : ℕ) (h : n ≤ cfg0.N) (hz : n = 0) :
    PhiS m c n h = iprop(Scr c iprop(∃ d, owns (c : Thread nD τ) scM0_1 fullShare d) ∗ (∃ r, prngReg c r)) := by
  subst hz; exact PhiA0_eq c

theorem PhiS_pos (c : Dev nD) (n : ℕ) (h : n ≤ cfg0.N) (hz : n ≠ 0) :
    PhiS m c n h = iprop(Scr c (owns (c : Thread nD τ) scM0_1 fullShare (dyrAt m c)) ∗ (∃ r, prngReg c r)) := by
  cases n with
  | zero => exact absurd rfl hz
  | succ n => rfl

/-- The windows of whose contents nothing is said: the codes and the scales of the incoming gradient of the preactivations. -/
def fgt (w : Fin cfg0.W) : Bool := match w with
  | ⟨8, _⟩ => true
  | ⟨9, _⟩ => true
  | _ => false

/-- The proof data: the arrays as the region finds them; after a point each input's buffer at its block and the `dw_out` buffer at
    the value above; nothing owed; full shares. The two forgotten windows carry a placeholder. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dwoAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_10 (c : Dev nD) (t : Fin cfg0.N) : (dats m 0 c).after 10 t = dwoAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- The buffers the body is handed and hands back: the inputs' at their blocks, the forgotten ones at anything, `dw_out`'s at `A`. -/
def Bufs (c : Dev nD) (t : Fin cfg0.N) (A : sProp 𝕄) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ X, owns (c : Thread nD τ) (ms0_8 t) fullShare X) ∗ (∃ X, owns (c : Thread nD τ) (ms0_9 t) fullShare X) ∗ A)

/-- A run of the body between two contents of the `dw_out` buffer and of the second scratch buffer, framed by the rest of what the
    body is handed. -/
theorem sound_of (c : Dev nD) (t : Fin cfg0.N) (A A' B B' G O : sProp 𝕄)
    (h : Runs (defs₀ (F := F)) c (Inv c (ms0_0 t) (ms0_1 t) (ms0_2 t) (ms0_3 t) (ms0_4 t) (ms0_5 t) (ms0_6 t) (ms0_7 t) (ms0_8 t) (ms0_9 t) (ms0_10 t) scM0_0 scM0_1 scM0_2 scM0_3 scM0_4 (iblk m c 0 t) (iblk m c 1 t) (iblk m c 2 t) (iblk m c 3 t) (iblk m c 4 t) (iblk m c 5 t) (iblk m c 6 t) (iblk m c 7 t) A B) (bodyAt0 t) (Inv c (ms0_0 t) (ms0_1 t) (ms0_2 t) (ms0_3 t) (ms0_4 t) (ms0_5 t) (ms0_6 t) (ms0_7 t) (ms0_8 t) (ms0_9 t) (ms0_10 t) scM0_0 scM0_1 scM0_2 scM0_3 scM0_4 (iblk m c 0 t) (iblk m c 1 t) (iblk m c 2 t) (iblk m c 3 t) (iblk m c 4 t) (iblk m c 5 t) (iblk m c 6 t) (iblk m c 7 t) A' B')) :
    iprop((Scr c B ∗ G) ∗ O ∗ Bufs m c t A)
      ⊢ wp frame (wpE (defs₀ (F := F)) Variants.none c none) Set.univ (bodyAt0 t) (fun _ => iprop((Scr c B' ∗ G) ∗ O ∗ Bufs m c t A')) := by
  refine BIBase.Entails.trans ?_ (h Set.univ _)
  unfold Scr Bufs Inv
  iintro ⟨⟨⟨S0, S1, S2, S3, S4⟩, HG⟩, HO, H0, H1, H2, H3, H4, H5, H6, H7, H8, H9, H10⟩
  isplitr [HG HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    iexact S4
  iintro %a ⟨H0, H1, H2, H3, H4, H5, H6, H7, H8, H9, H10, S0, S1, S2, S3, S4⟩
  isplitl [S0 S1 S2 S3 S4 HG]
  · isplitr [HG]; swap; · iexact HG
    isplitl [S0]; · iexact S0
    isplitl [S1]; · iexact S1
    isplitl [S2]; · iexact S2
    isplitl [S3]; · iexact S3
    iexact S4
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ X, owns (c : Thread nD τ) (ms0_8 t) fullShare X)
    ∗ (∃ X, owns (c : Thread nD τ) (ms0_9 t) fullShare X)
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ X, owns (c : Thread nD τ) (ms0_8 t) fullShare X)
    ∗ (∃ X, owns (c : Thread nD τ) (ms0_9 t) fullShare X)
    ∗ (dats m 0 c).leavesExact 10 t)

/-- What the body is called with, the inputs' blocks named. -/
theorem bodyPre_le (c : Dev nD) (t : Fin cfg0.N) :
    bodyPre m c t ⊢ iprop((dats m 0 c).Φ t.castSucc ∗ (dats m 0 c).owesAt () t.castSucc ∗ Bufs m c t iprop(∃ d, owns (c : Thread nD τ) (ms0_10 t) fullShare ((dats m 0 c).before 10 t d))) := by
  unfold bodyPre Bufs
  simp only [before0_0, before0_1, before0_2, before0_3, before0_4, before0_5, before0_6, before0_7]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What it returns, the inputs' blocks named. -/
theorem bodyPost_eq (c : Dev nD) (t : Fin cfg0.N) :
    bodyPost m c t = iprop((dats m 0 c).Φ t.succ ∗ (dats m 0 c).owesAt () t.succ ∗ Bufs m c t ((dats m 0 c).leavesExact 10 t)) := by
  unfold bodyPost Bufs
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]

/-- The invariant after point `t`. -/
theorem PhiS_next (c : Dev nD) (t : Fin cfg0.N) :
    (dats m 0 c).Φ t.succ = iprop(Scr c (owns (c : Thread nD τ) scM0_1 fullShare (dyrAt m c)) ∗ (∃ r, prngReg c r)) := rfl

/-- The `dw_out` buffer before point 11, handed back as it was. -/
theorem leaves_early (c : Dev nD) (t : Fin cfg0.N) (ht : ¬11 ≤ t.val) :
    (dats m 0 c).leavesExact 10 t = iprop(∃ d, owns (c : Thread nD τ) (ms0_10 t) fullShare ((dats m 0 c).before 10 t d)) :=
  Dat.leavesExact_idle (dats m 0 c) 10 t (idleAt0_10 t ht) (noFlush0_10 t ht)

/-- The `dw_out` buffer from point 11 on. -/
theorem leaves_late (c : Dev nD) (t : Fin cfg0.N) (ht : 11 ≤ t.val) :
    (dats m 0 c).leavesExact 10 t = owns (c : Thread nD τ) (ms0_10 t) fullShare (dwoAt m c t) := by
  unfold Dat.leavesExact; rw [liveAt0_10 t ht]; dsimp only; rw [after0_10]

/-- A resource at some contents runs to a post when each of its contents does. -/
theorem sound_ex (c : Dev nD) (t : Fin cfg0.N) {ι : Type} (A : ι → sProp 𝕄) (P O Q : sProp 𝕄)
    (h : ∀ d, iprop(P ∗ O ∗ Bufs m c t (A d)) ⊢ wp frame (wpE (defs₀ (F := F)) Variants.none c none) Set.univ (bodyAt0 t) (fun _ => Q)) :
    iprop(P ∗ O ∗ Bufs m c t iprop(∃ d, A d)) ⊢ wp frame (wpE (defs₀ (F := F)) Variants.none c none) Set.univ (bodyAt0 t) (fun _ => Q) := by
  unfold Bufs at h ⊢
  iintro ⟨HP, HO, H0, H1, H2, H3, H4, H5, H6, H7, H8, H9, ⟨%d, H10⟩⟩
  iapply (h d)
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The buffers at one contents of the `dw_out` buffer are the buffers at some contents. -/
theorem Bufs_ex (c : Dev nD) (t : Fin cfg0.N) {ι : Type} (A : ι → sProp 𝕄) (P O : sProp 𝕄) (d : ι) :
    iprop(P ∗ O ∗ Bufs m c t (A d)) ⊢ iprop(P ∗ O ∗ Bufs m c t iprop(∃ d, A d)) := by
  unfold Bufs
  iintro ⟨HP, HO, H0, H1, H2, H3, H4, H5, H6, H7, H8, H9, H10⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d; iexact H10

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  refine (bodyPre_le m c t).trans ?_
  rw [show (fun _ : PUnit => bodyPost m c t) = fun _ => _ from funext fun _ => bodyPost_eq m c t, PhiS_next,
    show (dats m 0 c).owesAt () t.succ = (dats m 0 c).owesAt () t.castSucc from rfl, PhiS_castSucc]
  refine sound_ex m c t _ _ _ _ fun d => ?_
  by_cases ht : 11 ≤ t.val
  · rw [leaves_late m c t ht, PhiS_pos m c _ _ (by omega)]
    exact sound_of m c t _ _ _ _ _ _ (runs_last (grid0.coords t) _ _ _ _ _ _ _ _ _ _ _ _ _ _ _ _ _ _ _ _ _ _ _ _ _ _ _ _ _ _ _ _ _ _
      (fun h => absurd ((hcond0_0 t).mp h) (by omega)) ((hcond0_3 t).mpr ht) fun _ h => absurd ((hcond0_1 t).mp h) (by omega))
  · rw [leaves_early m c t ht]
    refine BIBase.Entails.trans ?_ (wp_mono _ _ _ fun _ => Bufs_ex m c t _ _ _ d)
    by_cases h0 : t.val = 0
    · rw [PhiS_zero m c _ _ h0, show dyrAt m c = dyrOf (iblk m c 0 t) (iblk m c 1 t) from by rw [show t = p0 from Fin.ext h0]; rfl]
      exact sound_of m c t _ _ _ _ _ _ (runs_first (grid0.coords t) _ _ _ _ _ _ _ _ _ _ _ _ _ _ _ _ _ _ _ _ _ _ _ _ _ _ _ _ _ _ _ _ _
        ((hcond0_0 t).mpr h0) fun h => ht ((hcond0_3 t).mp h))
    · rw [PhiS_pos m c _ _ h0]
      exact sound_of m c t _ _ _ _ _ _ (runs_mid (grid0.coords t) _ _ _ _ _ _ _ _ _ _ _ _ _ _ _ _ _ _ _ _ _ _ _ _ _ _ _ _ _ _ _ _ _ _
        (fun h => h0 ((hcond0_0 t).mp h)) fun h => ht ((hcond0_3 t).mp h))

theorem defs₀_row (t : Fin cfg0.N) :
    defs₀ (F := F) .tc cfg0.body (cfg0.bodyArgs t (cfg0.slots t)) = bodyAt0 t := by
  unfold defs₀; rw [Defs.onTc_tc]

/-- The library's body obligation, at every point, two windows forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- The invariant after the last point gives it back, the scratch's named contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 22 := N_0; omega), PhiA0_eq]
  unfold Scr
  iintro ⟨⟨S0, S1, S2, S3, S4⟩, HG⟩
  isplitr [HG]; swap; · iexact HG
  isplitl [S0]; · iexact S0
  isplitl [S1]; · iexists _; iexact S1
  isplitl [S2]; · iexact S2
  isplitl [S3]; · iexact S3
  iexact S4

/-! ## The run and the frame -/

/-- What the run ends with: every array at contents it may hold, the two forgotten ones at anything. -/
abbrev Post (r : PUnit × MemSt nD τ sig (Elt F)) : Prop := Pipeline.RDat.FramePost cfg0 (fun c => (dats m 0 c).toRForget fgt) (V m) r

set_option backward.isDefEq.respectTransparency.types false in
/-- The launch, with every semaphore counter at zero at every final state. -/
theorem run_main_quiescent : θ_run defs (onTc (τ := τ) (main (F := F))) (s₀ m ρ) (fun r => Post m r ∧ r.2.sem = fun _ => 0) :=
  Pipeline.θ_run_frame_track_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Post m) :=
  (θ_run defs _ _).mono (fun _ h => h.1) (run_main_quiescent m ρ)

/-- The argument arrays at a final state. -/
theorem args_of (r : PUnit × MemSt nD τ sig (Elt F)) (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 5 rfl).trans ((A_eq m c 5).trans (V_main_arg6 m c)),
    ((h c).2 main_arg7 (Pipeline.mem_restRefs_of main_arg7 (by decide) (by decide))).trans (V_main_arg7 m c)⟩

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_of m r h c) (run_main m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelAIdeal.Hand

end
-- ==== Proof.V.RefA.lean ====
/- What `swiglu_bwd` computes for `w_out`, as a plain sum over the extended reals, and the reference's array as that sum. -/
module

public import proofs.«01_k».proof.Proof.Gen.ReferenceAIdeal.Value
public import Idealize.ShloMosaic.Lib.Pipeline.ValueKit

@[expose] public section

set_option maxRecDepth 16384

noncomputable section

open Idealize.ShloMosaic Idealize.ShloMosaic.TcCoe Idealize.SL.Sem

namespace Cert.Math

open Cert.ReferenceAIdeal

/-- `dw_out` at (hidden column, channel): the tokens' dequantised hidden activations against their dequantised gradients. -/
def dwOut (G : FVec Ideal S1024x5632 .fp8e4m3) (gs : FVec Ideal S1024x1 .f32) (Y : FVec Ideal S1024x2048 .fp8e5m2)
    (ys : FVec Ideal S1024x1 .f32) (f : Fin 5632) (d : Fin 2048) : EReal :=
  ∑ t : Fin 1024, G (ix2 t f) * gs (ix2 t 0) * (Y (ix2 t d) * ys (ix2 t 0))

end Cert.Math

namespace Cert.ReferenceAIdeal.Hand

open Cert.ReferenceAIdeal.Gen Cert.ReferenceAIdeal
open Idealize.ShloMosaic.Pipeline (Dat)

variable (m : (ℓ : Loc nD τ sig) → Buf (Elt Ideal) ℓ)

/-- The one grid point's index of every window is zero. -/
theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

/-- Every block is its whole array. -/
theorem blk_0 (c : Dev nD) (t : Fin cfg0.N) : iblk m c 0 t = V m c main_v0 := by
  funext y; blk_ext [iblk, idx t]
theorem blk_1 (c : Dev nD) (t : Fin cfg0.N) : iblk m c 1 t = V m c main_v1 := by
  funext y; blk_ext [iblk, idx t]
theorem blk_2 (c : Dev nD) (t : Fin cfg0.N) : iblk m c 2 t = V m c main_v2 := by
  funext y; blk_ext [iblk, idx t]
theorem blk_3 (c : Dev nD) (t : Fin cfg0.N) : iblk m c 3 t = V m c main_v3 := by
  funext y; blk_ext [iblk, idx t]

/-- The stored `dw_out` is the plain sum. -/
theorem pay (G gs Y ys) (i) : k0_pay1 (F := Ideal) G gs Y ys i = Cert.Math.dwOut G gs Y ys (i 0) (i 1) := by
  pointwise [k0_pay1, Cert.Math.dwOut]

/-- The array `dw_out` after the run. -/
theorem final (c : Dev nD) : (dats m 0 c).arrAt 4 cfg0.N = fun i => Cert.Math.dwOut (V m c main_v2) (V m c main_v3) (V m c main_v0) (V m c main_v1) (i 0) (i 1) := by
  refine (dats m 0 c).arrAt_eq_of_after_last 4 t0_0 (by decide +kernel) _ fun j => ?_
  blk_simp
  rw [after0_4]; frame_out
  simp only [blk_0, blk_1, blk_2, blk_3]
  exact pay ..

end Cert.ReferenceAIdeal.Hand

end
-- ==== Proof.V.KerA.lean ====
/- The array `dw_out` of `swiglu_bwd`, as a plain sum over its operands. -/
module

public import proofs.«01_k».proof.Proof.AKI.Frame
public import proofs.«01_k».proof.Proof.V.RefA

@[expose] public section

set_option maxRecDepth 16384

noncomputable section

open Idealize.ShloMosaic Idealize.ShloMosaic.TcCoe Idealize.SL.Sem

namespace Cert.KernelAIdeal.Hand

open Cert.KernelAIdeal.Gen Cert.KernelAIdeal
open Idealize.ShloMosaic.Pipeline (Dat)

/-! ## The body's values at an index -/

/-- The dequantised gradient, at (token, channel): code times scale. -/
theorem dyrOf_at (x0 : Vec Ideal S1024x2048 .fp8e5m2) (x1 : Vec Ideal S1024x1 .f32) (y : S1024x2048.Idx) :
    dyrOf (F := Ideal) x0 x1 y = x0 (ix2 (y 0) (y 1)) * x1 (ix2 (y 0) 0) := by
  unfold dyrOf dyrPieces
  canon_tiles x h
  all_goals
    pointwise [k0_pay1, k0_pay6, k0_pay8, k0_pay9, k0_pay11, k0_pay12, k0_pay13, k0_pay15, k0_pay16, k0_pay18]
    blk_point []

/-- The `dw_out` block, at (hidden column, channel). -/
theorem dwo_at (x7 : Vec Ideal S1024x512 .fp8e4m3) (x3 : Vec Ideal S1024x1 .f32) (dyr : Vec Ideal S1024x2048 .bf16) (y : S512x2048.Idx) :
    k0_pay242 (F := Ideal) x7 x3 dyr y = ∑ t : Fin 1024, x7 (ix2 t (y 0)) * x3 (ix2 t 0) * dyr (ix2 t (y 1)) := by
  pointwise [k0_pay242]

/-! ## The windows' blocks -/

variable (m : (ℓ : Loc nD τ sig) → Buf (Elt Ideal) ℓ)

/-- The block index, at every point, of the windows `dw_out` is computed from and of its own. -/
theorem idx : ∀ t : Fin cfg0.N, win0_0.index t = ![0, 0] ∧ win0_1.index t = ![0, 0] ∧ win0_3.index t = ![0, 0]
    ∧ win0_7.index t = ![0, win0_10.index t 0] ∧ win0_10.index t 1 = 0 ∧ win0_10.index t 0 = t.val - 11 :=
  (by decide +kernel : ∀ t : Fin grid0.N, _)

/-- The gradient codes. -/
abbrev aY (c : Dev nD) : FVec Ideal S1024x2048 .fp8e5m2 := V m c main_v5
/-- Their scales. -/
abbrev aYs (c : Dev nD) : FVec Ideal S1024x1 .f32 := V m c main_v2
/-- The codes of the hidden activations. -/
abbrev aG (c : Dev nD) : FVec Ideal S1024x5632 .fp8e4m3 := V m c main_v6
/-- Their scales. -/
abbrev aGs (c : Dev nD) : FVec Ideal S1024x1 .f32 := V m c main_v4

theorem blk_0 (c : Dev nD) (t : Fin cfg0.N) : iblk m c 0 t = aY m c := by
  funext y; blk_ext [iblk, idx t]
theorem blk_1 (c : Dev nD) (t : Fin cfg0.N) : iblk m c 1 t = aYs m c := by
  funext y; blk_ext [iblk, idx t]
theorem blk_3 (c : Dev nD) (t : Fin cfg0.N) : iblk m c 3 t = aGs m c := by
  funext y; blk_ext [iblk, idx t]

/-- The hidden column that lane `k` of point `t` is. -/
def colG (t : Fin cfg0.N) (k : Fin 512) : Fin 5632 := ⟨(t.val - 11) * 512 + k.val, by
  have := k.isLt; have := t.isLt; have hN : cfg0.N = 22 := N_0; omega⟩

/-- The block of the hidden activations' codes at point `t`. -/
def bG (c : Dev nD) (t : Fin cfg0.N) : FVec Ideal S1024x512 .fp8e4m3 := fun i => aG m c (ix2 (i 0) (colG t (i 1)))

theorem blk_7 (c : Dev nD) (t : Fin cfg0.N) : iblk m c 7 t = bG m c t := by
  funext y; unfold bG; blk_ext [iblk, idx t, colG]

/-- The dequantised gradient at (token, channel). -/
theorem dyrAt_eq (c : Dev nD) : dyrAt m c = fun y => aY m c (ix2 (y 0) (y 1)) * aYs m c (ix2 (y 0) 0) := by
  funext y; unfold dyrAt; rw [dyrOf_at, blk_0, blk_1]

/-- The `dw_out` block of point `t`, at the place `i` of the array where its index `y` sits. -/
theorem dwoAt_at (c : Dev nD) (t : Fin cfg0.N) (y : S512x2048.Idx) (i : S5632x2048.Idx) (h0 : (i 0).val = (t.val - 11) * 512 + (y 0).val)
    (h1 : (i 1).val = (y 1).val) :
    dwoAt m c t y = Cert.Math.dwOut (aG m c) (aGs m c) (aY m c) (aYs m c) (i 0) (i 1) := by
  have e0 : i 0 = colG t (y 0) := Fin.ext h0
  have e1 : i 1 = y 1 := Fin.ext h1
  rw [e0, e1]
  unfold dwoAt Cert.Math.dwOut
  rw [dwo_at, dyrAt_eq, blk_3, blk_7]
  rfl

/-- The array `dw_out` after the run. -/
theorem final_10 (c : Dev nD) : (dats m 0 c).arrAt 10 cfg0.N = fun i => Cert.Math.dwOut (aG m c) (aGs m c) (aY m c) (aYs m c) (i 0) (i 1) := by
  refine (dats m 0 c).arrAt_eq_of_covers 10 _ (by decide +kernel) fun t hf y => ?_
  blk_simp
  rw [after0_10]
  refine dwoAt_at m c t _ _ ?_ ?_
  · blk_simp [idx t]
  · blk_simp [idx t]

end Cert.KernelAIdeal.Hand

end
-- ==== Proof.V.TieA.lean ====
/- The claim about `swiglu_bwd`: kernel and reference end with equal `dw_out`. -/
module

public import proofs.«01_k».proof.Proof.V.KerA
public import proofs.«01_k».proof.Defs

@[expose] public section

set_option maxRecDepth 16384

noncomputable section

open Idealize.ShloMosaic Idealize.ShloMosaic.TcCoe Idealize.SL.Sem

namespace Cert.KernelAIdeal.Hand

open Cert.KernelAIdeal Cert.KernelAIdeal.Gen
variable (m : (ℓ : Loc nD τ sig) → Buf (Elt Ideal) ℓ) (ρ : Dev nD → PrngReg)

/-- The run of the ideal kernel with `dw_out` named, and its arguments unchanged. -/
theorem run_results : θ_run defs (onTc (τ := τ) (main (F := Ideal))) ⟨m, fun _ => 0, ρ⟩ (fun r => ∀ c : Dev nD,
      r.2.mem ((c.tc : Thread nD τ).loc main_v8_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((dats m 0 c).toRForget_arrAt_iff (fgt := fgt) rfl _ _).mp ((h c).1 10), args_of m r h c⟩) (run_main m ρ)

end Cert.KernelAIdeal.Hand

namespace Cert.TieA

variable (m : (ℓ : Loc Cert.KernelAIdeal.nD Cert.KernelAIdeal.τ Cert.KernelAIdeal.sig) → Buf (Elt Ideal) ℓ)
  (m' : (ℓ : Loc Cert.ReferenceAIdeal.nD Cert.ReferenceAIdeal.τ Cert.ReferenceAIdeal.sig) → Buf (Elt Ideal) ℓ) (c : Dev Cert.KernelAIdeal.nD)

/-- The two programs' argument arrays agree on device `c`. -/
abbrev Agree : Prop :=
  m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
    ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
    ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
    ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
    ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)
    ∧ m' ((c.tc : Thread Cert.ReferenceAIdeal.nD Cert.ReferenceAIdeal.τ).loc Cert.ReferenceAIdeal.main_arg5) = m ((c.tc : Thread Cert.KernelAIdeal.nD Cert.KernelAIdeal.τ).loc Cert.KernelAIdeal.main_arg5)
    ∧ m' ((c.tc : Thread Cert.ReferenceAIdeal.nD Cert.ReferenceAIdeal.τ).loc Cert.ReferenceAIdeal.main_arg6) = m ((c.tc : Thread Cert.KernelAIdeal.nD Cert.KernelAIdeal.τ).loc Cert.KernelAIdeal.main_arg6)
    ∧ m' ((c.tc : Thread Cert.ReferenceAIdeal.nD Cert.ReferenceAIdeal.τ).loc Cert.ReferenceAIdeal.main_arg7) = m ((c.tc : Thread Cert.KernelAIdeal.nD Cert.KernelAIdeal.τ).loc Cert.KernelAIdeal.main_arg7)

variable (h : Agree m m' c)
include h

/-- Operand from argument 0. -/
theorem eY : (Cert.ReferenceAIdeal.Gen.V m' c Cert.ReferenceAIdeal.main_v0 : FVec Ideal Cert.ReferenceAIdeal.S1024x2048 .fp8e5m2) = Cert.KernelAIdeal.Hand.aY m c := by
  have e := h.1
  show (Cert.ReferenceAIdeal.Gen.V m' c Cert.ReferenceAIdeal.main_v0 : FVec Ideal Cert.ReferenceAIdeal.S1024x2048 .fp8e5m2) = (Cert.KernelAIdeal.Gen.V m c Cert.KernelAIdeal.main_v5 : FVec Ideal Cert.KernelAIdeal.S1024x2048 .fp8e5m2)
  entry_read
  rw [e]
  rfl
/-- Operand from argument 1. -/
theorem eYs : (Cert.ReferenceAIdeal.Gen.V m' c Cert.ReferenceAIdeal.main_v1 : FVec Ideal Cert.ReferenceAIdeal.S1024x1 .f32) = Cert.KernelAIdeal.Hand.aYs m c := by
  have e := h.2.1
  show (Cert.ReferenceAIdeal.Gen.V m' c Cert.ReferenceAIdeal.main_v1 : FVec Ideal Cert.ReferenceAIdeal.S1024x1 .f32) = (Cert.KernelAIdeal.Gen.V m c Cert.KernelAIdeal.main_v2 : FVec Ideal Cert.KernelAIdeal.S1024x1 .f32)
  entry_read
  rw [e]
  rfl
/-- Operand from argument 4. -/
theorem eG : (Cert.ReferenceAIdeal.Gen.V m' c Cert.ReferenceAIdeal.main_v2 : FVec Ideal Cert.ReferenceAIdeal.S1024x5632 .fp8e4m3) = Cert.KernelAIdeal.Hand.aG m c := by
  have e := h.2.2.2.2.1
  show (Cert.ReferenceAIdeal.Gen.V m' c Cert.ReferenceAIdeal.main_v2 : FVec Ideal Cert.ReferenceAIdeal.S1024x5632 .fp8e4m3) = (Cert.KernelAIdeal.Gen.V m c Cert.KernelAIdeal.main_v6 : FVec Ideal Cert.KernelAIdeal.S1024x5632 .fp8e4m3)
  entry_read
  rw [e]
  rfl
/-- Operand from argument 5. -/
theorem eGs : (Cert.ReferenceAIdeal.Gen.V m' c Cert.ReferenceAIdeal.main_v3 : FVec Ideal Cert.ReferenceAIdeal.S1024x1 .f32) = Cert.KernelAIdeal.Hand.aGs m c := by
  have e := h.2.2.2.2.2.1
  show (Cert.ReferenceAIdeal.Gen.V m' c Cert.ReferenceAIdeal.main_v3 : FVec Ideal Cert.ReferenceAIdeal.S1024x1 .f32) = (Cert.KernelAIdeal.Gen.V m c Cert.KernelAIdeal.main_v4 : FVec Ideal Cert.KernelAIdeal.S1024x1 .f32)
  entry_read
  rw [e]
  rfl

/-- The kernel's `dw_out` is the reference's. -/
theorem tie : (Cert.ReferenceAIdeal.Gen.dats m' 0 c).arrAt 4 Cert.ReferenceAIdeal.cfg0.N = (Cert.KernelAIdeal.Hand.dats m 0 c).arrAt 10 Cert.KernelAIdeal.cfg0.N := by
  refine (Cert.ReferenceAIdeal.Hand.final m' c).trans (Eq.trans ?_ (Cert.KernelAIdeal.Hand.final_10 m c).symm)
  rw [eY m m' c h, eYs m m' c h, eG m m' c h, eGs m m' c h]
  rfl

end Cert.TieA

namespace Cert.TieA

/-- The two programs agree on all of `dw_out`. -/
theorem algebraic : Cert.algebraic_KernelAIdeal_ReferenceAIdeal := by
  intro m g m' g' _ hagree
  refine ⟨fun c => (Cert.KernelAIdeal.Hand.dats m 0 c).arrAt 10 Cert.KernelAIdeal.cfg0.N, Cert.KernelAIdeal.Hand.run_results m g, ?_⟩
  exact (θ_run Cert.ReferenceAIdeal.defs _ _).mono (fun r h c => ⟨(h c).1.trans (tie m m' c (hagree c)), (h c).2⟩) (Cert.ReferenceAIdeal.Value.run_blocks m' g')

end Cert.TieA

end
-- ==== Proof.lean ====
module

public import proofs.«01_k».proof.Defs
public import proofs.«01_k».proof.Proof.Gen.KernelC.Frame
public import proofs.«01_k».proof.Proof.K.Frame
public import proofs.«01_k».proof.Proof.KI.Frame
public import proofs.«01_k».proof.Proof.V.Vals
public import proofs.«01_k».proof.Proof.V.Tie
public import proofs.«01_k».proof.Proof.V.TieC
public import proofs.«01_k».proof.Proof.AK.Frame
public import proofs.«01_k».proof.Proof.V.TieA
public import proofs.«01_k».proof.Proof.Gen.On_proper_rows
public import proofs.«01_k».proof.Proof.Gen.Pre_proper_scales

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelC.Gen.facts, Cert.KernelCIdeal.Gen.facts, Cert.ReferenceCIdeal.Gen.facts, Cert.KernelA.Gen.facts, Cert.KernelAIdeal.Gen.facts, Cert.ReferenceAIdeal.Gen.facts,
  Cert.Pre_proper_scales.Gen.facts, Cert.On_proper_rows.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ,
  fun m ρ _ => Cert.KernelC.Gen.frame m ρ, fun m ρ _ => Cert.KernelCIdeal.Gen.frame m ρ, fun m ρ _ => Cert.ReferenceCIdeal.Gen.frame m ρ,
  fun m ρ _ => Cert.KernelA.Hand.frame m ρ, fun m ρ _ => Cert.KernelAIdeal.Hand.frame m ρ, fun m ρ _ => Cert.ReferenceAIdeal.Gen.frame m ρ,
  trivial, Cert.Tie.algebraic_on, Cert.Tie.algebraic_pre, trivial, Cert.TieC.algebraic, trivial, Cert.TieA.algebraic⟩

end Cert.Proof

end
